-- ==== Defs.lean ====
def Pre_DiffAttn (m : (ℓ : Loc Cert.DiffAttn.nD Cert.DiffAttn.τ Cert.DiffAttn.sig) → Buf (Elt Bits) ℓ) : Prop :=
  True

def Pre_DiffAttnIdeal (m : (ℓ : Loc Cert.DiffAttnIdeal.nD Cert.DiffAttnIdeal.τ Cert.DiffAttnIdeal.sig) → Buf (Elt Ideal) ℓ) : Prop :=
  True

def Pre_DiffAttnIdeal_finite [hPre_finite : Cert.Pre_finite.Facts] (m : (ℓ : Loc Cert.DiffAttnIdeal.nD Cert.DiffAttnIdeal.τ Cert.DiffAttnIdeal.sig) → Buf (Elt Ideal) ℓ) : Prop :=
  ∀ c : Dev Cert.DiffAttnIdeal.nD,
    (Cert.Pre_finite.fn (F := Ideal) (m ((c.tc : Thread Cert.DiffAttnIdeal.nD Cert.DiffAttnIdeal.τ).loc Cert.DiffAttnIdeal.main_arg0)) (m ((c.tc : Thread Cert.DiffAttnIdeal.nD Cert.DiffAttnIdeal.τ).loc Cert.DiffAttnIdeal.main_arg1)) (m ((c.tc : Thread Cert.DiffAttnIdeal.nD Cert.DiffAttnIdeal.τ).loc Cert.DiffAttnIdeal.main_arg2)) (m ((c.tc : Thread Cert.DiffAttnIdeal.nD Cert.DiffAttnIdeal.τ).loc Cert.DiffAttnIdeal.main_arg3)) (m ((c.tc : Thread Cert.DiffAttnIdeal.nD Cert.DiffAttnIdeal.τ).loc Cert.DiffAttnIdeal.main_arg4)) (m ((c.tc : Thread Cert.DiffAttnIdeal.nD Cert.DiffAttnIdeal.τ).loc Cert.DiffAttnIdeal.main_arg5)) (m ((c.tc : Thread Cert.DiffAttnIdeal.nD Cert.DiffAttnIdeal.τ).loc Cert.DiffAttnIdeal.main_arg6))) = (fun _ => 1#1)

def Pre_DiffRefIdeal (m : (ℓ : Loc Cert.DiffRefIdeal.nD Cert.DiffRefIdeal.τ Cert.DiffRefIdeal.sig) → Buf (Elt Ideal) ℓ) : Prop :=
  True

def Pre_DiffRefIdeal_finite [hPre_finite : Cert.Pre_finite.Facts] (m : (ℓ : Loc Cert.DiffRefIdeal.nD Cert.DiffRefIdeal.τ Cert.DiffRefIdeal.sig) → Buf (Elt Ideal) ℓ) : Prop :=
  ∀ c : Dev Cert.DiffRefIdeal.nD,
    (Cert.Pre_finite.fn (F := Ideal) (m ((c.tc : Thread Cert.DiffRefIdeal.nD Cert.DiffRefIdeal.τ).loc Cert.DiffRefIdeal.main_arg0)) (m ((c.tc : Thread Cert.DiffRefIdeal.nD Cert.DiffRefIdeal.τ).loc Cert.DiffRefIdeal.main_arg1)) (m ((c.tc : Thread Cert.DiffRefIdeal.nD Cert.DiffRefIdeal.τ).loc Cert.DiffRefIdeal.main_arg2)) (m ((c.tc : Thread Cert.DiffRefIdeal.nD Cert.DiffRefIdeal.τ).loc Cert.DiffRefIdeal.main_arg3)) (m ((c.tc : Thread Cert.DiffRefIdeal.nD Cert.DiffRefIdeal.τ).loc Cert.DiffRefIdeal.main_arg4)) (m ((c.tc : Thread Cert.DiffRefIdeal.nD Cert.DiffRefIdeal.τ).loc Cert.DiffRefIdeal.main_arg5)) (m ((c.tc : Thread Cert.DiffRefIdeal.nD Cert.DiffRefIdeal.τ).loc Cert.DiffRefIdeal.main_arg6))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojRefIdeal (m : (ℓ : Loc Cert.InprojRefIdeal.nD Cert.InprojRefIdeal.τ Cert.InprojRefIdeal.sig) → Buf (Elt Ideal) ℓ) : Prop :=
  True

def quiescent_DiffAttn [hDiffAttn : Cert.DiffAttn.Facts] : Prop :=
  ∀ (m : (ℓ : Loc Cert.DiffAttn.nD Cert.DiffAttn.τ Cert.DiffAttn.sig) → Buf (Elt Bits) ℓ) (g : Dev Cert.DiffAttn.nD → PrngReg), Pre_DiffAttn m →
    θ_run (Cert.DiffAttn.defs (F := Bits)) (onTc (τ := Cert.DiffAttn.τ) (Cert.DiffAttn.main (F := Bits))) ⟨m, fun _ => 0, g⟩ (fun r => (∀ c : Dev Cert.DiffAttn.nD,
      r.2.mem ((c.tc : Thread Cert.DiffAttn.nD Cert.DiffAttn.τ).loc Cert.DiffAttn.main_arg0) = m ((c.tc : Thread Cert.DiffAttn.nD Cert.DiffAttn.τ).loc Cert.DiffAttn.main_arg0)
      ∧ r.2.mem ((c.tc : Thread Cert.DiffAttn.nD Cert.DiffAttn.τ).loc Cert.DiffAttn.main_arg1) = m ((c.tc : Thread Cert.DiffAttn.nD Cert.DiffAttn.τ).loc Cert.DiffAttn.main_arg1)
      ∧ r.2.mem ((c.tc : Thread Cert.DiffAttn.nD Cert.DiffAttn.τ).loc Cert.DiffAttn.main_arg2) = m ((c.tc : Thread Cert.DiffAttn.nD Cert.DiffAttn.τ).loc Cert.DiffAttn.main_arg2)
      ∧ r.2.mem ((c.tc : Thread Cert.DiffAttn.nD Cert.DiffAttn.τ).loc Cert.DiffAttn.main_arg3) = m ((c.tc : Thread Cert.DiffAttn.nD Cert.DiffAttn.τ).loc Cert.DiffAttn.main_arg3)
      ∧ r.2.mem ((c.tc : Thread Cert.DiffAttn.nD Cert.DiffAttn.τ).loc Cert.DiffAttn.main_arg4) = m ((c.tc : Thread Cert.DiffAttn.nD Cert.DiffAttn.τ).loc Cert.DiffAttn.main_arg4)
      ∧ r.2.mem ((c.tc : Thread Cert.DiffAttn.nD Cert.DiffAttn.τ).loc Cert.DiffAttn.main_arg5) = m ((c.tc : Thread Cert.DiffAttn.nD Cert.DiffAttn.τ).loc Cert.DiffAttn.main_arg5)
      ∧ r.2.mem ((c.tc : Thread Cert.DiffAttn.nD Cert.DiffAttn.τ).loc Cert.DiffAttn.main_arg6) = m ((c.tc : Thread Cert.DiffAttn.nD Cert.DiffAttn.τ).loc Cert.DiffAttn.main_arg6))
      ∧ r.2.sem = fun _ => 0)

def quiescent_DiffAttnIdeal [hDiffAttnIdeal : Cert.DiffAttnIdeal.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg), Pre_DiffAttnIdeal m →
    θ_run (Cert.DiffAttnIdeal.defs (F := Ideal)) (onTc (τ := Cert.DiffAttnIdeal.τ) (Cert.DiffAttnIdeal.main (F := Ideal))) ⟨m, fun _ => 0, g⟩ (fun r => (∀ c : Dev Cert.DiffAttnIdeal.nD,
      r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
      ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
      ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
      ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
      ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4)
      ∧ r.2.mem ((c.tc : Thread Cert.DiffAttnIdeal.nD Cert.DiffAttnIdeal.τ).loc Cert.DiffAttnIdeal.main_arg5) = m ((c.tc : Thread Cert.DiffAttnIdeal.nD Cert.DiffAttnIdeal.τ).loc Cert.DiffAttnIdeal.main_arg5)
      ∧ r.2.mem ((c.tc : Thread Cert.DiffAttnIdeal.nD Cert.DiffAttnIdeal.τ).loc Cert.DiffAttnIdeal.main_arg6) = m ((c.tc : Thread Cert.DiffAttnIdeal.nD Cert.DiffAttnIdeal.τ).loc Cert.DiffAttnIdeal.main_arg6))
      ∧ r.2.sem = fun _ => 0)

def quiescent_DiffAttnIdeal_pre_finite [hDiffAttnIdeal : Cert.DiffAttnIdeal.Facts] [hPre_finite : Cert.Pre_finite.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg), Pre_DiffAttnIdeal_finite m →
    θ_run (Cert.DiffAttnIdeal.defs (F := Ideal)) (onTc (τ := Cert.DiffAttnIdeal.τ) (Cert.DiffAttnIdeal.main (F := Ideal))) ⟨m, fun _ => 0, g⟩ (fun r => (∀ c : Dev Cert.DiffAttnIdeal.nD,
      r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
      ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
      ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
      ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
      ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4)
      ∧ r.2.mem ((c.tc : Thread Cert.DiffAttnIdeal.nD Cert.DiffAttnIdeal.τ).loc Cert.DiffAttnIdeal.main_arg5) = m ((c.tc : Thread Cert.DiffAttnIdeal.nD Cert.DiffAttnIdeal.τ).loc Cert.DiffAttnIdeal.main_arg5)
      ∧ r.2.mem ((c.tc : Thread Cert.DiffAttnIdeal.nD Cert.DiffAttnIdeal.τ).loc Cert.DiffAttnIdeal.main_arg6) = m ((c.tc : Thread Cert.DiffAttnIdeal.nD Cert.DiffAttnIdeal.τ).loc Cert.DiffAttnIdeal.main_arg6))
      ∧ r.2.sem = fun _ => 0)

def quiescent_DiffRefIdeal [hDiffRefIdeal : Cert.DiffRefIdeal.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6))
      ∧ r.2.sem = fun _ => 0)

def quiescent_DiffRefIdeal_pre_finite [hDiffRefIdeal : Cert.DiffRefIdeal.Facts] [hPre_finite : Cert.Pre_finite.Facts] : Prop :=
  ∀ (m : (ℓ : Loc Cert.DiffRefIdeal.nD Cert.DiffRefIdeal.τ Cert.DiffRefIdeal.sig) → Buf (Elt Ideal) ℓ) (g : Dev Cert.DiffRefIdeal.nD → PrngReg), Pre_DiffRefIdeal_finite m →
    θ_run (Cert.DiffRefIdeal.defs (F := Ideal)) (onTc (τ := Cert.DiffRefIdeal.τ) (Cert.DiffRefIdeal.main (F := Ideal))) ⟨m, fun _ => 0, g⟩ (fun r => (∀ c : Dev Cert.DiffRefIdeal.nD,
      r.2.mem ((c.tc : Thread Cert.DiffRefIdeal.nD Cert.DiffRefIdeal.τ).loc Cert.DiffRefIdeal.main_arg0) = m ((c.tc : Thread Cert.DiffRefIdeal.nD Cert.DiffRefIdeal.τ).loc Cert.DiffRefIdeal.main_arg0)
      ∧ r.2.mem ((c.tc : Thread Cert.DiffRefIdeal.nD Cert.DiffRefIdeal.τ).loc Cert.DiffRefIdeal.main_arg1) = m ((c.tc : Thread Cert.DiffRefIdeal.nD Cert.DiffRefIdeal.τ).loc Cert.DiffRefIdeal.main_arg1)
      ∧ r.2.mem ((c.tc : Thread Cert.DiffRefIdeal.nD Cert.DiffRefIdeal.τ).loc Cert.DiffRefIdeal.main_arg2) = m ((c.tc : Thread Cert.DiffRefIdeal.nD Cert.DiffRefIdeal.τ).loc Cert.DiffRefIdeal.main_arg2)
      ∧ r.2.mem ((c.tc : Thread Cert.DiffRefIdeal.nD Cert.DiffRefIdeal.τ).loc Cert.DiffRefIdeal.main_arg3) = m ((c.tc : Thread Cert.DiffRefIdeal.nD Cert.DiffRefIdeal.τ).loc Cert.DiffRefIdeal.main_arg3)
      ∧ r.2.mem ((c.tc : Thread Cert.DiffRefIdeal.nD Cert.DiffRefIdeal.τ).loc Cert.DiffRefIdeal.main_arg4) = m ((c.tc : Thread Cert.DiffRefIdeal.nD Cert.DiffRefIdeal.τ).loc Cert.DiffRefIdeal.main_arg4)
      ∧ r.2.mem ((c.tc : Thread Cert.DiffRefIdeal.nD Cert.DiffRefIdeal.τ).loc Cert.DiffRefIdeal.main_arg5) = m ((c.tc : Thread Cert.DiffRefIdeal.nD Cert.DiffRefIdeal.τ).loc Cert.DiffRefIdeal.main_arg5)
      ∧ r.2.mem ((c.tc : Thread Cert.DiffRefIdeal.nD Cert.DiffRefIdeal.τ).loc Cert.DiffRefIdeal.main_arg6) = m ((c.tc : Thread Cert.DiffRefIdeal.nD Cert.DiffRefIdeal.τ).loc Cert.DiffRefIdeal.main_arg6))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2))
      ∧ r.2.sem = fun _ => 0)

def preserves_DiffAttn_DiffAttnIdeal : Prop :=
  IdealRules.named_const.Statement Cert.DiffAttnIdeal.κ "mask" .f32 0xF149F2CA#32 ⊥

def algebraic_DiffAttnIdeal_DiffRefIdeal_pre_finite [hDiffAttnIdeal : Cert.DiffAttnIdeal.Facts] [hDiffRefIdeal : Cert.DiffRefIdeal.Facts] [hPre_finite : Cert.Pre_finite.Facts] : Prop :=
  ∀ (m : (ℓ : Loc Cert.DiffAttnIdeal.nD Cert.DiffAttnIdeal.τ Cert.DiffAttnIdeal.sig) → Buf (Elt Ideal) ℓ) (g : Dev Cert.DiffAttnIdeal.nD → PrngReg)
    (m' : (ℓ : Loc Cert.DiffRefIdeal.nD Cert.DiffRefIdeal.τ Cert.DiffRefIdeal.sig) → Buf (Elt Ideal) ℓ) (g' : Dev Cert.DiffRefIdeal.nD → PrngReg), Pre_DiffAttnIdeal_finite m →
    (∀ c : Dev Cert.DiffAttnIdeal.nD,
      m' ((c.tc : Thread Cert.DiffRefIdeal.nD Cert.DiffRefIdeal.τ).loc Cert.DiffRefIdeal.main_arg0) = m ((c.tc : Thread Cert.DiffAttnIdeal.nD Cert.DiffAttnIdeal.τ).loc Cert.DiffAttnIdeal.main_arg0)
      ∧ m' ((c.tc : Thread Cert.DiffRefIdeal.nD Cert.DiffRefIdeal.τ).loc Cert.DiffRefIdeal.main_arg1) = m ((c.tc : Thread Cert.DiffAttnIdeal.nD Cert.DiffAttnIdeal.τ).loc Cert.DiffAttnIdeal.main_arg1)
      ∧ m' ((c.tc : Thread Cert.DiffRefIdeal.nD Cert.DiffRefIdeal.τ).loc Cert.DiffRefIdeal.main_arg2) = m ((c.tc : Thread Cert.DiffAttnIdeal.nD Cert.DiffAttnIdeal.τ).loc Cert.DiffAttnIdeal.main_arg2)
      ∧ m' ((c.tc : Thread Cert.DiffRefIdeal.nD Cert.DiffRefIdeal.τ).loc Cert.DiffRefIdeal.main_arg3) = m ((c.tc : Thread Cert.DiffAttnIdeal.nD Cert.DiffAttnIdeal.τ).loc Cert.DiffAttnIdeal.main_arg3)
      ∧ m' ((c.tc : Thread Cert.DiffRefIdeal.nD Cert.DiffRefIdeal.τ).loc Cert.DiffRefIdeal.main_arg4) = m ((c.tc : Thread Cert.DiffAttnIdeal.nD Cert.DiffAttnIdeal.τ).loc Cert.DiffAttnIdeal.main_arg4)
      ∧ m' ((c.tc : Thread Cert.DiffRefIdeal.nD Cert.DiffRefIdeal.τ).loc Cert.DiffRefIdeal.main_arg5) = m ((c.tc : Thread Cert.DiffAttnIdeal.nD Cert.DiffAttnIdeal.τ).loc Cert.DiffAttnIdeal.main_arg5)
      ∧ m' ((c.tc : Thread Cert.DiffRefIdeal.nD Cert.DiffRefIdeal.τ).loc Cert.DiffRefIdeal.main_arg6) = m ((c.tc : Thread Cert.DiffAttnIdeal.nD Cert.DiffAttnIdeal.τ).loc Cert.DiffAttnIdeal.main_arg6)) →
    ∃ (v0 : (c : Dev Cert.DiffAttnIdeal.nD) → Buf (Elt Ideal) ((c.tc : Thread Cert.DiffAttnIdeal.nD Cert.DiffAttnIdeal.τ).loc Cert.DiffAttnIdeal.main_v1)),
      θ_run (Cert.DiffAttnIdeal.defs (F := Ideal)) (onTc (τ := Cert.DiffAttnIdeal.τ) (Cert.DiffAttnIdeal.main (F := Ideal))) ⟨m, fun _ => 0, g⟩ (fun r => ∀ c : Dev Cert.DiffAttnIdeal.nD,
          r.2.mem ((c.tc : Thread Cert.DiffAttnIdeal.nD Cert.DiffAttnIdeal.τ).loc Cert.DiffAttnIdeal.main_v1) = v0 c
          ∧ r.2.mem ((c.tc : Thread Cert.DiffAttnIdeal.nD Cert.DiffAttnIdeal.τ).loc Cert.DiffAttnIdeal.main_arg0) = m ((c.tc : Thread Cert.DiffAttnIdeal.nD Cert.DiffAttnIdeal.τ).loc Cert.DiffAttnIdeal.main_arg0)
          ∧ r.2.mem ((c.tc : Thread Cert.DiffAttnIdeal.nD Cert.DiffAttnIdeal.τ).loc Cert.DiffAttnIdeal.main_arg1) = m ((c.tc : Thread Cert.DiffAttnIdeal.nD Cert.DiffAttnIdeal.τ).loc Cert.DiffAttnIdeal.main_arg1)
          ∧ r.2.mem ((c.tc : Thread Cert.DiffAttnIdeal.nD Cert.DiffAttnIdeal.τ).loc Cert.DiffAttnIdeal.main_arg2) = m ((c.tc : Thread Cert.DiffAttnIdeal.nD Cert.DiffAttnIdeal.τ).loc Cert.DiffAttnIdeal.main_arg2)
          ∧ r.2.mem ((c.tc : Thread Cert.DiffAttnIdeal.nD Cert.DiffAttnIdeal.τ).loc Cert.DiffAttnIdeal.main_arg3) = m ((c.tc : Thread Cert.DiffAttnIdeal.nD Cert.DiffAttnIdeal.τ).loc Cert.DiffAttnIdeal.main_arg3)
          ∧ r.2.mem ((c.tc : Thread Cert.DiffAttnIdeal.nD Cert.DiffAttnIdeal.τ).loc Cert.DiffAttnIdeal.main_arg4) = m ((c.tc : Thread Cert.DiffAttnIdeal.nD Cert.DiffAttnIdeal.τ).loc Cert.DiffAttnIdeal.main_arg4)
          ∧ r.2.mem ((c.tc : Thread Cert.DiffAttnIdeal.nD Cert.DiffAttnIdeal.τ).loc Cert.DiffAttnIdeal.main_arg5) = m ((c.tc : Thread Cert.DiffAttnIdeal.nD Cert.DiffAttnIdeal.τ).loc Cert.DiffAttnIdeal.main_arg5)
          ∧ r.2.mem ((c.tc : Thread Cert.DiffAttnIdeal.nD Cert.DiffAttnIdeal.τ).loc Cert.DiffAttnIdeal.main_arg6) = m ((c.tc : Thread Cert.DiffAttnIdeal.nD Cert.DiffAttnIdeal.τ).loc Cert.DiffAttnIdeal.main_arg6))
      ∧ θ_run (Cert.DiffRefIdeal.defs (F := Ideal)) (onTc (τ := Cert.DiffRefIdeal.τ) (Cert.DiffRefIdeal.main (F := Ideal))) ⟨m', fun _ => 0, g'⟩ (fun r => ∀ c : Dev Cert.DiffRefIdeal.nD,
          r.2.mem ((c.tc : Thread Cert.DiffRefIdeal.nD Cert.DiffRefIdeal.τ).loc Cert.DiffRefIdeal.main_v67) = v0 c
          ∧ r.2.mem ((c.tc : Thread Cert.DiffRefIdeal.nD Cert.DiffRefIdeal.τ).loc Cert.DiffRefIdeal.main_arg0) = m' ((c.tc : Thread Cert.DiffRefIdeal.nD Cert.DiffRefIdeal.τ).loc Cert.DiffRefIdeal.main_arg0)
          ∧ r.2.mem ((c.tc : Thread Cert.DiffRefIdeal.nD Cert.DiffRefIdeal.τ).loc Cert.DiffRefIdeal.main_arg1) = m' ((c.tc : Thread Cert.DiffRefIdeal.nD Cert.DiffRefIdeal.τ).loc Cert.DiffRefIdeal.main_arg1)
          ∧ r.2.mem ((c.tc : Thread Cert.DiffRefIdeal.nD Cert.DiffRefIdeal.τ).loc Cert.DiffRefIdeal.main_arg2) = m' ((c.tc : Thread Cert.DiffRefIdeal.nD Cert.DiffRefIdeal.τ).loc Cert.DiffRefIdeal.main_arg2)
          ∧ r.2.mem ((c.tc : Thread Cert.DiffRefIdeal.nD Cert.DiffRefIdeal.τ).loc Cert.DiffRefIdeal.main_arg3) = m' ((c.tc : Thread Cert.DiffRefIdeal.nD Cert.DiffRefIdeal.τ).loc Cert.DiffRefIdeal.main_arg3)
          ∧ r.2.mem ((c.tc : Thread Cert.DiffRefIdeal.nD Cert.DiffRefIdeal.τ).loc Cert.DiffRefIdeal.main_arg4) = m' ((c.tc : Thread Cert.DiffRefIdeal.nD Cert.DiffRefIdeal.τ).loc Cert.DiffRefIdeal.main_arg4)
          ∧ r.2.mem ((c.tc : Thread Cert.DiffRefIdeal.nD Cert.DiffRefIdeal.τ).loc Cert.DiffRefIdeal.main_arg5) = m' ((c.tc : Thread Cert.DiffRefIdeal.nD Cert.DiffRefIdeal.τ).loc Cert.DiffRefIdeal.main_arg5)
          ∧ r.2.mem ((c.tc : Thread Cert.DiffRefIdeal.nD Cert.DiffRefIdeal.τ).loc Cert.DiffRefIdeal.main_arg6) = m' ((c.tc : Thread Cert.DiffRefIdeal.nD Cert.DiffRefIdeal.τ).loc Cert.DiffRefIdeal.main_arg6))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v47) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v35) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Inproj_InprojIdeal : Prop :=
  True

def algebraic_InprojIdeal_InprojRefIdeal [hInprojIdeal : Cert.InprojIdeal.Facts] [hInprojRefIdeal : Cert.InprojRefIdeal.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)) →
    ∃ (v0 : (c : Dev Cert.InprojIdeal.nD) → Buf (Elt Ideal) ((c.tc : Thread Cert.InprojIdeal.nD Cert.InprojIdeal.τ).loc Cert.InprojIdeal.main_v19_0)) (v1 : (c : Dev Cert.InprojIdeal.nD) → Buf (Elt Ideal) ((c.tc : Thread Cert.InprojIdeal.nD Cert.InprojIdeal.τ).loc Cert.InprojIdeal.main_v19_1)) (v2 : (c : Dev Cert.InprojIdeal.nD) → Buf (Elt Ideal) ((c.tc : Thread Cert.InprojIdeal.nD Cert.InprojIdeal.τ).loc Cert.InprojIdeal.main_v19_2)) (v3 : (c : Dev Cert.InprojIdeal.nD) → Buf (Elt Ideal) ((c.tc : Thread Cert.InprojIdeal.nD Cert.InprojIdeal.τ).loc Cert.InprojIdeal.main_v19_3)) (v4 : (c : Dev Cert.InprojIdeal.nD) → Buf (Elt Ideal) ((c.tc : Thread Cert.InprojIdeal.nD Cert.InprojIdeal.τ).loc Cert.InprojIdeal.main_v19_4)) (v5 : (c : Dev Cert.InprojIdeal.nD) → Buf (Elt Ideal) ((c.tc : Thread Cert.InprojIdeal.nD Cert.InprojIdeal.τ).loc Cert.InprojIdeal.main_v19_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v19_0) = v0 c
          ∧ r.2.mem ((c.tc : Thread Cert.InprojIdeal.nD Cert.InprojIdeal.τ).loc Cert.InprojIdeal.main_v19_1) = v1 c
          ∧ r.2.mem ((c.tc : Thread Cert.InprojIdeal.nD Cert.InprojIdeal.τ).loc Cert.InprojIdeal.main_v19_2) = v2 c
          ∧ r.2.mem ((c.tc : Thread Cert.InprojIdeal.nD Cert.InprojIdeal.τ).loc Cert.InprojIdeal.main_v19_3) = v3 c
          ∧ r.2.mem ((c.tc : Thread Cert.InprojIdeal.nD Cert.InprojIdeal.τ).loc Cert.InprojIdeal.main_v19_4) = v4 c
          ∧ r.2.mem ((c.tc : Thread Cert.InprojIdeal.nD Cert.InprojIdeal.τ).loc Cert.InprojIdeal.main_v19_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v76) = v0 c
          ∧ r.2.mem ((c.tc : Thread Cert.InprojRefIdeal.nD Cert.InprojRefIdeal.τ).loc Cert.InprojRefIdeal.main_v28) = v1 c
          ∧ r.2.mem ((c.tc : Thread Cert.InprojRefIdeal.nD Cert.InprojRefIdeal.τ).loc Cert.InprojRefIdeal.main_v29) = v2 c
          ∧ r.2.mem ((c.tc : Thread Cert.InprojRefIdeal.nD Cert.InprojRefIdeal.τ).loc Cert.InprojRefIdeal.main_v70) = v3 c
          ∧ r.2.mem ((c.tc : Thread Cert.InprojRefIdeal.nD Cert.InprojRefIdeal.τ).loc Cert.InprojRefIdeal.main_v32) = v4 c
          ∧ r.2.mem ((c.tc : Thread Cert.InprojRefIdeal.nD Cert.InprojRefIdeal.τ).loc Cert.InprojRefIdeal.main_v78) = v5 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2))

def Claim : Prop :=
  ∃ (hDiffAttn : Cert.DiffAttn.Facts) (hDiffAttnIdeal : Cert.DiffAttnIdeal.Facts) (hDiffRefIdeal : Cert.DiffRefIdeal.Facts) (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hInproj : Cert.Inproj.Facts) (hInprojIdeal : Cert.InprojIdeal.Facts) (hInprojRefIdeal : Cert.InprojRefIdeal.Facts) (hPre_finite : Cert.Pre_finite.Facts),
    quiescent_DiffAttn (hDiffAttn := hDiffAttn)
    ∧ quiescent_DiffAttnIdeal (hDiffAttnIdeal := hDiffAttnIdeal)
    ∧ quiescent_DiffAttnIdeal_pre_finite (hDiffAttnIdeal := hDiffAttnIdeal) (hPre_finite := hPre_finite)
    ∧ quiescent_DiffRefIdeal (hDiffRefIdeal := hDiffRefIdeal)
    ∧ quiescent_DiffRefIdeal_pre_finite (hDiffRefIdeal := hDiffRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Inproj (hInproj := hInproj)
    ∧ quiescent_InprojIdeal (hInprojIdeal := hInprojIdeal)
    ∧ quiescent_InprojRefIdeal (hInprojRefIdeal := hInprojRefIdeal)
    ∧ preserves_DiffAttn_DiffAttnIdeal
    ∧ algebraic_DiffAttnIdeal_DiffRefIdeal_pre_finite (hDiffAttnIdeal := hDiffAttnIdeal) (hDiffRefIdeal := hDiffRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Inproj_InprojIdeal
    ∧ algebraic_InprojIdeal_InprojRefIdeal (hInprojIdeal := hInprojIdeal) (hInprojRefIdeal := hInprojRefIdeal)
-- ==== Pre_finite.lean ====
abbrev S2x8192x3072 : Shape := ⟨3, ![2, 8192, 3072]⟩
abbrev S2x512x8192 : Shape := ⟨3, ![2, 512, 8192]⟩
abbrev S1x64 : Shape := ⟨2, ![1, 64]⟩
abbrev S1x128 : Shape := ⟨2, ![1, 128]⟩
abbrev S_ : Shape := ⟨0, ![]⟩

class Facts : Prop where
  bcast_S_S2x8192x3072 : S_.BroadcastsInDim S2x8192x3072 (![] : Fin 0 → Fin S2x8192x3072.rank)
  reducesTo_S2x8192x3072_S_d0_1_2 : S2x8192x3072.ReducesTo [0, 1, 2] S_
  h_S_ : 0 < S_.numel
  bcast_S_S2x512x8192 : S_.BroadcastsInDim S2x512x8192 (![] : Fin 0 → Fin S2x512x8192.rank)
  reducesTo_S2x512x8192_S_d0_1_2 : S2x512x8192.ReducesTo [0, 1, 2] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg4 : FVec F S1x64 .f32) (main_arg5 : FVec F S1x64 .f32) (main_v13 : IVec S_ 1) (main_v16 : IVec S1x64 1) : IVec S_ 1 :=
  let main_c_5 : IVec S_ 1 := constantI S_ 1 1#1
  let main_v17 : IVec S_ 1 := (fun x v => Host.reduce IntOp.andi x v reducesTo_S1x64_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  main_v28

def fn {F : FTy → Type} [FloatOps F] (main_arg0 : FVec F S2x8192x3072 .bf16) (main_arg1 : FVec F S2x512x8192 .bf16) (main_arg2 : FVec F S1x64 .f32) (main_arg3 : FVec F S1x64 .f32) (main_arg4 : FVec F S1x64 .f32) (main_arg5 : FVec F S1x64 .f32) (main_arg6 : FVec F S1x128 .f32) : IVec S_ 1 :=
  let main_v0 : FVec F S2x8192x3072 .bf16 := Host.absf main_arg0
  let main_cst : FVec F S_ .bf16 := constant S_ .bf16 0x7F80#16
  let main_v1 : FVec F S2x8192x3072 .bf16 := broadcastInDim S2x8192x3072 ![] bcast_S_S2x8192x3072 main_cst
  let main_v2 : IVec S2x8192x3072 1 := cmpf .olt main_v0 main_v1
  let main_c : IVec S_ 1 := constantI S_ 1 1#1
  let main_v3 : IVec S_ 1 := (fun x v => Host.reduce IntOp.andi x v reducesTo_S2x8192x3072_S_d0_1_2 h_S_) main_v2 main_c
  let main_v4 : FVec F S2x512x8192 .bf16 := Host.absf main_arg1
  let main_cst_0 : FVec F S_ .bf16 := constant S_ .bf16 0x7F80#16
  let main_v5 : FVec F S2x512x8192 .bf16 := broadcastInDim S2x512x8192 ![] bcast_S_S2x512x8192 main_cst_0
  let main_v6 : IVec S2x512x8192 1 := cmpf .olt main_v4 main_v5
  let main_c_1 : IVec S_ 1 := constantI S_ 1 1#1
  let main_v7 : IVec S_ 1 := (fun x v => Host.reduce IntOp.andi x v reducesTo_S2x512x8192_S_d0_1_2 h_S_) main_v6 main_c_1
  let main_v8 : IVec S_ 1 := andi main_v3 main_v7
  let main_v9 : FVec F S1x64 .f32 := Host.absf main_arg2
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_c_3 : IVec S_ 1 := constantI S_ 1 1#1
  let main_v12 : IVec S_ 1 := (fun x v => Host.reduce IntOp.andi x v reducesTo_S1x64_S_d0_1 h_S_) main_v11 main_c_3
  let main_v13 : IVec S_ 1 := andi main_v8 main_v12
  let main_v14 : FVec F S1x64 .f32 := Host.absf main_arg3
  let main_cst_4 : FVec F S_ .f32 := constant S_ .f32 0x7F800000#32
  let main_v15 : FVec F S1x64 .f32 := broadcastInDim S1x64 ![] bcast_S_S1x64 main_cst_4
  let main_v16 : IVec S1x64 1 := cmpf .olt main_v14 main_v15
  fn_part1 (F := F) main_arg4 main_arg5 main_v13 main_v16
-- ==== DiffAttn.lean ====
abbrev S2x8192x3072 : Shape := ⟨3, ![2, 8192, 3072]⟩
abbrev S2x512x8192 : Shape := ⟨3, ![2, 512, 8192]⟩
abbrev S1x64 : Shape := ⟨2, ![1, 64]⟩
abbrev S1x128 : Shape := ⟨2, ![1, 128]⟩
abbrev S528 : Shape := ⟨1, ![528]⟩
abbrev S128x1 : Shape := ⟨2, ![128, 1]⟩
abbrev S2x8192x512 : Shape := ⟨3, ![2, 8192, 512]⟩
abbrev S1x256x512 : Shape := ⟨3, ![1, 256, 512]⟩
abbrev S1 : Shape := ⟨1, ![1]⟩
abbrev S1x512x256 : Shape := ⟨3, ![1, 512, 256]⟩
abbrev S8x128x256 : Shape := ⟨3, ![8, 128, 256]⟩
abbrev S8x1x256 : Shape := ⟨3, ![8, 1, 256]⟩
abbrev S256x512 : Shape := ⟨2, ![256, 512]⟩
abbrev S512x256 : Shape := ⟨2, ![512, 256]⟩
abbrev S256x256 : Shape := ⟨2, ![256, 256]⟩
abbrev S256x64 : Shape := ⟨2, ![256, 64]⟩
abbrev S1x1x256 : Shape := ⟨3, ![1, 1, 256]⟩
abbrev S1x256 : Shape := ⟨2, ![1, 256]⟩
abbrev S256 : Shape := ⟨1, ![256]⟩
abbrev S128x256 : Shape := ⟨2, ![128, 256]⟩
abbrev S1x128x256 : Shape := ⟨3, ![1, 128, 256]⟩
abbrev S1x1 : Shape := ⟨2, ![1, 1]⟩
abbrev S256x128 : Shape := ⟨2, ![256, 128]⟩
abbrev S1x256x128 : Shape := ⟨3, ![1, 256, 128]⟩

abbrev nBuf : Space → Nat
  | .hbm => 9
  | .vmem => 16
  | .smem => 2
  | _ => 0

abbrev bufTy : (tb : Table) → Fin (tcTables nBuf tb) → BufTy
  | .hbm, ⟨0, _⟩ => ⟨S2x8192x3072, .bf16⟩
  | .hbm, ⟨1, _⟩ => ⟨S2x512x8192, .bf16⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S128x1, .f32⟩
  | .hbm, ⟨8, _⟩ => ⟨S2x8192x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x512x256, .bf16⟩
  | .local _ .vmem, ⟨5, _⟩ => ⟨S1x512x256, .bf16⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S128x1, .f32⟩
  | .local _ .vmem, ⟨11, _⟩ => ⟨S1x256x512, .bf16⟩
  | .local _ .vmem, ⟨12, _⟩ => ⟨S1x256x512, .bf16⟩
  | .local _ .vmem, ⟨13, _⟩ => ⟨S8x128x256, .f32⟩
  | .local _ .vmem, ⟨14, _⟩ => ⟨S8x1x256, .f32⟩
  | .local _ .vmem, ⟨15, _⟩ => ⟨S8x1x256, .f32⟩
  | .local _ .smem, ⟨0, _⟩ => ⟨S528, .i32⟩
  | .local _ .smem, ⟨1, _⟩ => ⟨S528, .i32⟩
  | _, _ => ⟨S2x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 1, 528], ![false, false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg2 : BitVec 32 := BitVec.ofNat 32 (i 2).val
  let v0 : Index := Scalar.indexCast arg2
  ![v0.toNat]
def k0_cond4 (v1 : BitVec 32) (v3 : BitVec 32) : BitVec 1 :=
  let v13 : BitVec 1 := Scalar.cmpi .eq v3 v1
  let v14 : BitVec 32 := Scalar.extui v13
  let c0_i32_3 : BitVec 32 := 0#32
  let v15 : BitVec 1 := Scalar.cmpi .ne v14 c0_i32_3
  v15

def cc0_transform_0 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S528) ![v0.toNat] S1.size (k0_off1_inb i)) numel1_S1
  let c3_i32 : BitVec 32 := 3#32
  let v2 : BitVec 32 := Scalar.addi c3_i32 arg1
  let c0_i32 : BitVec 32 := 0#32
  ![arg0.toNat, v1.toNat, v2.toNat]

def cc0_transform_1 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S528) ![v0.toNat] S1.size (k0_off1_inb i)) numel1_S1
  let c4_i32 : BitVec 32 := 4#32
  let v2 : BitVec 32 := Scalar.addi c4_i32 arg1
  let c0_i32 : BitVec 32 := 0#32
  ![arg0.toNat, v1.toNat, v2.toNat]

def cc0_transform_2 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 1 (Rect.unit (s := S528) ![v0.toNat] S1.size (k0_off1_inb i)) numel1_S1
  let c0_i32 : BitVec 32 := 0#32
  ![arg0.toNat, arg1.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (k0_off1_inb : ∀ i : grid0.Coords, ∀ a, (k0_off1 i) a + S1.size a ≤ S528.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : Index := Scalar.indexCast arg2
  let v1 : BitVec 32 := pf.at 0 (Rect.unit (s := S528) ![v0.toNat] S1.size (k0_off1_inb i)) numel1_S1
  let c0_i32 : BitVec 32 := 0#32
  ![arg0.toNat, v1.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== DiffAttnIdeal.lean ====
variable {F : FTy → Type} [FloatOps F] [Named F]
def κ : String → Option EReal := fun
  | "mask" => some ⊥
  | _ => none
-- ==== DiffRefIdeal.lean ====
abbrev S2x8192x3072 : Shape := ⟨3, ![2, 8192, 3072]⟩
abbrev S2x512x8192 : Shape := ⟨3, ![2, 512, 8192]⟩
abbrev S1x64 : Shape := ⟨2, ![1, 64]⟩
abbrev S1x128 : Shape := ⟨2, ![1, 128]⟩
abbrev S2x8192x512 : Shape := ⟨3, ![2, 8192, 512]⟩
abbrev S2x8192x8x64 : Shape := ⟨4, ![2, 8192, 8, 64]⟩
abbrev S2x8192x4x128 : Shape := ⟨4, ![2, 8192, 4, 128]⟩
abbrev S8192 : Shape := ⟨1, ![8192]⟩
abbrev S64 : Shape := ⟨1, ![64]⟩
abbrev S_ : Shape := ⟨0, ![]⟩
abbrev S2x8x8192x8192 : Shape := ⟨4, ![2, 8, 8192, 8192]⟩
abbrev S1x8192 : Shape := ⟨2, ![1, 8192]⟩
abbrev S8192x1 : Shape := ⟨2, ![8192, 1]⟩
abbrev S8192x8192 : Shape := ⟨2, ![8192, 8192]⟩
abbrev S2x8x8192 : Shape := ⟨3, ![2, 8, 8192]⟩
abbrev S2x8x8192x1 : Shape := ⟨4, ![2, 8, 8192, 1]⟩
abbrev S2x4x2x8192x8192 : Shape := ⟨5, ![2, 4, 2, 8192, 8192]⟩
abbrev S2x4x1x8192x8192 : Shape := ⟨5, ![2, 4, 1, 8192, 8192]⟩
abbrev S2x4x8192x8192 : Shape := ⟨4, ![2, 4, 8192, 8192]⟩
abbrev S2x4x128x8192 : Shape := ⟨4, ![2, 4, 128, 8192]⟩
abbrev S2x8192x4 : Shape := ⟨3, ![2, 8192, 4]⟩
abbrev S2x8192x4x1 : Shape := ⟨4, ![2, 8192, 4, 1]⟩
abbrev S128 : Shape := ⟨1, ![128]⟩
abbrev S1x1x1x128 : Shape := ⟨4, ![1, 1, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S2x8192x3072, .bf16⟩
  | .hbm, ⟨1, _⟩ => ⟨S2x512x8192, .bf16⟩
  | .hbm, ⟨2, _⟩ => ⟨S1x64, .f32⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x128, .f32⟩
  | .hbm, ⟨7, _⟩ => ⟨S2x8192x512, .bf16⟩
  | .hbm, ⟨8, _⟩ => ⟨S2x8192x512, .f32⟩
  | .hbm, ⟨9, _⟩ => ⟨S2x8192x8x64, .f32⟩
  | .hbm, ⟨10, _⟩ => ⟨S2x8192x512, .bf16⟩
  | .hbm, ⟨11, _⟩ => ⟨S2x8192x512, .f32⟩
  | .hbm, ⟨12, _⟩ => ⟨S2x8192x8x64, .f32⟩
  | .hbm, ⟨13, _⟩ => ⟨S2x512x8192, .f32⟩
  | .hbm, ⟨14, _⟩ => ⟨S2x8192x512, .f32⟩
  | .hbm, ⟨15, _⟩ => ⟨S2x8192x4x128, .f32⟩
  | .hbm, ⟨16, _⟩ => ⟨S8192, .i32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S64, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S2x8x8192x8192, .f32⟩
  | .hbm, ⟨33, _⟩ => ⟨S1x8192, .i32⟩
  | .hbm, ⟨34, _⟩ => ⟨S8192x1, .i32⟩
  | .hbm, ⟨35, _⟩ => ⟨S8192x8192, .i32⟩
  | .hbm, ⟨36, _⟩ => ⟨S8192x8192, .i32⟩
  | .hbm, ⟨37, _⟩ => ⟨S8192x8192, .i1⟩
  | .hbm, ⟨38, _⟩ => ⟨S_, .f32⟩
  | .hbm, ⟨39, _⟩ => ⟨S_, .f32⟩
  | .hbm, ⟨40, _⟩ => ⟨S2x8x8192x8192, .i1⟩
  | .hbm, ⟨41, _⟩ => ⟨S2x8x8192x8192, .f32⟩
  | .hbm, ⟨42, _⟩ => ⟨S2x8x8192x8192, .f32⟩
  | .hbm, ⟨43, _⟩ => ⟨S_, .f32⟩
  | .hbm, ⟨44, _⟩ => ⟨S2x8x8192, .f32⟩
  | .hbm, ⟨45, _⟩ => ⟨S_, .f32⟩
  | .hbm, ⟨46, _⟩ => ⟨S2x8x8192, .f32⟩
  | .hbm, ⟨47, _⟩ => ⟨S2x8x8192, .f32⟩
  | .hbm, ⟨48, _⟩ => ⟨S2x8x8192x1, .f32⟩
  | .hbm, ⟨49, _⟩ => ⟨S2x8x8192x8192, .f32⟩
  | .hbm, ⟨50, _⟩ => ⟨S2x8x8192x8192, .f32⟩
  | .hbm, ⟨51, _⟩ => ⟨S2x8x8192x8192, .f32⟩
  | .hbm, ⟨52, _⟩ => ⟨S_, .f32⟩
  | .hbm, ⟨53, _⟩ => ⟨S2x8x8192, .f32⟩
  | .hbm, ⟨54, _⟩ => ⟨S2x8x8192x1, .f32⟩
  | .hbm, ⟨55, _⟩ => ⟨S2x8x8192x8192, .f32⟩
  | .hbm, ⟨56, _⟩ => ⟨S2x8x8192x8192, .f32⟩
  | .hbm, ⟨57, _⟩ => ⟨S2x4x2x8192x8192, .f32⟩
  | .hbm, ⟨58, _⟩ => ⟨S2x4x1x8192x8192, .f32⟩
  | .hbm, ⟨59, _⟩ => ⟨S2x4x8192x8192, .f32⟩
  | .hbm, ⟨60, _⟩ => ⟨S2x4x1x8192x8192, .f32⟩
  | .hbm, ⟨61, _⟩ => ⟨S2x4x8192x8192, .f32⟩
  | .hbm, ⟨62, _⟩ => ⟨S2x4x8192x8192, .f32⟩
  | .hbm, ⟨63, _⟩ => ⟨S2x4x8192x8192, .f32⟩
  | .hbm, ⟨64, _⟩ => ⟨S2x4x8192x8192, .f32⟩
  | .hbm, ⟨65, _⟩ => ⟨S2x4x128x8192, .f32⟩
  | .hbm, ⟨66, _⟩ => ⟨S2x8192x4x128, .f32⟩
  | .hbm, ⟨67, _⟩ => ⟨S2x8192x4x128, .f32⟩
  | .hbm, ⟨68, _⟩ => ⟨S_, .f32⟩
  | .hbm, ⟨69, _⟩ => ⟨S2x8192x4, .f32⟩
  | .hbm, ⟨70, _⟩ => ⟨S2x8192x4x1, .f32⟩
  | .hbm, ⟨71, _⟩ => ⟨S_, .f32⟩
  | .hbm, ⟨72, _⟩ => ⟨S2x8192x4x1, .f32⟩
  | .hbm, ⟨73, _⟩ => ⟨S2x8192x4x1, .f32⟩
  | .hbm, ⟨74, _⟩ => ⟨S_, .f32⟩
  | .hbm, ⟨75, _⟩ => ⟨S2x8192x4x1, .f32⟩
  | .hbm, ⟨76, _⟩ => ⟨S2x8192x4x1, .f32⟩
  | .hbm, ⟨77, _⟩ => ⟨S2x8192x4x1, .f32⟩
  | .hbm, ⟨78, _⟩ => ⟨S2x8192x4x128, .f32⟩
  | .hbm, ⟨79, _⟩ => ⟨S2x8192x4x128, .f32⟩
  | .hbm, ⟨80, _⟩ => ⟨S128, .f32⟩
  | .hbm, ⟨81, _⟩ => ⟨S1x1x1x128, .f32⟩
  | .hbm, ⟨82, _⟩ => ⟨S2x8192x4x128, .f32⟩
  | .hbm, ⟨83, _⟩ => ⟨S2x8192x4x128, .f32⟩
  | .hbm, ⟨84, _⟩ => ⟨S_, .f32⟩
  | .hbm, ⟨85, _⟩ => ⟨S2x8192x4x128, .f32⟩
  | .hbm, ⟨86, _⟩ => ⟨S2x8192x4x128, .f32⟩
  | .hbm, ⟨87, _⟩ => ⟨S2x8192x512, .f32⟩
  | .hbm, ⟨88, _⟩ => ⟨S2x8192x512, .bf16⟩
  | _, _ => ⟨S2x8192x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_6 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_v53 : Ref sig .tc := ⟨.hbm, 72, rfl⟩
abbrev main_v54 : Ref sig .tc := ⟨.hbm, 73, rfl⟩
abbrev main_cst_8 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩

abbrev nD : Nat := 1
abbrev τ : Topo := Topo.v7x

variable {F : FTy → Type} [FloatOps F]
-- ==== Ffn.lean ====
abbrev S2x8192x1024 : Shape := ⟨3, ![2, 8192, 1024]⟩
abbrev S2x1x6144 : Shape := ⟨3, ![2, 1, 6144]⟩
abbrev S1024x5632 : Shape := ⟨2, ![1024, 5632]⟩
abbrev S2816x1024 : Shape := ⟨2, ![2816, 1024]⟩
abbrev S1x1024 : Shape := ⟨2, ![1, 1024]⟩
abbrev S1x512x1024 : Shape := ⟨3, ![1, 512, 1024]⟩
abbrev S1x1x1024 : Shape := ⟨3, ![1, 1, 1024]⟩
abbrev S1024x1408 : Shape := ⟨2, ![1024, 1408]⟩
abbrev S1408x1024 : Shape := ⟨2, ![1408, 1024]⟩
abbrev S512x1024 : Shape := ⟨2, ![512, 1024]⟩
abbrev S512x1408 : Shape := ⟨2, ![512, 1408]⟩
abbrev S512 : Shape := ⟨1, ![512]⟩
abbrev S512x1 : Shape := ⟨2, ![512, 1]⟩

abbrev nBuf : Space → Nat
  | .hbm => 7
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x1x6144, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S1x1024, .f32⟩
  | .hbm, ⟨6, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | .local _ .vmem, ⟨12, _⟩ => ⟨S1408x1024, .bf16⟩
  | .local _ .vmem, ⟨13, _⟩ => ⟨S1408x1024, .bf16⟩
  | .local _ .vmem, ⟨14, _⟩ => ⟨S1x1024, .f32⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 16, 2], ![false, false, false]⟩

def k0_cond3 (i : grid0.Coords) : BitVec 1 :=
  let arg2 : BitVec 32 := BitVec.ofNat 32 (i 2).val
  let c1_i32 : BitVec 32 := 1#32
  let v35 : BitVec 1 := Scalar.cmpi .eq arg2 c1_i32
  let v36 : BitVec 32 := Scalar.extui v35
  let c0_i32_23 : BitVec 32 := 0#32
  let v37 : BitVec 1 := Scalar.cmpi .ne v36 c0_i32_23
  v37

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c3_i32 : BitVec 32 := 3#32
  let c0_i32_0 : BitVec 32 := 0#32
  ![arg0.toNat, c0_i32.toNat, c3_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c4_i32 : BitVec 32 := 4#32
  let c0_i32_0 : BitVec 32 := 0#32
  ![arg0.toNat, c0_i32.toNat, c4_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c5_i32 : BitVec 32 := 5#32
  let c0_i32_0 : BitVec 32 := 0#32
  ![arg0.toNat, c0_i32.toNat, c5_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg2
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== FfnRefIdeal.lean ====
abbrev S2x8192x1024 : Shape := ⟨3, ![2, 8192, 1024]⟩
abbrev S2x1x6144 : Shape := ⟨3, ![2, 1, 6144]⟩
abbrev S1024x5632 : Shape := ⟨2, ![1024, 5632]⟩
abbrev S2816x1024 : Shape := ⟨2, ![2816, 1024]⟩
abbrev S1x1024 : Shape := ⟨2, ![1, 1024]⟩
abbrev S2x1x1024 : Shape := ⟨3, ![2, 1, 1024]⟩
abbrev S_ : Shape := ⟨0, ![]⟩
abbrev S2x8192x5632 : Shape := ⟨3, ![2, 8192, 5632]⟩
abbrev S2x8192x2816 : Shape := ⟨3, ![2, 8192, 2816]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x6144, .f32⟩
  | .hbm, ⟨2, _⟩ => ⟨S1024x5632, .bf16⟩
  | .hbm, ⟨3, _⟩ => ⟨S2816x1024, .bf16⟩
  | .hbm, ⟨4, _⟩ => ⟨S1x1024, .f32⟩
  | .hbm, ⟨5, _⟩ => ⟨S1x1024, .f32⟩
  | .hbm, ⟨6, _⟩ => ⟨S2x1x1024, .f32⟩
  | .hbm, ⟨7, _⟩ => ⟨S2x1x1024, .f32⟩
  | .hbm, ⟨8, _⟩ => ⟨S2x1x1024, .f32⟩
  | .hbm, ⟨9, _⟩ => ⟨S_, .f32⟩
  | .hbm, ⟨10, _⟩ => ⟨S2x1x1024, .f32⟩
  | .hbm, ⟨11, _⟩ => ⟨S2x1x1024, .f32⟩
  | .hbm, ⟨12, _⟩ => ⟨S2x8192x1024, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S1024x5632, .f32⟩
  | .hbm, ⟨17, _⟩ => ⟨S2x8192x5632, .f32⟩
  | .hbm, ⟨18, _⟩ => ⟨S2x8192x2816, .f32⟩
  | .hbm, ⟨19, _⟩ => ⟨S2x8192x2816, .f32⟩
  | .hbm, ⟨20, _⟩ => ⟨S2x8192x2816, .f32⟩
  | .hbm, ⟨21, _⟩ => ⟨S2x8192x2816, .f32⟩
  | .hbm, ⟨22, _⟩ => ⟨S_, .f32⟩
  | .hbm, ⟨23, _⟩ => ⟨S2x8192x2816, .f32⟩
  | .hbm, ⟨24, _⟩ => ⟨S2x8192x2816, .f32⟩
  | .hbm, ⟨25, _⟩ => ⟨S_, .f32⟩
  | .hbm, ⟨26, _⟩ => ⟨S2x8192x2816, .f32⟩
  | .hbm, ⟨27, _⟩ => ⟨S2x8192x2816, .f32⟩
  | .hbm, ⟨28, _⟩ => ⟨S2x8192x2816, .f32⟩
  | .hbm, ⟨29, _⟩ => ⟨S2x8192x2816, .f32⟩
  | .hbm, ⟨30, _⟩ => ⟨S2816x1024, .f32⟩
  | .hbm, ⟨31, _⟩ => ⟨S2x8192x1024, .f32⟩
  | .hbm, ⟨32, _⟩ => ⟨S_, .f32⟩
  | .hbm, ⟨33, _⟩ => ⟨S2x8192x1024, .f32⟩
  | .hbm, ⟨34, _⟩ => ⟨S2x8192x1024, .f32⟩
  | .hbm, ⟨35, _⟩ => ⟨S2x8192x1024, .f32⟩
  | .hbm, ⟨36, _⟩ => ⟨S2x8192x1024, .f32⟩
  | .hbm, ⟨37, _⟩ => ⟨S2x8192x1024, .f32⟩
  | .hbm, ⟨38, _⟩ => ⟨S_, .f32⟩
  | .hbm, ⟨39, _⟩ => ⟨S2x8192, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S_, .f32⟩
  | .hbm, ⟨48, _⟩ => ⟨S2x8192, .f32⟩
  | .hbm, ⟨49, _⟩ => ⟨S2x8192x1, .f32⟩
  | .hbm, ⟨50, _⟩ => ⟨S_, .f32⟩
  | .hbm, ⟨51, _⟩ => ⟨S2x8192x1, .f32⟩
  | .hbm, ⟨52, _⟩ => ⟨S2x8192x1, .f32⟩
  | .hbm, ⟨53, _⟩ => ⟨S2x8192x1024, .f32⟩
  | .hbm, ⟨54, _⟩ => ⟨S2x8192x1024, .f32⟩
  | .hbm, ⟨55, _⟩ => ⟨S_, .f32⟩
  | .hbm, ⟨56, _⟩ => ⟨S2x8192x1, .f32⟩
  | .hbm, ⟨57, _⟩ => ⟨S2x8192x1, .f32⟩
  | .hbm, ⟨58, _⟩ => ⟨S2x8192x1, .f32⟩
  | .hbm, ⟨59, _⟩ => ⟨S2x8192x1024, .f32⟩
  | .hbm, ⟨60, _⟩ => ⟨S2x8192x1024, .f32⟩
  | .hbm, ⟨61, _⟩ => ⟨S1024, .f32⟩
  | .hbm, ⟨62, _⟩ => ⟨S1x1x1024, .f32⟩
  | .hbm, ⟨63, _⟩ => ⟨S2x8192x1024, .f32⟩
  | .hbm, ⟨64, _⟩ => ⟨S2x8192x1024, .f32⟩
  | .hbm, ⟨65, _⟩ => ⟨S1024, .f32⟩
  | .hbm, ⟨66, _⟩ => ⟨S1x1x1024, .f32⟩
  | .hbm, ⟨67, _⟩ => ⟨S2x8192x1024, .f32⟩
  | .hbm, ⟨68, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]
-- ==== Merge.lean ====
abbrev S2x8192x1024 : Shape := ⟨3, ![2, 8192, 1024]⟩
abbrev S2x8192x512 : Shape := ⟨3, ![2, 8192, 512]⟩
abbrev S2x1x6144 : Shape := ⟨3, ![2, 1, 6144]⟩
abbrev S1024x1024 : Shape := ⟨2, ![1024, 1024]⟩
abbrev S1x1024 : Shape := ⟨2, ![1, 1024]⟩
abbrev S1x512x1024 : Shape := ⟨3, ![1, 512, 1024]⟩
abbrev S1x512x512 : Shape := ⟨3, ![1, 512, 512]⟩
abbrev S1x1x1024 : Shape := ⟨3, ![1, 1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S2x1x6144, .f32⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S2x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S2x8192x1024 : Shape := ⟨3, ![2, 8192, 1024]⟩
abbrev S2x8192x512 : Shape := ⟨3, ![2, 8192, 512]⟩
abbrev S2x1x6144 : Shape := ⟨3, ![2, 1, 6144]⟩
abbrev S1024x1024 : Shape := ⟨2, ![1024, 1024]⟩
abbrev S1x1024 : Shape := ⟨2, ![1, 1024]⟩
abbrev S2x1x1024 : Shape := ⟨3, ![2, 1, 1024]⟩
abbrev S_ : Shape := ⟨0, ![]⟩
abbrev S2x8192 : Shape := ⟨2, ![2, 8192]⟩
abbrev S2x8192x1 : Shape := ⟨3, ![2, 8192, 1]⟩
abbrev S1024 : Shape := ⟨1, ![1024]⟩
abbrev S1x1x1024 : Shape := ⟨3, ![1, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S2x1x6144, .f32⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S2x1x1024, .f32⟩
  | .hbm, ⟨8, _⟩ => ⟨S2x8192x1024, .bf16⟩
  | .hbm, ⟨9, _⟩ => ⟨S2x8192x1024, .f32⟩
  | .hbm, ⟨10, _⟩ => ⟨S1024x1024, .f32⟩
  | .hbm, ⟨11, _⟩ => ⟨S2x8192x1024, .f32⟩
  | .hbm, ⟨12, _⟩ => ⟨S_, .f32⟩
  | .hbm, ⟨13, _⟩ => ⟨S2x8192x1024, .f32⟩
  | .hbm, ⟨14, _⟩ => ⟨S2x8192x1024, .f32⟩
  | .hbm, ⟨15, _⟩ => ⟨S2x8192x1024, .f32⟩
  | .hbm, ⟨16, _⟩ => ⟨S2x8192x1024, .f32⟩
  | .hbm, ⟨17, _⟩ => ⟨S2x8192x1024, .f32⟩
  | .hbm, ⟨18, _⟩ => ⟨S_, .f32⟩
  | .hbm, ⟨19, _⟩ => ⟨S2x8192, .f32⟩
  | .hbm, ⟨20, _⟩ => ⟨S2x8192x1, .f32⟩
  | .hbm, ⟨21, _⟩ => ⟨S_, .f32⟩
  | .hbm, ⟨22, _⟩ => ⟨S2x8192x1, .f32⟩
  | .hbm, ⟨23, _⟩ => ⟨S2x8192x1, .f32⟩
  | .hbm, ⟨24, _⟩ => ⟨S2x8192x1024, .f32⟩
  | .hbm, ⟨25, _⟩ => ⟨S2x8192x1024, .f32⟩
  | .hbm, ⟨26, _⟩ => ⟨S2x8192x1024, .f32⟩
  | .hbm, ⟨27, _⟩ => ⟨S_, .f32⟩
  | .hbm, ⟨28, _⟩ => ⟨S2x8192, .f32⟩
  | .hbm, ⟨29, _⟩ => ⟨S2x8192x1, .f32⟩
  | .hbm, ⟨30, _⟩ => ⟨S_, .f32⟩
  | .hbm, ⟨31, _⟩ => ⟨S2x8192x1, .f32⟩
  | .hbm, ⟨32, _⟩ => ⟨S2x8192x1, .f32⟩
  | .hbm, ⟨33, _⟩ => ⟨S2x8192x1024, .f32⟩
  | .hbm, ⟨34, _⟩ => ⟨S2x8192x1024, .f32⟩
  | .hbm, ⟨35, _⟩ => ⟨S_, .f32⟩
  | .hbm, ⟨36, _⟩ => ⟨S2x8192x1, .f32⟩
  | .hbm, ⟨37, _⟩ => ⟨S2x8192x1, .f32⟩
  | .hbm, ⟨38, _⟩ => ⟨S2x8192x1, .f32⟩
  | .hbm, ⟨39, _⟩ => ⟨S2x8192x1024, .f32⟩
  | .hbm, ⟨40, _⟩ => ⟨S2x8192x1024, .f32⟩
  | .hbm, ⟨41, _⟩ => ⟨S1024, .f32⟩
  | .hbm, ⟨42, _⟩ => ⟨S1x1x1024, .f32⟩
  | .hbm, ⟨43, _⟩ => ⟨S2x8192x1024, .f32⟩
  | .hbm, ⟨44, _⟩ => ⟨S2x8192x1024, .f32⟩
  | .hbm, ⟨45, _⟩ => ⟨S1024, .f32⟩
  | .hbm, ⟨46, _⟩ => ⟨S1x1x1024, .f32⟩
  | .hbm, ⟨47, _⟩ => ⟨S2x8192x1024, .f32⟩
  | .hbm, ⟨48, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Inproj.lean ====
abbrev S2x8192x1024 : Shape := ⟨3, ![2, 8192, 1024]⟩
abbrev S2x1x6144 : Shape := ⟨3, ![2, 1, 6144]⟩
abbrev S1024x3072 : Shape := ⟨2, ![1024, 3072]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S2x8192x3072 : Shape := ⟨3, ![2, 8192, 3072]⟩
abbrev S2x8192x512 : Shape := ⟨3, ![2, 8192, 512]⟩
abbrev S2x512x8192 : Shape := ⟨3, ![2, 512, 8192]⟩
abbrev S1x512x1024 : Shape := ⟨3, ![1, 512, 1024]⟩
abbrev S1x1x1024 : Shape := ⟨3, ![1, 1, 1024]⟩
abbrev S512x128 : Shape := ⟨2, ![512, 128]⟩
abbrev S1x512x3072 : Shape := ⟨3, ![1, 512, 3072]⟩
abbrev S1x512x512 : Shape := ⟨3, ![1, 512, 512]⟩
abbrev S512x1024 : Shape := ⟨2, ![512, 1024]⟩
abbrev S1x1024 : Shape := ⟨2, ![1, 1024]⟩
abbrev S512x3072 : Shape := ⟨2, ![512, 3072]⟩
abbrev S512x512 : Shape := ⟨2, ![512, 512]⟩
abbrev S1x512x128 : Shape := ⟨3, ![1, 512, 128]⟩

abbrev nBuf : Space → Nat
  | .hbm => 30
  | .vmem => 23
  | .smem => 0
  | _ => 0

abbrev bufTy : (tb : Table) → Fin (tcTables nBuf tb) → BufTy
  | .hbm, ⟨0, _⟩ => ⟨S2x8192x1024, .f32⟩
  | .hbm, ⟨1, _⟩ => ⟨S2x1x6144, .f32⟩
  | .hbm, ⟨2, _⟩ => ⟨S1024x3072, .bf16⟩
  | .hbm, ⟨3, _⟩ => ⟨S8192, .i32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S8192, .f32⟩
  | .hbm, ⟨13, _⟩ => ⟨S8192x1, .f32⟩
  | .hbm, ⟨14, _⟩ => ⟨S1x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x128, .f32⟩
  | .hbm, ⟨21, _⟩ => ⟨S8192x32, .f32⟩
  | .hbm, ⟨22, _⟩ => ⟨S8192x32, .f32⟩
  | .hbm, ⟨23, _⟩ => ⟨S8192x128, .f32⟩
  | .hbm, ⟨24, _⟩ => ⟨S2x8192x3072, .bf16⟩
  | .hbm, ⟨25, _⟩ => ⟨S2x8192x512, .f32⟩
  | .hbm, ⟨26, _⟩ => ⟨S2x8192x512, .f32⟩
  | .hbm, ⟨27, _⟩ => ⟨S2x8192x512, .f32⟩
  | .hbm, ⟨28, _⟩ => ⟨S2x8192x512, .f32⟩
  | .hbm, ⟨29, _⟩ => ⟨S2x512x8192, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x3072, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x512x3072, .bf16⟩
  | .local _ .vmem, ⟨12, _⟩ => ⟨S1x512x3072, .bf16⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x512, .f32⟩
  | .local _ .vmem, ⟨17, _⟩ => ⟨S1x512x512, .f32⟩
  | .local _ .vmem, ⟨18, _⟩ => ⟨S1x512x512, .f32⟩
  | .local _ .vmem, ⟨19, _⟩ => ⟨S1x512x512, .f32⟩
  | .local _ .vmem, ⟨20, _⟩ => ⟨S1x512x512, .f32⟩
  | .local _ .vmem, ⟨21, _⟩ => ⟨S1x512x512, .bf16⟩
  | .local _ .vmem, ⟨22, _⟩ => ⟨S1x512x512, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19_0 : Ref sig .tc := ⟨.hbm, 24, rfl⟩
abbrev main_v19_1 : Ref sig .tc := ⟨.hbm, 25, rfl⟩
abbrev main_v19_2 : Ref sig .tc := ⟨.hbm, 26, rfl⟩
abbrev main_v19_3 : Ref sig .tc := ⟨.hbm, 27, rfl⟩
abbrev main_v19_4 : Ref sig .tc := ⟨.hbm, 28, rfl⟩
abbrev main_v19_5 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== InprojRefIdeal.lean ====
abbrev S2x8192x1024 : Shape := ⟨3, ![2, 8192, 1024]⟩
abbrev S2x1x6144 : Shape := ⟨3, ![2, 1, 6144]⟩
abbrev S1024x3072 : Shape := ⟨2, ![1024, 3072]⟩
abbrev S2x1x1024 : Shape := ⟨3, ![2, 1, 1024]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x1x32 : Shape := ⟨3, ![8192, 1, 32]⟩
abbrev S2x8192x3072 : Shape := ⟨3, ![2, 8192, 3072]⟩
abbrev S2x8192x512 : Shape := ⟨3, ![2, 8192, 512]⟩
abbrev S2x8192x8x64 : Shape := ⟨4, ![2, 8192, 8, 64]⟩
abbrev S2x8192x8x32 : Shape := ⟨4, ![2, 8192, 8, 32]⟩
abbrev S1x8192x1x32 : Shape := ⟨4, ![1, 8192, 1, 32]⟩
abbrev S2x512x8192 : Shape := ⟨3, ![2, 512, 8192]⟩

abbrev nBuf : Space → Nat
  | .hbm => 87
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x1x6144, .f32⟩
  | .hbm, ⟨2, _⟩ => ⟨S1024x3072, .bf16⟩
  | .hbm, ⟨3, _⟩ => ⟨S2x1x1024, .f32⟩
  | .hbm, ⟨4, _⟩ => ⟨S2x1x1024, .f32⟩
  | .hbm, ⟨5, _⟩ => ⟨S8192, .i32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S8192, .f32⟩
  | .hbm, ⟨15, _⟩ => ⟨S8192x1, .f32⟩
  | .hbm, ⟨16, _⟩ => ⟨S1x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S8192x1x32, .f32⟩
  | .hbm, ⟨22, _⟩ => ⟨S8192x32, .f32⟩
  | .hbm, ⟨23, _⟩ => ⟨S8192x1x32, .f32⟩
  | .hbm, ⟨24, _⟩ => ⟨S_, .f32⟩
  | .hbm, ⟨25, _⟩ => ⟨S2x1x1024, .f32⟩
  | .hbm, ⟨26, _⟩ => ⟨S2x1x1024, .f32⟩
  | .hbm, ⟨27, _⟩ => ⟨S2x8192x1024, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S1024x3072, .f32⟩
  | .hbm, ⟨32, _⟩ => ⟨S2x8192x3072, .f32⟩
  | .hbm, ⟨33, _⟩ => ⟨S2x8192x512, .f32⟩
  | .hbm, ⟨34, _⟩ => ⟨S2x8192x512, .f32⟩
  | .hbm, ⟨35, _⟩ => ⟨S2x8192x512, .f32⟩
  | .hbm, ⟨36, _⟩ => ⟨S2x8192x512, .f32⟩
  | .hbm, ⟨37, _⟩ => ⟨S2x8192x512, .f32⟩
  | .hbm, ⟨38, _⟩ => ⟨S2x8192x512, .f32⟩
  | .hbm, ⟨39, _⟩ => ⟨S2x8192x8x64, .f32⟩
  | .hbm, ⟨40, _⟩ => ⟨S2x8192x8x32, .f32⟩
  | .hbm, ⟨41, _⟩ => ⟨S2x8192x8x32, .f32⟩
  | .hbm, ⟨42, _⟩ => ⟨S1x8192x1x32, .f32⟩
  | .hbm, ⟨43, _⟩ => ⟨S2x8192x8x32, .f32⟩
  | .hbm, ⟨44, _⟩ => ⟨S2x8192x8x32, .f32⟩
  | .hbm, ⟨45, _⟩ => ⟨S1x8192x1x32, .f32⟩
  | .hbm, ⟨46, _⟩ => ⟨S2x8192x8x32, .f32⟩
  | .hbm, ⟨47, _⟩ => ⟨S2x8192x8x32, .f32⟩
  | .hbm, ⟨48, _⟩ => ⟨S2x8192x8x32, .f32⟩
  | .hbm, ⟨49, _⟩ => ⟨S1x8192x1x32, .f32⟩
  | .hbm, ⟨50, _⟩ => ⟨S2x8192x8x32, .f32⟩
  | .hbm, ⟨51, _⟩ => ⟨S2x8192x8x32, .f32⟩
  | .hbm, ⟨52, _⟩ => ⟨S1x8192x1x32, .f32⟩
  | .hbm, ⟨53, _⟩ => ⟨S2x8192x8x32, .f32⟩
  | .hbm, ⟨54, _⟩ => ⟨S2x8192x8x32, .f32⟩
  | .hbm, ⟨55, _⟩ => ⟨S2x8192x8x32, .f32⟩
  | .hbm, ⟨56, _⟩ => ⟨S2x8192x8x64, .f32⟩
  | .hbm, ⟨57, _⟩ => ⟨S2x8192x512, .f32⟩
  | .hbm, ⟨58, _⟩ => ⟨S2x8192x8x64, .f32⟩
  | .hbm, ⟨59, _⟩ => ⟨S2x8192x8x32, .f32⟩
  | .hbm, ⟨60, _⟩ => ⟨S2x8192x8x32, .f32⟩
  | .hbm, ⟨61, _⟩ => ⟨S1x8192x1x32, .f32⟩
  | .hbm, ⟨62, _⟩ => ⟨S2x8192x8x32, .f32⟩
  | .hbm, ⟨63, _⟩ => ⟨S2x8192x8x32, .f32⟩
  | .hbm, ⟨64, _⟩ => ⟨S1x8192x1x32, .f32⟩
  | .hbm, ⟨65, _⟩ => ⟨S2x8192x8x32, .f32⟩
  | .hbm, ⟨66, _⟩ => ⟨S2x8192x8x32, .f32⟩
  | .hbm, ⟨67, _⟩ => ⟨S2x8192x8x32, .f32⟩
  | .hbm, ⟨68, _⟩ => ⟨S1x8192x1x32, .f32⟩
  | .hbm, ⟨69, _⟩ => ⟨S2x8192x8x32, .f32⟩
  | .hbm, ⟨70, _⟩ => ⟨S2x8192x8x32, .f32⟩
  | .hbm, ⟨71, _⟩ => ⟨S1x8192x1x32, .f32⟩
  | .hbm, ⟨72, _⟩ => ⟨S2x8192x8x32, .f32⟩
  | .hbm, ⟨73, _⟩ => ⟨S2x8192x8x32, .f32⟩
  | .hbm, ⟨74, _⟩ => ⟨S2x8192x8x32, .f32⟩
  | .hbm, ⟨75, _⟩ => ⟨S2x8192x8x64, .f32⟩
  | .hbm, ⟨76, _⟩ => ⟨S2x8192x512, .f32⟩
  | .hbm, ⟨77, _⟩ => ⟨S_, .f32⟩
  | .hbm, ⟨78, _⟩ => ⟨S2x8192x512, .f32⟩
  | .hbm, ⟨79, _⟩ => ⟨S2x8192x512, .f32⟩
  | .hbm, ⟨80, _⟩ => ⟨S_, .f32⟩
  | .hbm, ⟨81, _⟩ => ⟨S2x8192x512, .f32⟩
  | .hbm, ⟨82, _⟩ => ⟨S2x8192x512, .f32⟩
  | .hbm, ⟨83, _⟩ => ⟨S2x8192x3072, .f32⟩
  | .hbm, ⟨84, _⟩ => ⟨S2x8192x3072, .bf16⟩
  | .hbm, ⟨85, _⟩ => ⟨S2x512x8192, .f32⟩
  | .hbm, ⟨86, _⟩ => ⟨S2x512x8192, .bf16⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_cst_2 : Ref sig .tc := ⟨.hbm, 77, rfl⟩
abbrev main_v71 : Ref sig .tc := ⟨.hbm, 78, rfl⟩
abbrev main_v72 : Ref sig .tc := ⟨.hbm, 79, rfl⟩
abbrev main_cst_3 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩

abbrev nD : Nat := 1
abbrev τ : Topo := Topo.v7x

variable {F : FTy → Type} [FloatOps F]
-- ==== Proof.DiffAttnIdeal.Base.lean ====
/- What the runs of the attention's body share: the region's entry contents, the two block tables and their
   closed forms, the schedule of the output window, and the memrefs the body is handed. -/
module

public import proofs.«01_k».proof.Proof.Gen.DiffAttnIdeal.Launch
public import proofs.«01_k».proof.Proof.Gen.DiffAttnIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.DiffAttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.DiffAttnIdeal Cert.DiffAttnIdeal.Gen

variable {F : FTy → Type} [FloatOps F] [Named F]

local notation "𝕄" => MT nD τ sig Unit (Elt F) ℕ (UR sig nD τ) ℕ

variable (m : (ℓ : Loc nD τ sig) → Buf (Elt F) ℓ)

/-- Core `c`'s buffers when the region is entered: after the three host operations. -/
abbrev V (c : Dev nD) (b : Ref sig .tc) : Buf (Elt F) ((c : Thread nD τ).loc b) := StableHlo.after hostOps0 (fun b => m (c, b)) b

/-- The host operations name no buffer of their own. -/
theorem hostOps0_fresh : (hostOps0 : List (HloOp τ sig (Elt F))).Forall fun op => op.fresh = ∅ := by
  simp only [List.Forall]; repeat' constructor

set_option maxHeartbeats 800000 in
/-- @main up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer no host operation writes is at the region's entry as launched. -/
theorem V_of_ne (c : Dev nD) (b : Ref sig .tc) (h0 : b ≠ main_c) (h1 : b ≠ main_c_0) (h2 : b ≠ main_v0) :
    V m c b = m ((c : Thread nD τ).loc b) :=
  StableHlo.after_of_forall_not_mem (b := Proc.devRef .tc b) _ _ (List.forall_iff_forall_mem.mp (by
    simp only [hostOps0, List.Forall, StableHlo.nullary_writes, StableHlo.reshape_writes, Finset.mem_singleton]
    exact ⟨StableHlo.devRef_ne_of_ne h0, StableHlo.devRef_ne_of_ne h1, StableHlo.devRef_ne_of_ne h2⟩))

/-- A value returned and then used. -/
theorem ret_then {α β : Type} (a : α) (k : α → Prog (TpuEff nD τ sig (Elt F) Λ₀ .tc) β) : (Prog.ret a >>= k) = k a := rfl

/-! ## The tables -/

/-- The tables' contents: the query block and the key block of every step. -/
def tbl : pre0.Contents (Elt F) := fun
  | 0 => fun i => lit0 (S528.rowMajor i)
  | 1 => fun i => lit1 (S528.rowMajor i)
  | ⟨_ + 2, h⟩ => absurd h (Nat.not_lt.2 (Nat.le_add_left _ _))

/-- The query block of step `t` and its key block, as numbers. -/
def qN (t : ℕ) : ℕ := (lit0t t).toNat
def kN (t : ℕ) : ℕ := (lit1t t).toNat

/-- The steps list the pairs (query block, key block ≤ query block) of a lower triangle of 32 rows, row after row. -/
theorem tri : ∀ t : Fin 528, qN t.val < 32 ∧ kN t.val ≤ qN t.val ∧ qN t.val * (qN t.val + 1) / 2 + kN t.val = t.val := by
  decide +kernel

/-- A step that is not its row's last is followed by the next key block of the same row. -/
theorem tri_next : ∀ t : Fin 528, kN t.val ≠ qN t.val → qN (t.val + 1) = qN t.val ∧ kN (t.val + 1) = kN t.val + 1 := by
  decide +kernel

/-! ## The memrefs -/

/-- A table's buffer, and the half share of it the body holds. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f
abbrev tbM0 : Memref sig .tc .smem S528 .i32 := Memref.whole main_c
abbrev tbM1 : Memref sig .tc .smem S528 .i32 := Memref.whole main_c_0

/-- The scratch: the unnormalised sums, the running maxima, the normalisers. -/
abbrev scM0 : Memref sig .tc .vmem S8x128x256 .f32 := Memref.whole cc0_scratch0
abbrev scM1 : Memref sig .tc .vmem S8x1x256 .f32 := Memref.whole cc0_scratch1
abbrev scM2 : Memref sig .tc .vmem S8x1x256 .f32 := Memref.whole cc0_scratch2

/-- The tables' part of the region's own holdings is the two half shares. -/
theorem PhiT_eq (c : Dev nD) :
    (Pipeline.ΦT pre0 (tbl (F := F)) c : sProp 𝕄) = iprop(tbPt c tbM0 (tbl (F := F) 0) ∗ tbPt c tbM1 (tbl (F := F) 1)) := by
  unfold Pipeline.ΦT Pipeline.prefHeld
  rw [show (Finset.univ : Finset (Fin 2)) = insert (0 : Fin 2) {(1 : Fin 2)} from by decide, bigSep_insert (by decide), bigSep_singleton]
  rfl

/-- The query block the body reads at a point from a table of contents `f`, and the key block. -/
abbrev rd0 (c : Dev nD) (f : TbBuf (F := F) c tbM0) (i : grid0.Coords) : BitVec 32 :=
  (tbM0.access (Rect.unit (s := S528) (k0_off1 i) S1.size (k0_off1_inb i))).read (Elt F) f (Shape.Idx.first (show 0 < S1.numel from numel1_S1.symm ▸ Nat.one_pos))
abbrev rd1 (c : Dev nD) (f : TbBuf (F := F) c tbM1) (i : grid0.Coords) : BitVec 32 :=
  (tbM1.access (Rect.unit (s := S528) (k0_off1 i) S1.size (k0_off1_inb i))).read (Elt F) f (Shape.Idx.first (show 0 < S1.numel from numel1_S1.symm ▸ Nat.one_pos))

/-- The row-major position of the one element the unit rectangle names is the step. -/
theorem pos528 (i : grid0.Coords) (x : S1.Idx) :
    (S528.rowMajor ((Rect.unit (s := S528) (k0_off1 i) S1.size (k0_off1_inb i)).emb x)).val = (i 2).val := by
  rw [Shape.rowMajor_val_one]
  have hx : (x 0).val < 1 := (x 0).isLt
  have h := congrFun (k0_off1_eq i) 0
  rw [Rect.emb_apply]
  have hx0 : (x 0).val = 0 := by omega
  have ho : k0_off1 i 0 = (i 2).val := h
  simp only [Rect.unit, Rect.emb_apply] at *
  omega

/-- The words read are the tables' entries at the step. -/
theorem rd0_eq (c : Dev nD) (i : grid0.Coords) : rd0 (F := F) c (tbl (F := F) 0) i = lit0t (i 2).val := congrArg lit0t (pos528 i _)
theorem rd1_eq (c : Dev nD) (i : grid0.Coords) : rd1 (F := F) c (tbl (F := F) 1) i = lit1t (i 2).val := congrArg lit1t (pos528 i _)

end Cert.DiffAttnIdeal.Hand

end
-- ==== Proof.DiffAttnIdeal.RunD.lean ====
/- The body at a key block strictly inside a row: the block accumulated. -/
module

public import proofs.«01_k».proof.Proof.DiffAttnIdeal.Base
public import proofs.«01_k».proof.Proof.Gen.DiffAttnIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.DiffAttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.DiffAttnIdeal Cert.DiffAttnIdeal.Gen

variable {F : FTy → Type} [FloatOps F] [Named F]

local notation "𝕄" => MT nD τ sig Unit (Elt F) ℕ (UR sig nD τ) ℕ

variable (m : (ℓ : Loc nD τ sig) → Buf (Elt F) ℓ)

set_option maxHeartbeats 1000000 in
/-- The body at a key block strictly inside a row: the block accumulated. The body leaves the tables and the staged inputs as it found them and these pieces (last first)
    in the scratch; the output's buffer it does not touch. -/
def runD (c : Dev nD) (i : grid0.Coords) (tb0 : TbBuf (F := F) c tbM0) (tb1 : TbBuf (F := F) c tbM1)
    (v1 v3 : BitVec 32) (hv1 : v1 = rd0 (F := F) c tb0 i) (hv3 : v3 = rd1 (F := F) c tb1 i)
    (arg5 : Memref sig .tc .vmem S1x256x512 .bf16) (harg5 : arg5.IsWhole) (arg6 : Memref sig .tc .vmem S1x256x512 .bf16) (harg6 : arg6.IsWhole) (arg7 : Memref sig .tc .vmem S1x512x256 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S128x1 .f32) (harg12 : arg12.IsWhole) (arg13 : Memref sig .tc .vmem S1x256x512 .bf16) (harg13 : arg13.IsWhole) (arg14 : Memref sig .tc .vmem S8x128x256 .f32) (harg14 : arg14.IsWhole) (arg15 : Memref sig .tc .vmem S8x1x256 .f32) (harg15 : arg15.IsWhole) (arg16 : Memref sig .tc .vmem S8x1x256 .f32) (harg16 : arg16.IsWhole)
    (hc0 : ¬ (Scalar.cmpi .ne (Scalar.extui (Scalar.cmpi .eq v3 0#32) : BitVec 32) 0#32 = 1#1)) (hc1 : ¬ (Scalar.cmpi .ne (Scalar.extui (Scalar.cmpi .eq v3 v1) : BitVec 32) 0#32 = 1#1))
    (hc2 : (Scalar.cmpi .ne (Scalar.extui (Scalar.cmpi .ne v3 v1) : BitVec 32) 0#32 = 1#1)) (hc3 : ¬ (k0_cond4 v1 v3 = 1#1))
    (x0 : Vec F S1x256x512 .bf16) (x1 : Vec F S1x256x512 .bf16) (x2 : Vec F S1x512x256 .bf16) (x3 : Vec F S1x64 .f32) (x4 : Vec F S1x64 .f32) (x5 : Vec F S1x64 .f32) (x6 : Vec F S1x64 .f32) (x7 : Vec F S128x1 .f32) (xs0 : Vec F S8x128x256 .f32) (xs1 : Vec F S8x1x256 .f32) (xs2 : Vec F S8x1x256 .f32) :
    Σ' (LS0 : List (View.Piece (Elt F) S8x128x256 .f32)), Σ' (LS1 : List (View.Piece (Elt F) S8x1x256 .f32)), { LS2 : List (View.Piece (Elt F) S8x1x256 .f32) //
      ∀ (xi8 : Vec F S1x256x512 .bf16) (E : Set ℕ) (K : PUnit → sProp 𝕄),
        iprop(tbPt c tbM0 tb0 ∗ tbPt c tbM1 tb1 ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare xi8 ∗ owns (c : Thread nD τ) arg14 fullShare xs0 ∗ owns (c : Thread nD τ) arg15 fullShare xs1 ∗ owns (c : Thread nD τ) arg16 fullShare xs2
            ∗ (iprop(tbPt c tbM0 tb0 ∗ tbPt c tbM1 tb1 ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare xi8 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2)) -∗ K ⟨⟩))
          ⊢ wp frame (wpE (defs₀ (F := F)) Variants.none c none) E (cc0_diff_attn i tbM0 (Memref.isWhole_whole _) tbM1 (Memref.isWhole_whole _) arg5 harg5 arg6 harg6 arg7 harg7 arg8 harg8 arg9 harg9 arg10 harg10 arg11 harg11 arg12 harg12 arg13 harg13 arg14 harg14 arg15 harg15 arg16 harg16) K } := by
  refine ⟨?_, ?_, ?_, fun xi8 E K => ?run⟩
  case run =>
    simp only [cc0_diff_attn_eq_skeleton]; unfold cc0_diff_attn_skel
    simp only [k0_part9_eq_skeleton, k0_part10_eq_skeleton, k0_part11_eq_skeleton, k0_part12_eq_skeleton, k0_part13_eq_skeleton, k0_part14_eq_skeleton, k0_part15_eq_skeleton, k0_part16_eq_skeleton]
    unfold owns tbPt
    unfold smemLoad
    rw [smemLoadElt_bind]
    iintro ⟨T0, T1, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8
    obtain rfl := harg14.eq_unread hfs0; obtain rfl := harg15.eq_unread hfs1; obtain rfl := harg16.eq_unread hfs2
    named_smem T0 v1 hv1
    rw [ret_then, smemLoadElt_bind]
    named_smem T1 v3 hv3
    rw [ret_then]
    sl_exec (disch := first | sl_exact hc0 | sl_exact hc1 | sl_exact hc2 | sl_exact hc3)
    sl_step
    iapply Hk
    isplitl [T0]; · iexact T0
    isplitl [T1]; · iexact T1
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [HS0]; · iexists _; iexact HS0
    isplitl [HS1]; · iexists _; iexact HS1
    iexists _; iexact HS2

end Cert.DiffAttnIdeal.Hand

end
-- ==== Proof.DiffAttnIdeal.RunC.lean ====
/- The body at a row's last key block that is not its first: the masked block accumulated, the row written. -/
module

public import proofs.«01_k».proof.Proof.DiffAttnIdeal.RunD
public import proofs.«01_k».proof.Proof.Gen.DiffAttnIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.DiffAttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.DiffAttnIdeal Cert.DiffAttnIdeal.Gen

variable {F : FTy → Type} [FloatOps F] [Named F]

local notation "𝕄" => MT nD τ sig Unit (Elt F) ℕ (UR sig nD τ) ℕ

variable (m : (ℓ : Loc nD τ sig) → Buf (Elt F) ℓ)

set_option maxHeartbeats 1000000 in
/-- The body at a row's last key block that is not its first: the masked block accumulated, the row written. The body leaves the tables and the staged inputs as it found them and these pieces (last first)
    in the scratch and in the output's buffer. -/
def runC (c : Dev nD) (i : grid0.Coords) (tb0 : TbBuf (F := F) c tbM0) (tb1 : TbBuf (F := F) c tbM1)
    (v1 v3 : BitVec 32) (hv1 : v1 = rd0 (F := F) c tb0 i) (hv3 : v3 = rd1 (F := F) c tb1 i)
    (arg5 : Memref sig .tc .vmem S1x256x512 .bf16) (harg5 : arg5.IsWhole) (arg6 : Memref sig .tc .vmem S1x256x512 .bf16) (harg6 : arg6.IsWhole) (arg7 : Memref sig .tc .vmem S1x512x256 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S128x1 .f32) (harg12 : arg12.IsWhole) (arg13 : Memref sig .tc .vmem S1x256x512 .bf16) (harg13 : arg13.IsWhole) (arg14 : Memref sig .tc .vmem S8x128x256 .f32) (harg14 : arg14.IsWhole) (arg15 : Memref sig .tc .vmem S8x1x256 .f32) (harg15 : arg15.IsWhole) (arg16 : Memref sig .tc .vmem S8x1x256 .f32) (harg16 : arg16.IsWhole)
    (hc0 : ¬ (Scalar.cmpi .ne (Scalar.extui (Scalar.cmpi .eq v3 0#32) : BitVec 32) 0#32 = 1#1)) (hc1 : (Scalar.cmpi .ne (Scalar.extui (Scalar.cmpi .eq v3 v1) : BitVec 32) 0#32 = 1#1))
    (hc2 : ¬ (Scalar.cmpi .ne (Scalar.extui (Scalar.cmpi .ne v3 v1) : BitVec 32) 0#32 = 1#1)) (hc3 : (k0_cond4 v1 v3 = 1#1))
    (x0 : Vec F S1x256x512 .bf16) (x1 : Vec F S1x256x512 .bf16) (x2 : Vec F S1x512x256 .bf16) (x3 : Vec F S1x64 .f32) (x4 : Vec F S1x64 .f32) (x5 : Vec F S1x64 .f32) (x6 : Vec F S1x64 .f32) (x7 : Vec F S128x1 .f32) (xs0 : Vec F S8x128x256 .f32) (xs1 : Vec F S8x1x256 .f32) (xs2 : Vec F S8x1x256 .f32) :
    Σ' (L8 : List (View.Piece (Elt F) S1x256x512 .bf16)), Σ' (LS0 : List (View.Piece (Elt F) S8x128x256 .f32)), Σ' (LS1 : List (View.Piece (Elt F) S8x1x256 .f32)), { LS2 : List (View.Piece (Elt F) S8x1x256 .f32) //
      ∀ (xi8 : Vec F S1x256x512 .bf16) (E : Set ℕ) (K : PUnit → sProp 𝕄),
        iprop(tbPt c tbM0 tb0 ∗ tbPt c tbM1 tb1 ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare xi8 ∗ owns (c : Thread nD τ) arg14 fullShare xs0 ∗ owns (c : Thread nD τ) arg15 fullShare xs1 ∗ owns (c : Thread nD τ) arg16 fullShare xs2
            ∗ (iprop(tbPt c tbM0 tb0 ∗ tbPt c tbM1 tb1 ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2)) -∗ K ⟨⟩))
          ⊢ wp frame (wpE (defs₀ (F := F)) Variants.none c none) E (cc0_diff_attn i tbM0 (Memref.isWhole_whole _) tbM1 (Memref.isWhole_whole _) arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun xi8 E K => ?run⟩
  case run =>
    simp only [cc0_diff_attn_eq_skeleton]; unfold cc0_diff_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part17_eq_skeleton, k0_part18_eq_skeleton, k0_part19_eq_skeleton, k0_part20_eq_skeleton]
    unfold owns tbPt
    unfold smemLoad
    rw [smemLoadElt_bind]
    iintro ⟨T0, T1, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8
    obtain rfl := harg14.eq_unread hfs0; obtain rfl := harg15.eq_unread hfs1; obtain rfl := harg16.eq_unread hfs2
    named_smem T0 v1 hv1
    rw [ret_then, smemLoadElt_bind]
    named_smem T1 v3 hv3
    rw [ret_then]
    sl_exec (disch := first | sl_exact hc0 | sl_exact hc1 | sl_exact hc2 | sl_exact hc3)
    sl_step
    iapply Hk
    isplitl [T0]; · iexact T0
    isplitl [T1]; · iexact T1
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]; · iexists _; iexact H8
    isplitl [HS0]; · iexists _; iexact HS0
    isplitl [HS1]; · iexists _; iexact HS1
    iexists _; iexact HS2

end Cert.DiffAttnIdeal.Hand

end
-- ==== Proof.DiffAttnIdeal.RunB.lean ====
/- The body at a row's first key block that is not its last: the scratch is initialised and the block accumulated. -/
module

public import proofs.«01_k».proof.Proof.DiffAttnIdeal.RunC
public import proofs.«01_k».proof.Proof.Gen.DiffAttnIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.DiffAttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.DiffAttnIdeal Cert.DiffAttnIdeal.Gen

variable {F : FTy → Type} [FloatOps F] [Named F]

local notation "𝕄" => MT nD τ sig Unit (Elt F) ℕ (UR sig nD τ) ℕ

variable (m : (ℓ : Loc nD τ sig) → Buf (Elt F) ℓ)

set_option maxHeartbeats 1000000 in
/-- The body at a row's first key block that is not its last: the scratch is initialised and the block accumulated. The body leaves the tables and the staged inputs as it found them and these pieces (last first)
    in the scratch; the output's buffer it does not touch. -/
def runB (c : Dev nD) (i : grid0.Coords) (tb0 : TbBuf (F := F) c tbM0) (tb1 : TbBuf (F := F) c tbM1)
    (v1 v3 : BitVec 32) (hv1 : v1 = rd0 (F := F) c tb0 i) (hv3 : v3 = rd1 (F := F) c tb1 i)
    (arg5 : Memref sig .tc .vmem S1x256x512 .bf16) (harg5 : arg5.IsWhole) (arg6 : Memref sig .tc .vmem S1x256x512 .bf16) (harg6 : arg6.IsWhole) (arg7 : Memref sig .tc .vmem S1x512x256 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S128x1 .f32) (harg12 : arg12.IsWhole) (arg13 : Memref sig .tc .vmem S1x256x512 .bf16) (harg13 : arg13.IsWhole) (arg14 : Memref sig .tc .vmem S8x128x256 .f32) (harg14 : arg14.IsWhole) (arg15 : Memref sig .tc .vmem S8x1x256 .f32) (harg15 : arg15.IsWhole) (arg16 : Memref sig .tc .vmem S8x1x256 .f32) (harg16 : arg16.IsWhole)
    (hc0 : (Scalar.cmpi .ne (Scalar.extui (Scalar.cmpi .eq v3 0#32) : BitVec 32) 0#32 = 1#1)) (hc1 : ¬ (Scalar.cmpi .ne (Scalar.extui (Scalar.cmpi .eq v3 v1) : BitVec 32) 0#32 = 1#1))
    (hc2 : (Scalar.cmpi .ne (Scalar.extui (Scalar.cmpi .ne v3 v1) : BitVec 32) 0#32 = 1#1)) (hc3 : ¬ (k0_cond4 v1 v3 = 1#1))
    (x0 : Vec F S1x256x512 .bf16) (x1 : Vec F S1x256x512 .bf16) (x2 : Vec F S1x512x256 .bf16) (x3 : Vec F S1x64 .f32) (x4 : Vec F S1x64 .f32) (x5 : Vec F S1x64 .f32) (x6 : Vec F S1x64 .f32) (x7 : Vec F S128x1 .f32) :
    Σ' (LS0 : List (View.Piece (Elt F) S8x128x256 .f32)), Σ' (LS1 : List (View.Piece (Elt F) S8x1x256 .f32)), { LS2 : List (View.Piece (Elt F) S8x1x256 .f32) //
      ∀ (xs0 : Vec F S8x128x256 .f32) (xs1 : Vec F S8x1x256 .f32) (xs2 : Vec F S8x1x256 .f32) (xi8 : Vec F S1x256x512 .bf16) (E : Set ℕ) (K : PUnit → sProp 𝕄),
        iprop(tbPt c tbM0 tb0 ∗ tbPt c tbM1 tb1 ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare xi8 ∗ owns (c : Thread nD τ) arg14 fullShare xs0 ∗ owns (c : Thread nD τ) arg15 fullShare xs1 ∗ owns (c : Thread nD τ) arg16 fullShare xs2
            ∗ (iprop(tbPt c tbM0 tb0 ∗ tbPt c tbM1 tb1 ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare xi8 ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2)) -∗ K ⟨⟩))
          ⊢ wp frame (wpE (defs₀ (F := F)) Variants.none c none) E (cc0_diff_attn i tbM0 (Memref.isWhole_whole _) tbM1 (Memref.isWhole_whole _) arg5 harg5 arg6 harg6 arg7 harg7 arg8 harg8 arg9 harg9 arg10 harg10 arg11 harg11 arg12 harg12 arg13 harg13 arg14 harg14 arg15 harg15 arg16 harg16) K } := by
  refine ⟨?_, ?_, ?_, fun xs0 xs1 xs2 xi8 E K => ?run⟩
  case run =>
    simp only [cc0_diff_attn_eq_skeleton]; unfold cc0_diff_attn_skel
    simp only [k0_part9_eq_skeleton, k0_part10_eq_skeleton, k0_part11_eq_skeleton, k0_part12_eq_skeleton, k0_part13_eq_skeleton, k0_part14_eq_skeleton, k0_part15_eq_skeleton, k0_part16_eq_skeleton]
    unfold owns tbPt
    unfold smemLoad
    rw [smemLoadElt_bind]
    iintro ⟨T0, T1, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8
    obtain rfl := harg14.eq_unread hfs0; obtain rfl := harg15.eq_unread hfs1; obtain rfl := harg16.eq_unread hfs2
    named_smem T0 v1 hv1
    rw [ret_then, smemLoadElt_bind]
    named_smem T1 v3 hv3
    rw [ret_then]
    sl_exec (disch := first | sl_exact hc0 | sl_exact hc1 | sl_exact hc2 | sl_exact hc3)
    sl_step
    iapply Hk
    isplitl [T0]; · iexact T0
    isplitl [T1]; · iexact T1
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]
    · iexists _; isplitr; · ipureintro; exact harg13.read_unread _
      iexact H8
    isplitl [HS0]; · iexists _; iexact HS0
    isplitl [HS1]; · iexists _; iexact HS1
    iexists _; iexact HS2

end Cert.DiffAttnIdeal.Hand

end
-- ==== Proof.DiffAttnIdeal.RunA.lean ====
/- The body at a row's only key block: the scratch is initialised, the masked block accumulated, the row written. -/
module

public import proofs.«01_k».proof.Proof.DiffAttnIdeal.RunB
public import proofs.«01_k».proof.Proof.Gen.DiffAttnIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.DiffAttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.DiffAttnIdeal Cert.DiffAttnIdeal.Gen

variable {F : FTy → Type} [FloatOps F] [Named F]

local notation "𝕄" => MT nD τ sig Unit (Elt F) ℕ (UR sig nD τ) ℕ

variable (m : (ℓ : Loc nD τ sig) → Buf (Elt F) ℓ)

set_option maxHeartbeats 1000000 in
/-- The body at a row's only key block: the scratch is initialised, the masked block accumulated, the row written. The body leaves the tables and the staged inputs as it found them and these pieces (last first)
    in the scratch and in the output's buffer. -/
def runA (c : Dev nD) (i : grid0.Coords) (tb0 : TbBuf (F := F) c tbM0) (tb1 : TbBuf (F := F) c tbM1)
    (v1 v3 : BitVec 32) (hv1 : v1 = rd0 (F := F) c tb0 i) (hv3 : v3 = rd1 (F := F) c tb1 i)
    (arg5 : Memref sig .tc .vmem S1x256x512 .bf16) (harg5 : arg5.IsWhole) (arg6 : Memref sig .tc .vmem S1x256x512 .bf16) (harg6 : arg6.IsWhole) (arg7 : Memref sig .tc .vmem S1x512x256 .bf16) (harg7 : arg7.IsWhole) (arg8 : Memref sig .tc .vmem S1x64 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S128x1 .f32) (harg12 : arg12.IsWhole) (arg13 : Memref sig .tc .vmem S1x256x512 .bf16) (harg13 : arg13.IsWhole) (arg14 : Memref sig .tc .vmem S8x128x256 .f32) (harg14 : arg14.IsWhole) (arg15 : Memref sig .tc .vmem S8x1x256 .f32) (harg15 : arg15.IsWhole) (arg16 : Memref sig .tc .vmem S8x1x256 .f32) (harg16 : arg16.IsWhole)
    (hc0 : (Scalar.cmpi .ne (Scalar.extui (Scalar.cmpi .eq v3 0#32) : BitVec 32) 0#32 = 1#1)) (hc1 : (Scalar.cmpi .ne (Scalar.extui (Scalar.cmpi .eq v3 v1) : BitVec 32) 0#32 = 1#1))
    (hc2 : ¬ (Scalar.cmpi .ne (Scalar.extui (Scalar.cmpi .ne v3 v1) : BitVec 32) 0#32 = 1#1)) (hc3 : (k0_cond4 v1 v3 = 1#1))
    (x0 : Vec F S1x256x512 .bf16) (x1 : Vec F S1x256x512 .bf16) (x2 : Vec F S1x512x256 .bf16) (x3 : Vec F S1x64 .f32) (x4 : Vec F S1x64 .f32) (x5 : Vec F S1x64 .f32) (x6 : Vec F S1x64 .f32) (x7 : Vec F S128x1 .f32) :
    Σ' (L8 : List (View.Piece (Elt F) S1x256x512 .bf16)), Σ' (LS0 : List (View.Piece (Elt F) S8x128x256 .f32)), Σ' (LS1 : List (View.Piece (Elt F) S8x1x256 .f32)), { LS2 : List (View.Piece (Elt F) S8x1x256 .f32) //
      ∀ (xs0 : Vec F S8x128x256 .f32) (xs1 : Vec F S8x1x256 .f32) (xs2 : Vec F S8x1x256 .f32) (xi8 : Vec F S1x256x512 .bf16) (E : Set ℕ) (K : PUnit → sProp 𝕄),
        iprop(tbPt c tbM0 tb0 ∗ tbPt c tbM1 tb1 ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ owns (c : Thread nD τ) arg13 fullShare xi8 ∗ owns (c : Thread nD τ) arg14 fullShare xs0 ∗ owns (c : Thread nD τ) arg15 fullShare xs1 ∗ owns (c : Thread nD τ) arg16 fullShare xs2
            ∗ (iprop(tbPt c tbM0 tb0 ∗ tbPt c tbM1 tb1 ∗ owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare x6 ∗ owns (c : Thread nD τ) arg12 fullShare x7 ∗ (∃ f, arg13.view.loc (c : Thread nD τ) ↦[arg13.view.set]{fullShare} arg13.view.writes (Elt F) f L8) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LS2)) -∗ K ⟨⟩))
          ⊢ wp frame (wpE (defs₀ (F := F)) Variants.none c none) E (cc0_diff_attn i tbM0 (Memref.isWhole_whole _) tbM1 (Memref.isWhole_whole _) arg5 harg5 arg6 harg6 arg7 harg7 arg8 harg8 arg9 harg9 arg10 harg10 arg11 harg11 arg12 harg12 arg13 harg13 arg14 harg14 arg15 harg15 arg16 harg16) K } := by
  refine ⟨?_, ?_, ?_, ?_, fun xs0 xs1 xs2 xi8 E K => ?run⟩
  case run =>
    simp only [cc0_diff_attn_eq_skeleton]; unfold cc0_diff_attn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part17_eq_skeleton, k0_part18_eq_skeleton, k0_part19_eq_skeleton, k0_part20_eq_skeleton]
    unfold owns tbPt
    unfold smemLoad
    rw [smemLoadElt_bind]
    iintro ⟨T0, T1, ⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7; obtain rfl := harg13.eq_unread hf8
    obtain rfl := harg14.eq_unread hfs0; obtain rfl := harg15.eq_unread hfs1; obtain rfl := harg16.eq_unread hfs2
    named_smem T0 v1 hv1
    rw [ret_then, smemLoadElt_bind]
    named_smem T1 v3 hv3
    rw [ret_then]
    sl_exec (disch := first | sl_exact hc0 | sl_exact hc1 | sl_exact hc2 | sl_exact hc3)
    sl_step
    iapply Hk
    isplitl [T0]; · iexact T0
    isplitl [T1]; · iexact T1
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    isplitl [H5]
    · iexists _; isplitr; · ipureintro; exact harg10.read_unread _
      iexact H5
    isplitl [H6]
    · iexists _; isplitr; · ipureintro; exact harg11.read_unread _
      iexact H6
    isplitl [H7]
    · iexists _; isplitr; · ipureintro; exact harg12.read_unread _
      iexact H7
    isplitl [H8]; · iexists _; iexact H8
    isplitl [HS0]; · iexists _; iexact HS0
    isplitl [HS1]; · iexists _; iexact HS1
    iexists _; iexact HS2

end Cert.DiffAttnIdeal.Hand

end
-- ==== Proof.DiffAttnIdeal.Sched.lean ====
/- The block schedule: the blocks the tables name lie inside their arrays, and the output's window is written back
   exactly after a row's last step. -/
module

public import proofs.«01_k».proof.Proof.DiffAttnIdeal.Base

@[expose] public section

set_option maxRecDepth 16384

noncomputable section

namespace Cert.DiffAttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.DiffAttnIdeal Cert.DiffAttnIdeal.Gen

variable {F : FTy → Type} [FloatOps F] [Named F]

local notation "𝕄" => MT nD τ sig Unit (Elt F) ℕ (UR sig nD τ) ℕ

variable (m : (ℓ : Loc nD τ sig) → Buf (Elt F) ℓ)

/-- A table's entry at a step's coordinates. -/
theorem at0 (i : grid0.Coords) :
    (tbl (F := F)).at 0 (Rect.unit (s := S528) (k0_off1 i) S1.size (k0_off1_inb i)) numel1_S1 = lit0t (i 2).val :=
  congrArg lit0t (pos528 i _)
theorem at1 (i : grid0.Coords) :
    (tbl (F := F)).at 1 (Rect.unit (s := S528) (k0_off1 i) S1.size (k0_off1_inb i)) numel1_S1 = lit1t (i 2).val :=
  congrArg lit1t (pos528 i _)

theorem i0_lt (i : grid0.Coords) : (i 0).val < 2 := (i 0).isLt
theorem i1_zero (i : grid0.Coords) : (i 1).val = 0 := by have h : (i 1).val < 1 := (i 1).isLt; omega
theorem i2_lt (i : grid0.Coords) : (i 2).val < 528 := (i 2).isLt

theorem toNat_i0 (i : grid0.Coords) : (BitVec.ofNat 32 (i 0).val).toNat = (i 0).val := by
  have h := i0_lt i; rw [BitVec.toNat_ofNat]; exact Nat.mod_eq_of_lt (by omega)

/-- The block indices of the windows the tables move, as numbers. -/
theorem tr0 (i : grid0.Coords) : cc0_transform_0 k0_off1_inb numel1_S1 (tbl (F := F)) i = ![(i 0).val, qN (i 2).val, 3] := by
  have h1 : (i 1).val = 0 := i1_zero i
  funext a
  match a with
  | 0 => exact toNat_i0 i
  | 1 => exact congrArg BitVec.toNat (at0 i)
  | 2 => show (Scalar.addi 3#32 (BitVec.ofNat 32 (i 1).val)).toNat = 3; rw [h1]; rfl
theorem tr1 (i : grid0.Coords) : cc0_transform_1 k0_off1_inb numel1_S1 (tbl (F := F)) i = ![(i 0).val, kN (i 2).val, 4] := by
  have h1 : (i 1).val = 0 := i1_zero i
  funext a
  match a with
  | 0 => exact toNat_i0 i
  | 1 => exact congrArg BitVec.toNat (at1 i)
  | 2 => show (Scalar.addi 4#32 (BitVec.ofNat 32 (i 1).val)).toNat = 4; rw [h1]; rfl
theorem tr2 (i : grid0.Coords) : cc0_transform_2 k0_off1_inb numel1_S1 (tbl (F := F)) i = ![(i 0).val, 0, kN (i 2).val] := by
  have h1 : (i 1).val = 0 := i1_zero i
  funext a
  match a with
  | 0 => exact toNat_i0 i
  | 1 => show (BitVec.ofNat 32 (i 1).val).toNat = 0; rw [h1]; rfl
  | 2 => exact congrArg BitVec.toNat (at1 i)
theorem tr8 (i : grid0.Coords) : cc0_transform_8 k0_off1_inb numel1_S1 (tbl (F := F)) i = ![(i 0).val, qN (i 2).val, 0] := by
  have h1 : (i 1).val = 0 := i1_zero i
  funext a
  match a with
  | 0 => exact toNat_i0 i
  | 1 => exact congrArg BitVec.toNat (at0 i)
  | 2 => show (BitVec.ofNat 32 (i 1).val).toNat = 0; rw [h1]; rfl

/-- The tables pass the region's check: every block they name is inside its array and moves whole words. -/
theorem hok : ok0 (tbl (F := F)) := by
  refine ⟨fun i => ?_, fun i => ?_, fun i => ?_, fun i => ?_⟩
  all_goals
    have h0 := i0_lt i
    have h2 := i2_lt i
    obtain ⟨hq, hk, -⟩ := tri ⟨(i 2).val, h2⟩
    simp only at hq hk
    first | rw [tr0] | rw [tr1] | rw [tr2] | rw [tr8]
  · exact ⟨fun a => by match a with | 0 => show ((i 0).val + 1) * 1 ≤ 2; omega | 1 => show (qN (i 2).val + 1) * 256 ≤ 8192; omega | 2 => show (3 + 1) * 512 ≤ 3072; omega,
      by
      refine .inr (.inl (.inr ⟨by decide, rfl, .inl ⟨Dvd.dvd.mul_left ?_ _, ?_⟩⟩))
      · show (2 : ℕ) ∣ 256; decide
      · show (2 : ℕ) ∣ 256; decide⟩
  · exact ⟨fun a => by match a with | 0 => show ((i 0).val + 1) * 1 ≤ 2; omega | 1 => show (kN (i 2).val + 1) * 256 ≤ 8192; omega | 2 => show (4 + 1) * 512 ≤ 3072; omega,
      by
      refine .inr (.inl (.inr ⟨by decide, rfl, .inl ⟨Dvd.dvd.mul_left ?_ _, ?_⟩⟩))
      · show (2 : ℕ) ∣ 256; decide
      · show (2 : ℕ) ∣ 256; decide⟩
  · exact ⟨fun a => by match a with | 0 => show ((i 0).val + 1) * 1 ≤ 2; omega | 1 => show (0 + 1) * 512 ≤ 512; omega | 2 => show (kN (i 2).val + 1) * 256 ≤ 8192; omega,
      by
      refine .inr (.inl (.inr ⟨by decide, rfl, .inl ⟨Dvd.dvd.mul_left ?_ _, ?_⟩⟩))
      · show (2 : ℕ) ∣ 512; decide
      · show (2 : ℕ) ∣ 512; decide⟩
  · exact ⟨fun a => by match a with | 0 => show ((i 0).val + 1) * 1 ≤ 2; omega | 1 => show (qN (i 2).val + 1) * 256 ≤ 8192; omega | 2 => show (0 + 1) * 512 ≤ 512; omega,
      by
      refine .inr (.inl (.inr ⟨by decide, rfl, .inl ⟨Dvd.dvd.mul_left ?_ _, ?_⟩⟩))
      · show (2 : ℕ) ∣ 256; decide
      · show (2 : ℕ) ∣ 256; decide⟩

/-- The admitted tables, and the pipeline at them. -/
def adm : (pcfg0 (F := F)).Adm := ⟨tbl, hok⟩
abbrev adms : (p : Fin 1) → (pcfgs (F := F) p).Adm := fun _ => adm
abbrev cfgA : Pipeline.Cfg sig Λ₀ := cfg0 (adm (F := F))

/-- The tables as the region finds them are these. -/
theorem hpf (c : Dev nD) (k : Fin 2) : V m c (pre0.ref k) = tbl (F := F) k := by
  match k with
  | 0 => rfl
  | 1 => rfl

/-! ## The coordinates of a point -/

theorem coords_val (t : Fin grid0.N) : (grid0.coords t 0).val = t.val / 528 ∧ (grid0.coords t 1).val = 0 ∧ (grid0.coords t 2).val = t.val % 528 := by
  have hN : t.val < 1056 := lt_of_lt_of_eq t.isLt N_0
  exact ⟨(Pipeline.Grid.coords_val t 0 (S := 528) (B := 2) (by decide) rfl).trans (by omega), i1_zero _,
    (Pipeline.Grid.coords_val t 2 (S := 1) (B := 528) (by decide) rfl).trans (by omega)⟩

/-! ## The conditions of the body -/

/-- A condition widened to a word and tested against zero is the condition. -/
theorem word_test : ∀ b : Bool, (BitVec.ofBool (BitVec.setWidth 32 (BitVec.ofBool b) != 0#32) = 1#1) ↔ b = true := by decide

/-- The conditions as the body computes them, read as equations of words. -/
theorem cond0_iff (v3 : BitVec 32) : (Scalar.cmpi .ne (Scalar.extui (Scalar.cmpi .eq v3 0#32) : BitVec 32) 0#32 = 1#1) ↔ v3 = 0#32 :=
  (word_test (v3 == 0#32)).trans beq_iff_eq
theorem cond1_iff (v1 v3 : BitVec 32) : (Scalar.cmpi .ne (Scalar.extui (Scalar.cmpi .eq v3 v1) : BitVec 32) 0#32 = 1#1) ↔ v3 = v1 :=
  (word_test (v3 == v1)).trans beq_iff_eq
theorem cond2_iff (v1 v3 : BitVec 32) : (Scalar.cmpi .ne (Scalar.extui (Scalar.cmpi .ne v3 v1) : BitVec 32) 0#32 = 1#1) ↔ v3 ≠ v1 :=
  (word_test (v3 != v1)).trans bne_iff_ne
theorem cond3_iff (v1 v3 : BitVec 32) : (k0_cond4 v1 v3 = 1#1) ↔ v3 = v1 := cond1_iff v1 v3

theorem lit_eq_iff (t : ℕ) : lit1t t = lit0t t ↔ kN t = qN t := BitVec.toNat_inj.symm
theorem lit_zero_iff (t : ℕ) : lit1t t = 0#32 ↔ kN t = 0 := BitVec.toNat_inj.symm

/-! ## The output's window: idle and not written back except at a row's last step -/

theorem atD0 (i : grid0.Coords) : (tbl (F := F)).atD 0 (k0_off1 i) = lit0t (i 2).val := by
  have h : ∀ a : Fin 1, k0_off1 i a < S528.size a := fun a => by match a with | 0 => rw [k0_off1_eq]; exact i2_lt i
  refine (dif_pos h).trans ?_
  refine congrArg lit0t ?_
  show (S528.rowMajor (fun a => ⟨k0_off1 i a, h a⟩)).val = (i 2).val
  rw [Shape.rowMajor_val_one]
  exact congrFun (k0_off1_eq i) 0
theorem atD1 (i : grid0.Coords) : (tbl (F := F)).atD 1 (k0_off1 i) = lit1t (i 2).val := by
  have h : ∀ a : Fin 1, k0_off1 i a < S528.size a := fun a => by match a with | 0 => rw [k0_off1_eq]; exact i2_lt i
  refine (dif_pos h).trans ?_
  refine congrArg lit1t ?_
  show (S528.rowMajor (fun a => ⟨k0_off1 i a, h a⟩)).val = (i 2).val
  rw [Shape.rowMajor_val_one]
  exact congrFun (k0_off1_eq i) 0

theorem idle8_eq (i : grid0.Coords) : (cfgA (F := F)).idle 8 i = !(k0_cond4 (lit0t (i 2).val) (lit1t (i 2).val) == 1#1) := by
  rw [← atD0 (F := F) i, ← atD1 (F := F) i]; rfl

/-- The output's window is idle at a step that is not its row's last, and at no other. -/
theorem idle8 (t : Fin (cfgA (F := F)).N) (h : kN (t.val % 528) ≠ qN (t.val % 528)) :
    (cfgA (F := F)).idle 8 (grid0.coords t) = true := by
  rw [idle8_eq, (coords_val t).2.2, Bool.not_eq_true', beq_eq_false_iff_ne, ne_eq, cond3_iff, lit_eq_iff]
  exact h
theorem live8 (t : Fin (cfgA (F := F)).N) (h : kN (t.val % 528) = qN (t.val % 528)) :
    (cfgA (F := F)).idle 8 (grid0.coords t) = false := by
  rw [idle8_eq, (coords_val t).2.2, Bool.not_eq_false', beq_iff_eq, cond3_iff, lit_eq_iff]
  exact h

/-- The output's block at a point. -/
theorem index8 (t : Fin (cfgA (F := F)).N) : ((cfgA (F := F)).win 8).index t = ![t.val / 528, qN (t.val % 528), 0] := by
  rw [← (coords_val t).1, ← (coords_val t).2.2]; exact tr8 (grid0.coords t)

/-- It is not written back at a step that is not its row's last: the next step names the same block. -/
theorem noFlush8 (t : Fin (cfgA (F := F)).N) (h : kN (t.val % 528) ≠ qN (t.val % 528)) :
    ((cfgA (F := F)).win 8).flush t = false := by
  have hN : t.val < 1056 := lt_of_lt_of_eq t.isLt N_0
  obtain ⟨hq, -⟩ := tri_next ⟨t.val % 528, by omega⟩ h
  have hne : t.val % 528 ≠ 527 := fun he => h (by rw [he]; decide +kernel)
  simp only at hq
  unfold Window.flush
  rw [Bool.and_eq_false_iff]; right
  rw [Bool.or_eq_false_iff]
  constructor
  · rw [decide_eq_false_iff_not]; show ¬ t.val + 1 = 1056; omega
  · rw [decide_eq_false_iff_not]
    rintro ⟨hlt, hi⟩
    apply hi
    rw [index8, index8]
    show ![(t.val + 1) / 528, qN ((t.val + 1) % 528), 0] = _
    rw [show (t.val + 1) / 528 = t.val / 528 by omega, show (t.val + 1) % 528 = t.val % 528 + 1 by omega, hq]

end Cert.DiffAttnIdeal.Hand

end
-- ==== Proof.DiffAttnIdeal.Step.lean ====
/- What a point of the attention's grid leaves, as a function of what the point before left, and the body's triple
   at a point in those terms. -/
module

public import proofs.«01_k».proof.Proof.DiffAttnIdeal.RunA
public import proofs.«01_k».proof.Proof.DiffAttnIdeal.Sched
public import proofs.«01_k».proof.Proof.Gen.DiffAttnIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.DiffAttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.DiffAttnIdeal Cert.DiffAttnIdeal.Gen

variable {F : FTy → Type} [FloatOps F] [Named F]

local notation "𝕄" => MT nD τ sig Unit (Elt F) ℕ (UR sig nD τ) ℕ

variable (m : (ℓ : Loc nD τ sig) → Buf (Elt F) ℓ)

/-! ## The memrefs and the blocks at a point -/

def ms0 (t : Fin (cfgA (F := F)).N) : Memref sig .tc .vmem S1x256x512 .bf16 := spec0_0.stage ((cfgA (F := F)).slots t 0)
theorem hs0 (t : Fin (cfgA (F := F)).N) : (ms0 (F := F) t).IsWhole := hstage0_0 (((cfgA (F := F)).slots t 0).cast nbuf0_0)
def ms1 (t : Fin (cfgA (F := F)).N) : Memref sig .tc .vmem S1x256x512 .bf16 := spec0_1.stage ((cfgA (F := F)).slots t 1)
theorem hs1 (t : Fin (cfgA (F := F)).N) : (ms1 (F := F) t).IsWhole := hstage0_1 (((cfgA (F := F)).slots t 1).cast nbuf0_1)
def ms2 (t : Fin (cfgA (F := F)).N) : Memref sig .tc .vmem S1x512x256 .bf16 := spec0_2.stage ((cfgA (F := F)).slots t 2)
theorem hs2 (t : Fin (cfgA (F := F)).N) : (ms2 (F := F) t).IsWhole := hstage0_2 (((cfgA (F := F)).slots t 2).cast nbuf0_2)
def ms3 (t : Fin (cfgA (F := F)).N) : Memref sig .tc .vmem S1x64 .f32 := spec0_3.stage ((cfgA (F := F)).slots t 3)
theorem hs3 (t : Fin (cfgA (F := F)).N) : (ms3 (F := F) t).IsWhole := hstage0_3 (((cfgA (F := F)).slots t 3).cast nbuf0_3)
def ms4 (t : Fin (cfgA (F := F)).N) : Memref sig .tc .vmem S1x64 .f32 := spec0_4.stage ((cfgA (F := F)).slots t 4)
theorem hs4 (t : Fin (cfgA (F := F)).N) : (ms4 (F := F) t).IsWhole := hstage0_4 (((cfgA (F := F)).slots t 4).cast nbuf0_4)
def ms5 (t : Fin (cfgA (F := F)).N) : Memref sig .tc .vmem S1x64 .f32 := spec0_5.stage ((cfgA (F := F)).slots t 5)
theorem hs5 (t : Fin (cfgA (F := F)).N) : (ms5 (F := F) t).IsWhole := hstage0_5 (((cfgA (F := F)).slots t 5).cast nbuf0_5)
def ms6 (t : Fin (cfgA (F := F)).N) : Memref sig .tc .vmem S1x64 .f32 := spec0_6.stage ((cfgA (F := F)).slots t 6)
theorem hs6 (t : Fin (cfgA (F := F)).N) : (ms6 (F := F) t).IsWhole := hstage0_6 (((cfgA (F := F)).slots t 6).cast nbuf0_6)
def ms7 (t : Fin (cfgA (F := F)).N) : Memref sig .tc .vmem S128x1 .f32 := spec0_7.stage ((cfgA (F := F)).slots t 7)
theorem hs7 (t : Fin (cfgA (F := F)).N) : (ms7 (F := F) t).IsWhole := hstage0_7 (((cfgA (F := F)).slots t 7).cast nbuf0_7)
def ms8 (t : Fin (cfgA (F := F)).N) : Memref sig .tc .vmem S1x256x512 .bf16 := spec0_8.stage ((cfgA (F := F)).slots t 8)
theorem hs8 (t : Fin (cfgA (F := F)).N) : (ms8 (F := F) t).IsWhole := hstage0_8 (((cfgA (F := F)).slots t 8).cast nbuf0_8)

/-- Window `w`'s block at point `t`, read off its array as the region finds it. -/
def iblk (c : Dev nD) (w : Fin (cfgA (F := F)).W) (t : Fin (cfgA (F := F)).N) : (((cfgA (F := F)).win w).xblock ((cfgA (F := F)).grid.coords t)).Idx → Elt F ((cfgA (F := F)).win w).elt :=
  (((cfgA (F := F)).win w).blk t).view.read (Elt F) (V m c (Pipeline.arrRef spec0 w))

/-- The scratch between two points: the unnormalised sums, the running maxima, the normalisers. -/
structure Scr (F : FTy → Type) [FloatOps F] where
  s0 : Vec F S8x128x256 .f32
  s1 : Vec F S8x1x256 .f32
  s2 : Vec F S8x1x256 .f32

/-- The tables' buffers on a core. -/
abbrev tb0 (c : Dev nD) : TbBuf (F := F) c tbM0 := tbl (F := F) 0
abbrev tb1 (c : Dev nD) : TbBuf (F := F) c tbM1 := tbl (F := F) 1

/-- The words the body reads at a point. -/
abbrev w0 (t : Fin (cfgA (F := F)).N) : BitVec 32 := lit0t (grid0.coords t 2).val
abbrev w1 (t : Fin (cfgA (F := F)).N) : BitVec 32 := lit1t (grid0.coords t 2).val

/-! The inputs' blocks, at the shapes the body names. -/
def xb0 (c : Dev nD) (t : Fin (cfgA (F := F)).N) : Vec F S1x256x512 .bf16 := iblk m c 0 t
def xb1 (c : Dev nD) (t : Fin (cfgA (F := F)).N) : Vec F S1x256x512 .bf16 := iblk m c 1 t
def xb2 (c : Dev nD) (t : Fin (cfgA (F := F)).N) : Vec F S1x512x256 .bf16 := iblk m c 2 t
def xb3 (c : Dev nD) (t : Fin (cfgA (F := F)).N) : Vec F S1x64 .f32 := iblk m c 3 t
def xb4 (c : Dev nD) (t : Fin (cfgA (F := F)).N) : Vec F S1x64 .f32 := iblk m c 4 t
def xb5 (c : Dev nD) (t : Fin (cfgA (F := F)).N) : Vec F S1x64 .f32 := iblk m c 5 t
def xb6 (c : Dev nD) (t : Fin (cfgA (F := F)).N) : Vec F S1x64 .f32 := iblk m c 6 t
def xb7 (c : Dev nD) (t : Fin (cfgA (F := F)).N) : Vec F S128x1 .f32 := iblk m c 7 t

/-- The run at a row's only key block. -/
def atA (c : Dev nD) (t : Fin (cfgA (F := F)).N) (h0 : w1 t = 0#32) (h1 : w1 t = w0 t) :=
  runA (F := F) c (grid0.coords t) (tb0 c) (tb1 c) (w0 t) (w1 t) (rd0_eq c _).symm (rd1_eq c _).symm (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) scM2 (Memref.isWhole_whole _) ((cond0_iff _).mpr h0) ((cond1_iff _ _).mpr h1) (fun h => (cond2_iff _ _).mp h h1) ((cond3_iff _ _).mpr h1) (xb0 m c t) (xb1 m c t) (xb2 m c t) (xb3 m c t) (xb4 m c t) (xb5 m c t) (xb6 m c t) (xb7 m c t)

/-- The run at a row's first key block, not its last. -/
def atB (c : Dev nD) (t : Fin (cfgA (F := F)).N) (h0 : w1 t = 0#32) (h1 : ¬ w1 t = w0 t) :=
  runB (F := F) c (grid0.coords t) (tb0 c) (tb1 c) (w0 t) (w1 t) (rd0_eq c _).symm (rd1_eq c _).symm (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) scM2 (Memref.isWhole_whole _) ((cond0_iff _).mpr h0) (fun h => h1 ((cond1_iff _ _).mp h)) ((cond2_iff _ _).mpr h1) (fun h => h1 ((cond3_iff _ _).mp h)) (xb0 m c t) (xb1 m c t) (xb2 m c t) (xb3 m c t) (xb4 m c t) (xb5 m c t) (xb6 m c t) (xb7 m c t)

/-- The run at a row's last key block, not its first. -/
def atC (c : Dev nD) (t : Fin (cfgA (F := F)).N) (h0 : ¬ w1 t = 0#32) (h1 : w1 t = w0 t) (s : Scr F) :=
  runC (F := F) c (grid0.coords t) (tb0 c) (tb1 c) (w0 t) (w1 t) (rd0_eq c _).symm (rd1_eq c _).symm (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) scM2 (Memref.isWhole_whole _) (fun h => h0 ((cond0_iff _).mp h)) ((cond1_iff _ _).mpr h1) (fun h => (cond2_iff _ _).mp h h1) ((cond3_iff _ _).mpr h1) (xb0 m c t) (xb1 m c t) (xb2 m c t) (xb3 m c t) (xb4 m c t) (xb5 m c t) (xb6 m c t) (xb7 m c t) s.s0 s.s1 s.s2

/-- The run at a key block between a row's first and last. -/
def atD (c : Dev nD) (t : Fin (cfgA (F := F)).N) (h0 : ¬ w1 t = 0#32) (h1 : ¬ w1 t = w0 t) (s : Scr F) :=
  runD (F := F) c (grid0.coords t) (tb0 c) (tb1 c) (w0 t) (w1 t) (rd0_eq c _).symm (rd1_eq c _).symm (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) scM2 (Memref.isWhole_whole _) (fun h => h0 ((cond0_iff _).mp h)) (fun h => h1 ((cond1_iff _ _).mp h)) ((cond2_iff _ _).mpr h1) (fun h => h1 ((cond3_iff _ _).mp h)) (xb0 m c t) (xb1 m c t) (xb2 m c t) (xb3 m c t) (xb4 m c t) (xb5 m c t) (xb6 m c t) (xb7 m c t) s.s0 s.s1 s.s2

theorem covA0 (c : Dev nD) (t : Fin (cfgA (F := F)).N) (h0 : w1 t = 0#32) (h1 : w1 t = w0 t) (y : S8x128x256.Idx) : ∃ p ∈ (atA m c t h0 h1).2.1, y ∈ p.1.set :=
  View.cover_of_wholeMem (atA m c t h0 h1).2.1 (by sl_whole_mem) y
theorem covA1 (c : Dev nD) (t : Fin (cfgA (F := F)).N) (h0 : w1 t = 0#32) (h1 : w1 t = w0 t) (y : S8x1x256.Idx) : ∃ p ∈ (atA m c t h0 h1).2.2.1, y ∈ p.1.set :=
  View.cover_of_wholeMem (atA m c t h0 h1).2.2.1 (by sl_whole_mem) y
theorem covA2 (c : Dev nD) (t : Fin (cfgA (F := F)).N) (h0 : w1 t = 0#32) (h1 : w1 t = w0 t) (y : S8x1x256.Idx) : ∃ p ∈ (atA m c t h0 h1).2.2.2.1, y ∈ p.1.set :=
  View.cover_of_wholeMem (atA m c t h0 h1).2.2.2.1 (by sl_whole_mem) y
theorem covA8 (c : Dev nD) (t : Fin (cfgA (F := F)).N) (h0 : w1 t = 0#32) (h1 : w1 t = w0 t) (y : S1x256x512.Idx) : ∃ p ∈ (atA m c t h0 h1).1, y ∈ p.1.set :=
  View.cover_of_tiledL (atA m c t h0 h1).1 S1x256x128.size (by sl_kernel_rfl) y
theorem covB0 (c : Dev nD) (t : Fin (cfgA (F := F)).N) (h0 : w1 t = 0#32) (h1 : ¬ w1 t = w0 t) (y : S8x128x256.Idx) : ∃ p ∈ (atB m c t h0 h1).1, y ∈ p.1.set :=
  View.cover_of_wholeMem (atB m c t h0 h1).1 (by sl_whole_mem) y
theorem covB1 (c : Dev nD) (t : Fin (cfgA (F := F)).N) (h0 : w1 t = 0#32) (h1 : ¬ w1 t = w0 t) (y : S8x1x256.Idx) : ∃ p ∈ (atB m c t h0 h1).2.1, y ∈ p.1.set :=
  View.cover_of_wholeMem (atB m c t h0 h1).2.1 (by sl_whole_mem) y
theorem covB2 (c : Dev nD) (t : Fin (cfgA (F := F)).N) (h0 : w1 t = 0#32) (h1 : ¬ w1 t = w0 t) (y : S8x1x256.Idx) : ∃ p ∈ (atB m c t h0 h1).2.2.1, y ∈ p.1.set :=
  View.cover_of_wholeMem (atB m c t h0 h1).2.2.1 (by sl_whole_mem) y
theorem covC0 (c : Dev nD) (t : Fin (cfgA (F := F)).N) (h0 : ¬ w1 t = 0#32) (h1 : w1 t = w0 t) (s : Scr F) (y : S8x128x256.Idx) : ∃ p ∈ (atC m c t h0 h1 s).2.1, y ∈ p.1.set :=
  View.cover_of_tiledL (atC m c t h0 h1 s).2.1 S1x128x256.size (by sl_kernel_rfl) y
theorem covC1 (c : Dev nD) (t : Fin (cfgA (F := F)).N) (h0 : ¬ w1 t = 0#32) (h1 : w1 t = w0 t) (s : Scr F) (y : S8x1x256.Idx) : ∃ p ∈ (atC m c t h0 h1 s).2.2.1, y ∈ p.1.set :=
  View.cover_of_tiledL (atC m c t h0 h1 s).2.2.1 S1x1x256.size (by sl_kernel_rfl) y
theorem covC2 (c : Dev nD) (t : Fin (cfgA (F := F)).N) (h0 : ¬ w1 t = 0#32) (h1 : w1 t = w0 t) (s : Scr F) (y : S8x1x256.Idx) : ∃ p ∈ (atC m c t h0 h1 s).2.2.2.1, y ∈ p.1.set :=
  View.cover_of_tiledL (atC m c t h0 h1 s).2.2.2.1 S1x1x256.size (by sl_kernel_rfl) y
theorem covC8 (c : Dev nD) (t : Fin (cfgA (F := F)).N) (h0 : ¬ w1 t = 0#32) (h1 : w1 t = w0 t) (s : Scr F) (y : S1x256x512.Idx) : ∃ p ∈ (atC m c t h0 h1 s).1, y ∈ p.1.set :=
  View.cover_of_tiledL (atC m c t h0 h1 s).1 S1x256x128.size (by sl_kernel_rfl) y
theorem covD0 (c : Dev nD) (t : Fin (cfgA (F := F)).N) (h0 : ¬ w1 t = 0#32) (h1 : ¬ w1 t = w0 t) (s : Scr F) (y : S8x128x256.Idx) : ∃ p ∈ (atD m c t h0 h1 s).1, y ∈ p.1.set :=
  View.cover_of_tiledL (atD m c t h0 h1 s).1 S1x128x256.size (by sl_kernel_rfl) y
theorem covD1 (c : Dev nD) (t : Fin (cfgA (F := F)).N) (h0 : ¬ w1 t = 0#32) (h1 : ¬ w1 t = w0 t) (s : Scr F) (y : S8x1x256.Idx) : ∃ p ∈ (atD m c t h0 h1 s).2.1, y ∈ p.1.set :=
  View.cover_of_tiledL (atD m c t h0 h1 s).2.1 S1x1x256.size (by sl_kernel_rfl) y
theorem covD2 (c : Dev nD) (t : Fin (cfgA (F := F)).N) (h0 : ¬ w1 t = 0#32) (h1 : ¬ w1 t = w0 t) (s : Scr F) (y : S8x1x256.Idx) : ∃ p ∈ (atD m c t h0 h1 s).2.2.1, y ∈ p.1.set :=
  View.cover_of_tiledL (atD m c t h0 h1 s).2.2.1 S1x1x256.size (by sl_kernel_rfl) y
/-- The scratch it leaves. -/
def nxA (c : Dev nD) (t : Fin (cfgA (F := F)).N) (h0 : w1 t = 0#32) (h1 : w1 t = w0 t) : Scr F :=
  ⟨View.canon (atA m c t h0 h1).2.1, View.canon (atA m c t h0 h1).2.2.1, View.canon (atA m c t h0 h1).2.2.2.1⟩
theorem nxA_0 (c : Dev nD) (t : Fin (cfgA (F := F)).N) (h0 : w1 t = 0#32) (h1 : w1 t = w0 t) : View.canon (atA m c t h0 h1).2.1 = (nxA m c t h0 h1).s0 := by unfold nxA; rfl
theorem nxA_1 (c : Dev nD) (t : Fin (cfgA (F := F)).N) (h0 : w1 t = 0#32) (h1 : w1 t = w0 t) : View.canon (atA m c t h0 h1).2.2.1 = (nxA m c t h0 h1).s1 := by unfold nxA; rfl
theorem nxA_2 (c : Dev nD) (t : Fin (cfgA (F := F)).N) (h0 : w1 t = 0#32) (h1 : w1 t = w0 t) : View.canon (atA m c t h0 h1).2.2.2.1 = (nxA m c t h0 h1).s2 := by unfold nxA; rfl
theorem rdA_0 (c : Dev nD) (t : Fin (cfgA (F := F)).N) (h0 : w1 t = 0#32) (h1 : w1 t = w0 t) (v : View sig .tc .vmem S8x128x256 .f32) (f : v.ty.Contents (Elt F)) : v.read (Elt F) (v.writes (Elt F) f (atA m c t h0 h1).2.1) = (nxA m c t h0 h1).s0 :=
  (View.read_writes_eq_canon v f _ (covA0 m c t h0 h1)).trans (nxA_0 m c t h0 h1)
theorem rdA_1 (c : Dev nD) (t : Fin (cfgA (F := F)).N) (h0 : w1 t = 0#32) (h1 : w1 t = w0 t) (v : View sig .tc .vmem S8x1x256 .f32) (f : v.ty.Contents (Elt F)) : v.read (Elt F) (v.writes (Elt F) f (atA m c t h0 h1).2.2.1) = (nxA m c t h0 h1).s1 :=
  (View.read_writes_eq_canon v f _ (covA1 m c t h0 h1)).trans (nxA_1 m c t h0 h1)
theorem rdA_2 (c : Dev nD) (t : Fin (cfgA (F := F)).N) (h0 : w1 t = 0#32) (h1 : w1 t = w0 t) (v : View sig .tc .vmem S8x1x256 .f32) (f : v.ty.Contents (Elt F)) : v.read (Elt F) (v.writes (Elt F) f (atA m c t h0 h1).2.2.2.1) = (nxA m c t h0 h1).s2 :=
  (View.read_writes_eq_canon v f _ (covA2 m c t h0 h1)).trans (nxA_2 m c t h0 h1)
/-- The row it writes. -/
def outA (c : Dev nD) (t : Fin (cfgA (F := F)).N) (h0 : w1 t = 0#32) (h1 : w1 t = w0 t) : Vec F S1x256x512 .bf16 := View.canon (atA m c t h0 h1).1
theorem rdA_8 (c : Dev nD) (t : Fin (cfgA (F := F)).N) (h0 : w1 t = 0#32) (h1 : w1 t = w0 t) (v : View sig .tc .vmem S1x256x512 .bf16) (f : v.ty.Contents (Elt F)) : v.read (Elt F) (v.writes (Elt F) f (atA m c t h0 h1).1) = outA m c t h0 h1 := by
  unfold outA; exact View.read_writes_eq_canon v f _ (covA8 m c t h0 h1)
/-- The scratch it leaves. -/
def nxB (c : Dev nD) (t : Fin (cfgA (F := F)).N) (h0 : w1 t = 0#32) (h1 : ¬ w1 t = w0 t) : Scr F :=
  ⟨View.canon (atB m c t h0 h1).1, View.canon (atB m c t h0 h1).2.1, View.canon (atB m c t h0 h1).2.2.1⟩
theorem nxB_0 (c : Dev nD) (t : Fin (cfgA (F := F)).N) (h0 : w1 t = 0#32) (h1 : ¬ w1 t = w0 t) : View.canon (atB m c t h0 h1).1 = (nxB m c t h0 h1).s0 := by unfold nxB; rfl
theorem nxB_1 (c : Dev nD) (t : Fin (cfgA (F := F)).N) (h0 : w1 t = 0#32) (h1 : ¬ w1 t = w0 t) : View.canon (atB m c t h0 h1).2.1 = (nxB m c t h0 h1).s1 := by unfold nxB; rfl
theorem nxB_2 (c : Dev nD) (t : Fin (cfgA (F := F)).N) (h0 : w1 t = 0#32) (h1 : ¬ w1 t = w0 t) : View.canon (atB m c t h0 h1).2.2.1 = (nxB m c t h0 h1).s2 := by unfold nxB; rfl
theorem rdB_0 (c : Dev nD) (t : Fin (cfgA (F := F)).N) (h0 : w1 t = 0#32) (h1 : ¬ w1 t = w0 t) (v : View sig .tc .vmem S8x128x256 .f32) (f : v.ty.Contents (Elt F)) : v.read (Elt F) (v.writes (Elt F) f (atB m c t h0 h1).1) = (nxB m c t h0 h1).s0 :=
  (View.read_writes_eq_canon v f _ (covB0 m c t h0 h1)).trans (nxB_0 m c t h0 h1)
theorem rdB_1 (c : Dev nD) (t : Fin (cfgA (F := F)).N) (h0 : w1 t = 0#32) (h1 : ¬ w1 t = w0 t) (v : View sig .tc .vmem S8x1x256 .f32) (f : v.ty.Contents (Elt F)) : v.read (Elt F) (v.writes (Elt F) f (atB m c t h0 h1).2.1) = (nxB m c t h0 h1).s1 :=
  (View.read_writes_eq_canon v f _ (covB1 m c t h0 h1)).trans (nxB_1 m c t h0 h1)
theorem rdB_2 (c : Dev nD) (t : Fin (cfgA (F := F)).N) (h0 : w1 t = 0#32) (h1 : ¬ w1 t = w0 t) (v : View sig .tc .vmem S8x1x256 .f32) (f : v.ty.Contents (Elt F)) : v.read (Elt F) (v.writes (Elt F) f (atB m c t h0 h1).2.2.1) = (nxB m c t h0 h1).s2 :=
  (View.read_writes_eq_canon v f _ (covB2 m c t h0 h1)).trans (nxB_2 m c t h0 h1)
/-- The scratch it leaves. -/
def nxC (c : Dev nD) (t : Fin (cfgA (F := F)).N) (h0 : ¬ w1 t = 0#32) (h1 : w1 t = w0 t) (s : Scr F) : Scr F :=
  ⟨View.canon (atC m c t h0 h1 s).2.1, View.canon (atC m c t h0 h1 s).2.2.1, View.canon (atC m c t h0 h1 s).2.2.2.1⟩
theorem nxC_0 (c : Dev nD) (t : Fin (cfgA (F := F)).N) (h0 : ¬ w1 t = 0#32) (h1 : w1 t = w0 t) (s : Scr F) : View.canon (atC m c t h0 h1 s).2.1 = (nxC m c t h0 h1 s).s0 := by unfold nxC; rfl
theorem nxC_1 (c : Dev nD) (t : Fin (cfgA (F := F)).N) (h0 : ¬ w1 t = 0#32) (h1 : w1 t = w0 t) (s : Scr F) : View.canon (atC m c t h0 h1 s).2.2.1 = (nxC m c t h0 h1 s).s1 := by unfold nxC; rfl
theorem nxC_2 (c : Dev nD) (t : Fin (cfgA (F := F)).N) (h0 : ¬ w1 t = 0#32) (h1 : w1 t = w0 t) (s : Scr F) : View.canon (atC m c t h0 h1 s).2.2.2.1 = (nxC m c t h0 h1 s).s2 := by unfold nxC; rfl
theorem rdC_0 (c : Dev nD) (t : Fin (cfgA (F := F)).N) (h0 : ¬ w1 t = 0#32) (h1 : w1 t = w0 t) (s : Scr F) (v : View sig .tc .vmem S8x128x256 .f32) (f : v.ty.Contents (Elt F)) : v.read (Elt F) (v.writes (Elt F) f (atC m c t h0 h1 s).2.1) = (nxC m c t h0 h1 s).s0 :=
  (View.read_writes_eq_canon v f _ (covC0 m c t h0 h1 s)).trans (nxC_0 m c t h0 h1 s)
theorem rdC_1 (c : Dev nD) (t : Fin (cfgA (F := F)).N) (h0 : ¬ w1 t = 0#32) (h1 : w1 t = w0 t) (s : Scr F) (v : View sig .tc .vmem S8x1x256 .f32) (f : v.ty.Contents (Elt F)) : v.read (Elt F) (v.writes (Elt F) f (atC m c t h0 h1 s).2.2.1) = (nxC m c t h0 h1 s).s1 :=
  (View.read_writes_eq_canon v f _ (covC1 m c t h0 h1 s)).trans (nxC_1 m c t h0 h1 s)
theorem rdC_2 (c : Dev nD) (t : Fin (cfgA (F := F)).N) (h0 : ¬ w1 t = 0#32) (h1 : w1 t = w0 t) (s : Scr F) (v : View sig .tc .vmem S8x1x256 .f32) (f : v.ty.Contents (Elt F)) : v.read (Elt F) (v.writes (Elt F) f (atC m c t h0 h1 s).2.2.2.1) = (nxC m c t h0 h1 s).s2 :=
  (View.read_writes_eq_canon v f _ (covC2 m c t h0 h1 s)).trans (nxC_2 m c t h0 h1 s)
/-- The row it writes. -/
def outC (c : Dev nD) (t : Fin (cfgA (F := F)).N) (h0 : ¬ w1 t = 0#32) (h1 : w1 t = w0 t) (s : Scr F) : Vec F S1x256x512 .bf16 := View.canon (atC m c t h0 h1 s).1
theorem rdC_8 (c : Dev nD) (t : Fin (cfgA (F := F)).N) (h0 : ¬ w1 t = 0#32) (h1 : w1 t = w0 t) (s : Scr F) (v : View sig .tc .vmem S1x256x512 .bf16) (f : v.ty.Contents (Elt F)) : v.read (Elt F) (v.writes (Elt F) f (atC m c t h0 h1 s).1) = outC m c t h0 h1 s := by
  unfold outC; exact View.read_writes_eq_canon v f _ (covC8 m c t h0 h1 s)
/-- The scratch it leaves. -/
def nxD (c : Dev nD) (t : Fin (cfgA (F := F)).N) (h0 : ¬ w1 t = 0#32) (h1 : ¬ w1 t = w0 t) (s : Scr F) : Scr F :=
  ⟨View.canon (atD m c t h0 h1 s).1, View.canon (atD m c t h0 h1 s).2.1, View.canon (atD m c t h0 h1 s).2.2.1⟩
theorem nxD_0 (c : Dev nD) (t : Fin (cfgA (F := F)).N) (h0 : ¬ w1 t = 0#32) (h1 : ¬ w1 t = w0 t) (s : Scr F) : View.canon (atD m c t h0 h1 s).1 = (nxD m c t h0 h1 s).s0 := by unfold nxD; rfl
theorem nxD_1 (c : Dev nD) (t : Fin (cfgA (F := F)).N) (h0 : ¬ w1 t = 0#32) (h1 : ¬ w1 t = w0 t) (s : Scr F) : View.canon (atD m c t h0 h1 s).2.1 = (nxD m c t h0 h1 s).s1 := by unfold nxD; rfl
theorem nxD_2 (c : Dev nD) (t : Fin (cfgA (F := F)).N) (h0 : ¬ w1 t = 0#32) (h1 : ¬ w1 t = w0 t) (s : Scr F) : View.canon (atD m c t h0 h1 s).2.2.1 = (nxD m c t h0 h1 s).s2 := by unfold nxD; rfl
theorem rdD_0 (c : Dev nD) (t : Fin (cfgA (F := F)).N) (h0 : ¬ w1 t = 0#32) (h1 : ¬ w1 t = w0 t) (s : Scr F) (v : View sig .tc .vmem S8x128x256 .f32) (f : v.ty.Contents (Elt F)) : v.read (Elt F) (v.writes (Elt F) f (atD m c t h0 h1 s).1) = (nxD m c t h0 h1 s).s0 :=
  (View.read_writes_eq_canon v f _ (covD0 m c t h0 h1 s)).trans (nxD_0 m c t h0 h1 s)
theorem rdD_1 (c : Dev nD) (t : Fin (cfgA (F := F)).N) (h0 : ¬ w1 t = 0#32) (h1 : ¬ w1 t = w0 t) (s : Scr F) (v : View sig .tc .vmem S8x1x256 .f32) (f : v.ty.Contents (Elt F)) : v.read (Elt F) (v.writes (Elt F) f (atD m c t h0 h1 s).2.1) = (nxD m c t h0 h1 s).s1 :=
  (View.read_writes_eq_canon v f _ (covD1 m c t h0 h1 s)).trans (nxD_1 m c t h0 h1 s)
theorem rdD_2 (c : Dev nD) (t : Fin (cfgA (F := F)).N) (h0 : ¬ w1 t = 0#32) (h1 : ¬ w1 t = w0 t) (s : Scr F) (v : View sig .tc .vmem S8x1x256 .f32) (f : v.ty.Contents (Elt F)) : v.read (Elt F) (v.writes (Elt F) f (atD m c t h0 h1 s).2.2.1) = (nxD m c t h0 h1 s).s2 :=
  (View.read_writes_eq_canon v f _ (covD2 m c t h0 h1 s)).trans (nxD_2 m c t h0 h1 s)

/-- The scratch after point `t`, of what it held before. -/
def nextS (c : Dev nD) (t : Fin (cfgA (F := F)).N) (s : Scr F) : Scr F :=
  if h0 : w1 t = 0#32 then (if h1 : w1 t = w0 t then nxA m c t h0 h1 else nxB m c t h0 h1)
  else (if h1 : w1 t = w0 t then nxC m c t h0 h1 s else nxD m c t h0 h1 s)

/-- The output's block after a row's last point `t`, of what the scratch held before (at another point nothing is
    written and nothing said). -/
def outS (c : Dev nD) (t : Fin (cfgA (F := F)).N) (s : Scr F) : Vec F S1x256x512 .bf16 :=
  if h1 : w1 t = w0 t then (if h0 : w1 t = 0#32 then outA m c t h0 h1 else outC m c t h0 h1 s)
  else xb0 m c t

theorem nextS_A (c : Dev nD) (t : Fin (cfgA (F := F)).N) (h0 : w1 t = 0#32) (h1 : w1 t = w0 t) (s : Scr F) : nextS m c t s = nxA m c t h0 h1 :=
  (dif_pos h0).trans (dif_pos h1)
theorem nextS_B (c : Dev nD) (t : Fin (cfgA (F := F)).N) (h0 : w1 t = 0#32) (h1 : ¬ w1 t = w0 t) (s : Scr F) : nextS m c t s = nxB m c t h0 h1 :=
  (dif_pos h0).trans (dif_neg h1)
theorem nextS_C (c : Dev nD) (t : Fin (cfgA (F := F)).N) (h0 : ¬ w1 t = 0#32) (h1 : w1 t = w0 t) (s : Scr F) : nextS m c t s = nxC m c t h0 h1 s :=
  (dif_neg h0).trans (dif_pos h1)
theorem nextS_D (c : Dev nD) (t : Fin (cfgA (F := F)).N) (h0 : ¬ w1 t = 0#32) (h1 : ¬ w1 t = w0 t) (s : Scr F) : nextS m c t s = nxD m c t h0 h1 s :=
  (dif_neg h0).trans (dif_neg h1)
theorem outS_A (c : Dev nD) (t : Fin (cfgA (F := F)).N) (h0 : w1 t = 0#32) (h1 : w1 t = w0 t) (s : Scr F) : outS m c t s = outA m c t h0 h1 :=
  (dif_pos h1).trans (dif_pos h0)
theorem outS_C (c : Dev nD) (t : Fin (cfgA (F := F)).N) (h0 : ¬ w1 t = 0#32) (h1 : w1 t = w0 t) (s : Scr F) : outS m c t s = outC m c t h0 h1 s :=
  (dif_pos h1).trans (dif_neg h0)

/-- At a row's first point what was before does not matter. -/
theorem nextS_first (c : Dev nD) (t : Fin (cfgA (F := F)).N) (h0 : w1 t = 0#32) (s s' : Scr F) : nextS m c t s = nextS m c t s' := by
  by_cases h1 : w1 t = w0 t
  · rw [nextS_A m c t h0 h1, nextS_A m c t h0 h1]
  · rw [nextS_B m c t h0 h1, nextS_B m c t h0 h1]
theorem outS_first (c : Dev nD) (t : Fin (cfgA (F := F)).N) (h0 : w1 t = 0#32) (s s' : Scr F) : outS m c t s = outS m c t s' := by
  by_cases h1 : w1 t = w0 t
  · rw [outS_A m c t h0 h1, outS_A m c t h0 h1]
  · unfold outS; rw [dif_neg h1, dif_neg h1]

/-- The body at point `t` as the pipeline calls it. -/
abbrev bodyAt (t : Fin (cfgA (F := F)).N) :=
  cc0_diff_attn (F := F) (grid0.coords t) tbM0 (Memref.isWhole_whole _) tbM1 (Memref.isWhole_whole _) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scM0 (Memref.isWhole_whole _) scM1 (Memref.isWhole_whole _) scM2 (Memref.isWhole_whole _)

end Cert.DiffAttnIdeal.Hand

end
-- ==== Proof.DiffAttnIdeal.Body.lean ====
/- The body's triple at a point of the attention's grid. -/
module

public import proofs.«01_k».proof.Proof.DiffAttnIdeal.Step
public import proofs.«01_k».proof.Proof.Gen.DiffAttnIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.DiffAttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.DiffAttnIdeal Cert.DiffAttnIdeal.Gen

variable {F : FTy → Type} [FloatOps F] [Named F]

local notation "𝕄" => MT nD τ sig Unit (Elt F) ℕ (UR sig nD τ) ℕ

variable (m : (ℓ : Loc nD τ sig) → Buf (Elt F) ℓ)

set_option maxHeartbeats 400000 in
/-- The body at a row's only key block. -/
theorem bodyA (c : Dev nD) (t : Fin (cfgA (F := F)).N) (h0 : w1 t = 0#32) (h1 : w1 t = w0 t) (s : Scr F) (x8 : Vec F S1x256x512 .bf16) (E : Set ℕ) (K : PUnit → sProp 𝕄) :
    iprop(tbPt c tbM0 (tb0 (F := F) c) ∗ tbPt c tbM1 (tb1 (F := F) c) ∗ owns (c : Thread nD τ) (ms0 t) fullShare (xb0 m c t) ∗ owns (c : Thread nD τ) (ms1 t) fullShare (xb1 m c t) ∗ owns (c : Thread nD τ) (ms2 t) fullShare (xb2 m c t) ∗ owns (c : Thread nD τ) (ms3 t) fullShare (xb3 m c t) ∗ owns (c : Thread nD τ) (ms4 t) fullShare (xb4 m c t) ∗ owns (c : Thread nD τ) (ms5 t) fullShare (xb5 m c t) ∗ owns (c : Thread nD τ) (ms6 t) fullShare (xb6 m c t) ∗ owns (c : Thread nD τ) (ms7 t) fullShare (xb7 m c t) ∗ owns (c : Thread nD τ) (ms8 t) fullShare x8 ∗ owns (c : Thread nD τ) scM0 fullShare s.s0 ∗ owns (c : Thread nD τ) scM1 fullShare s.s1 ∗ owns (c : Thread nD τ) scM2 fullShare s.s2
      ∗ (iprop(tbPt c tbM0 (tb0 (F := F) c) ∗ tbPt c tbM1 (tb1 (F := F) c) ∗ owns (c : Thread nD τ) (ms0 t) fullShare (xb0 m c t) ∗ owns (c : Thread nD τ) (ms1 t) fullShare (xb1 m c t) ∗ owns (c : Thread nD τ) (ms2 t) fullShare (xb2 m c t) ∗ owns (c : Thread nD τ) (ms3 t) fullShare (xb3 m c t) ∗ owns (c : Thread nD τ) (ms4 t) fullShare (xb4 m c t) ∗ owns (c : Thread nD τ) (ms5 t) fullShare (xb5 m c t) ∗ owns (c : Thread nD τ) (ms6 t) fullShare (xb6 m c t) ∗ owns (c : Thread nD τ) (ms7 t) fullShare (xb7 m c t) ∗ owns (c : Thread nD τ) (ms8 t) fullShare (outA m c t h0 h1) ∗ owns (c : Thread nD τ) scM0 fullShare (nxA m c t h0 h1).s0 ∗ owns (c : Thread nD τ) scM1 fullShare (nxA m c t h0 h1).s1 ∗ owns (c : Thread nD τ) scM2 fullShare (nxA m c t h0 h1).s2) -∗ K ⟨⟩))
    ⊢ wp frame (wpE (defs₀ (F := F)) Variants.none c none) E (bodyAt t) K := by
  iintro ⟨T0, T1, H0, H1, H2, H3, H4, H5, H6, H7, H8, HS0, HS1, HS2, Hk⟩
  iapply (atA m c t h0 h1).2.2.2.2 s.s0 s.s1 s.s2 x8 E K
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨T0, T1, H0, H1, H2, H3, H4, H5, H6, H7, ⟨%e8, H8⟩, ⟨%e0, HS0⟩, ⟨%e1, HS1⟩, ⟨%e2, HS2⟩⟩
  iapply Hk
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact rdA_8 m c t h0 h1 _ _
  isplitl [HS0]
  · unfold owns; iexists _; isplitr
    swap; · iexact HS0
    ipureintro; exact rdA_0 m c t h0 h1 _ _
  isplitl [HS1]
  · unfold owns; iexists _; isplitr
    swap; · iexact HS1
    ipureintro; exact rdA_1 m c t h0 h1 _ _
  unfold owns; iexists _; isplitr
  swap; · iexact HS2
  ipureintro; exact rdA_2 m c t h0 h1 _ _

set_option maxHeartbeats 400000 in
/-- The body at a row's first key block, not its last. -/
theorem bodyB (c : Dev nD) (t : Fin (cfgA (F := F)).N) (h0 : w1 t = 0#32) (h1 : ¬ w1 t = w0 t) (s : Scr F) (x8 : Vec F S1x256x512 .bf16) (E : Set ℕ) (K : PUnit → sProp 𝕄) :
    iprop(tbPt c tbM0 (tb0 (F := F) c) ∗ tbPt c tbM1 (tb1 (F := F) c) ∗ owns (c : Thread nD τ) (ms0 t) fullShare (xb0 m c t) ∗ owns (c : Thread nD τ) (ms1 t) fullShare (xb1 m c t) ∗ owns (c : Thread nD τ) (ms2 t) fullShare (xb2 m c t) ∗ owns (c : Thread nD τ) (ms3 t) fullShare (xb3 m c t) ∗ owns (c : Thread nD τ) (ms4 t) fullShare (xb4 m c t) ∗ owns (c : Thread nD τ) (ms5 t) fullShare (xb5 m c t) ∗ owns (c : Thread nD τ) (ms6 t) fullShare (xb6 m c t) ∗ owns (c : Thread nD τ) (ms7 t) fullShare (xb7 m c t) ∗ owns (c : Thread nD τ) (ms8 t) fullShare x8 ∗ owns (c : Thread nD τ) scM0 fullShare s.s0 ∗ owns (c : Thread nD τ) scM1 fullShare s.s1 ∗ owns (c : Thread nD τ) scM2 fullShare s.s2
      ∗ (iprop(tbPt c tbM0 (tb0 (F := F) c) ∗ tbPt c tbM1 (tb1 (F := F) c) ∗ owns (c : Thread nD τ) (ms0 t) fullShare (xb0 m c t) ∗ owns (c : Thread nD τ) (ms1 t) fullShare (xb1 m c t) ∗ owns (c : Thread nD τ) (ms2 t) fullShare (xb2 m c t) ∗ owns (c : Thread nD τ) (ms3 t) fullShare (xb3 m c t) ∗ owns (c : Thread nD τ) (ms4 t) fullShare (xb4 m c t) ∗ owns (c : Thread nD τ) (ms5 t) fullShare (xb5 m c t) ∗ owns (c : Thread nD τ) (ms6 t) fullShare (xb6 m c t) ∗ owns (c : Thread nD τ) (ms7 t) fullShare (xb7 m c t) ∗ owns (c : Thread nD τ) (ms8 t) fullShare x8 ∗ owns (c : Thread nD τ) scM0 fullShare (nxB m c t h0 h1).s0 ∗ owns (c : Thread nD τ) scM1 fullShare (nxB m c t h0 h1).s1 ∗ owns (c : Thread nD τ) scM2 fullShare (nxB m c t h0 h1).s2) -∗ K ⟨⟩))
    ⊢ wp frame (wpE (defs₀ (F := F)) Variants.none c none) E (bodyAt t) K := by
  iintro ⟨T0, T1, H0, H1, H2, H3, H4, H5, H6, H7, H8, HS0, HS1, HS2, Hk⟩
  iapply (atB m c t h0 h1).2.2.2 s.s0 s.s1 s.s2 x8 E K
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨T0, T1, H0, H1, H2, H3, H4, H5, H6, H7, H8, ⟨%e0, HS0⟩, ⟨%e1, HS1⟩, ⟨%e2, HS2⟩⟩
  iapply Hk
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]
  · unfold owns; iexists _; isplitr
    swap; · iexact HS0
    ipureintro; exact rdB_0 m c t h0 h1 _ _
  isplitl [HS1]
  · unfold owns; iexists _; isplitr
    swap; · iexact HS1
    ipureintro; exact rdB_1 m c t h0 h1 _ _
  unfold owns; iexists _; isplitr
  swap; · iexact HS2
  ipureintro; exact rdB_2 m c t h0 h1 _ _

set_option maxHeartbeats 400000 in
/-- The body at a row's last key block, not its first. -/
theorem bodyC (c : Dev nD) (t : Fin (cfgA (F := F)).N) (h0 : ¬ w1 t = 0#32) (h1 : w1 t = w0 t) (s : Scr F) (x8 : Vec F S1x256x512 .bf16) (E : Set ℕ) (K : PUnit → sProp 𝕄) :
    iprop(tbPt c tbM0 (tb0 (F := F) c) ∗ tbPt c tbM1 (tb1 (F := F) c) ∗ owns (c : Thread nD τ) (ms0 t) fullShare (xb0 m c t) ∗ owns (c : Thread nD τ) (ms1 t) fullShare (xb1 m c t) ∗ owns (c : Thread nD τ) (ms2 t) fullShare (xb2 m c t) ∗ owns (c : Thread nD τ) (ms3 t) fullShare (xb3 m c t) ∗ owns (c : Thread nD τ) (ms4 t) fullShare (xb4 m c t) ∗ owns (c : Thread nD τ) (ms5 t) fullShare (xb5 m c t) ∗ owns (c : Thread nD τ) (ms6 t) fullShare (xb6 m c t) ∗ owns (c : Thread nD τ) (ms7 t) fullShare (xb7 m c t) ∗ owns (c : Thread nD τ) (ms8 t) fullShare x8 ∗ owns (c : Thread nD τ) scM0 fullShare s.s0 ∗ owns (c : Thread nD τ) scM1 fullShare s.s1 ∗ owns (c : Thread nD τ) scM2 fullShare s.s2
      ∗ (iprop(tbPt c tbM0 (tb0 (F := F) c) ∗ tbPt c tbM1 (tb1 (F := F) c) ∗ owns (c : Thread nD τ) (ms0 t) fullShare (xb0 m c t) ∗ owns (c : Thread nD τ) (ms1 t) fullShare (xb1 m c t) ∗ owns (c : Thread nD τ) (ms2 t) fullShare (xb2 m c t) ∗ owns (c : Thread nD τ) (ms3 t) fullShare (xb3 m c t) ∗ owns (c : Thread nD τ) (ms4 t) fullShare (xb4 m c t) ∗ owns (c : Thread nD τ) (ms5 t) fullShare (xb5 m c t) ∗ owns (c : Thread nD τ) (ms6 t) fullShare (xb6 m c t) ∗ owns (c : Thread nD τ) (ms7 t) fullShare (xb7 m c t) ∗ owns (c : Thread nD τ) (ms8 t) fullShare (outC m c t h0 h1 s) ∗ owns (c : Thread nD τ) scM0 fullShare (nxC m c t h0 h1 s).s0 ∗ owns (c : Thread nD τ) scM1 fullShare (nxC m c t h0 h1 s).s1 ∗ owns (c : Thread nD τ) scM2 fullShare (nxC m c t h0 h1 s).s2) -∗ K ⟨⟩))
    ⊢ wp frame (wpE (defs₀ (F := F)) Variants.none c none) E (bodyAt t) K := by
  iintro ⟨T0, T1, H0, H1, H2, H3, H4, H5, H6, H7, H8, HS0, HS1, HS2, Hk⟩
  iapply (atC m c t h0 h1 s).2.2.2.2 x8 E K
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨T0, T1, H0, H1, H2, H3, H4, H5, H6, H7, ⟨%e8, H8⟩, ⟨%e0, HS0⟩, ⟨%e1, HS1⟩, ⟨%e2, HS2⟩⟩
  iapply Hk
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · unfold owns; iexists _; isplitr
    swap; · iexact H8
    ipureintro; exact rdC_8 m c t h0 h1 s _ _
  isplitl [HS0]
  · unfold owns; iexists _; isplitr
    swap; · iexact HS0
    ipureintro; exact rdC_0 m c t h0 h1 s _ _
  isplitl [HS1]
  · unfold owns; iexists _; isplitr
    swap; · iexact HS1
    ipureintro; exact rdC_1 m c t h0 h1 s _ _
  unfold owns; iexists _; isplitr
  swap; · iexact HS2
  ipureintro; exact rdC_2 m c t h0 h1 s _ _

set_option maxHeartbeats 400000 in
/-- The body at a key block between a row's first and last. -/
theorem bodyD (c : Dev nD) (t : Fin (cfgA (F := F)).N) (h0 : ¬ w1 t = 0#32) (h1 : ¬ w1 t = w0 t) (s : Scr F) (x8 : Vec F S1x256x512 .bf16) (E : Set ℕ) (K : PUnit → sProp 𝕄) :
    iprop(tbPt c tbM0 (tb0 (F := F) c) ∗ tbPt c tbM1 (tb1 (F := F) c) ∗ owns (c : Thread nD τ) (ms0 t) fullShare (xb0 m c t) ∗ owns (c : Thread nD τ) (ms1 t) fullShare (xb1 m c t) ∗ owns (c : Thread nD τ) (ms2 t) fullShare (xb2 m c t) ∗ owns (c : Thread nD τ) (ms3 t) fullShare (xb3 m c t) ∗ owns (c : Thread nD τ) (ms4 t) fullShare (xb4 m c t) ∗ owns (c : Thread nD τ) (ms5 t) fullShare (xb5 m c t) ∗ owns (c : Thread nD τ) (ms6 t) fullShare (xb6 m c t) ∗ owns (c : Thread nD τ) (ms7 t) fullShare (xb7 m c t) ∗ owns (c : Thread nD τ) (ms8 t) fullShare x8 ∗ owns (c : Thread nD τ) scM0 fullShare s.s0 ∗ owns (c : Thread nD τ) scM1 fullShare s.s1 ∗ owns (c : Thread nD τ) scM2 fullShare s.s2
      ∗ (iprop(tbPt c tbM0 (tb0 (F := F) c) ∗ tbPt c tbM1 (tb1 (F := F) c) ∗ owns (c : Thread nD τ) (ms0 t) fullShare (xb0 m c t) ∗ owns (c : Thread nD τ) (ms1 t) fullShare (xb1 m c t) ∗ owns (c : Thread nD τ) (ms2 t) fullShare (xb2 m c t) ∗ owns (c : Thread nD τ) (ms3 t) fullShare (xb3 m c t) ∗ owns (c : Thread nD τ) (ms4 t) fullShare (xb4 m c t) ∗ owns (c : Thread nD τ) (ms5 t) fullShare (xb5 m c t) ∗ owns (c : Thread nD τ) (ms6 t) fullShare (xb6 m c t) ∗ owns (c : Thread nD τ) (ms7 t) fullShare (xb7 m c t) ∗ owns (c : Thread nD τ) (ms8 t) fullShare x8 ∗ owns (c : Thread nD τ) scM0 fullShare (nxD m c t h0 h1 s).s0 ∗ owns (c : Thread nD τ) scM1 fullShare (nxD m c t h0 h1 s).s1 ∗ owns (c : Thread nD τ) scM2 fullShare (nxD m c t h0 h1 s).s2) -∗ K ⟨⟩))
    ⊢ wp frame (wpE (defs₀ (F := F)) Variants.none c none) E (bodyAt t) K := by
  iintro ⟨T0, T1, H0, H1, H2, H3, H4, H5, H6, H7, H8, HS0, HS1, HS2, Hk⟩
  iapply (atD m c t h0 h1 s).2.2.2 x8 E K
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨T0, T1, H0, H1, H2, H3, H4, H5, H6, H7, H8, ⟨%e0, HS0⟩, ⟨%e1, HS1⟩, ⟨%e2, HS2⟩⟩
  iapply Hk
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]
  · unfold owns; iexists _; isplitr
    swap; · iexact HS0
    ipureintro; exact rdD_0 m c t h0 h1 s _ _
  isplitl [HS1]
  · unfold owns; iexists _; isplitr
    swap; · iexact HS1
    ipureintro; exact rdD_1 m c t h0 h1 s _ _
  unfold owns; iexists _; isplitr
  swap; · iexact HS2
  ipureintro; exact rdD_2 m c t h0 h1 s _ _

/-- The body at any point: it leaves the tables and the inputs, the scratch at `nextS`, and the output's buffer at `outS`
    at a row's last point and untouched at another. -/
theorem body_at (c : Dev nD) (t : Fin (cfgA (F := F)).N) (s : Scr F) (x8 : Vec F S1x256x512 .bf16) (E : Set ℕ) (K : PUnit → sProp 𝕄) :
    iprop(tbPt c tbM0 (tb0 (F := F) c) ∗ tbPt c tbM1 (tb1 (F := F) c) ∗ owns (c : Thread nD τ) (ms0 t) fullShare (xb0 m c t) ∗ owns (c : Thread nD τ) (ms1 t) fullShare (xb1 m c t) ∗ owns (c : Thread nD τ) (ms2 t) fullShare (xb2 m c t) ∗ owns (c : Thread nD τ) (ms3 t) fullShare (xb3 m c t) ∗ owns (c : Thread nD τ) (ms4 t) fullShare (xb4 m c t) ∗ owns (c : Thread nD τ) (ms5 t) fullShare (xb5 m c t) ∗ owns (c : Thread nD τ) (ms6 t) fullShare (xb6 m c t) ∗ owns (c : Thread nD τ) (ms7 t) fullShare (xb7 m c t) ∗ owns (c : Thread nD τ) (ms8 t) fullShare x8 ∗ owns (c : Thread nD τ) scM0 fullShare s.s0 ∗ owns (c : Thread nD τ) scM1 fullShare s.s1 ∗ owns (c : Thread nD τ) scM2 fullShare s.s2
      ∗ (iprop(tbPt c tbM0 (tb0 (F := F) c) ∗ tbPt c tbM1 (tb1 (F := F) c) ∗ owns (c : Thread nD τ) (ms0 t) fullShare (xb0 m c t) ∗ owns (c : Thread nD τ) (ms1 t) fullShare (xb1 m c t) ∗ owns (c : Thread nD τ) (ms2 t) fullShare (xb2 m c t) ∗ owns (c : Thread nD τ) (ms3 t) fullShare (xb3 m c t) ∗ owns (c : Thread nD τ) (ms4 t) fullShare (xb4 m c t) ∗ owns (c : Thread nD τ) (ms5 t) fullShare (xb5 m c t) ∗ owns (c : Thread nD τ) (ms6 t) fullShare (xb6 m c t) ∗ owns (c : Thread nD τ) (ms7 t) fullShare (xb7 m c t) ∗ owns (c : Thread nD τ) (ms8 t) fullShare (if w1 t = w0 t then outS m c t s else x8) ∗ owns (c : Thread nD τ) scM0 fullShare (nextS m c t s).s0 ∗ owns (c : Thread nD τ) scM1 fullShare (nextS m c t s).s1 ∗ owns (c : Thread nD τ) scM2 fullShare (nextS m c t s).s2) -∗ K ⟨⟩))
    ⊢ wp frame (wpE (defs₀ (F := F)) Variants.none c none) E (bodyAt t) K := by
  by_cases h0 : w1 t = 0#32
  · by_cases h1 : w1 t = w0 t
    · rw [if_pos h1, nextS_A m c t h0 h1, outS_A m c t h0 h1]; exact bodyA m c t h0 h1 s x8 E K
    · rw [if_neg h1, nextS_B m c t h0 h1]; exact bodyB m c t h0 h1 s x8 E K
  · by_cases h1 : w1 t = w0 t
    · rw [if_pos h1, nextS_C m c t h0 h1, outS_C m c t h0 h1]; exact bodyC m c t h0 h1 s x8 E K
    · rw [if_neg h1, nextS_D m c t h0 h1]; exact bodyD m c t h0 h1 s x8 E K

end Cert.DiffAttnIdeal.Hand

end
-- ==== Proof.DiffAttnIdeal.Frame.lean ====
/- The attention's pipeline: its proof data, the body's obligation, the run of @main and the frame. -/
module

public import proofs.«01_k».proof.Proof.DiffAttnIdeal.Body
public import proofs.«01_k».proof.Proof.Gen.DiffAttnIdeal.Skeleton
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.DiffAttnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.DiffAttnIdeal Cert.DiffAttnIdeal.Gen

variable {F : FTy → Type} [FloatOps F] [Named F]

local notation "𝕄" => MT nD τ sig Unit (Elt F) ℕ (UR sig nD τ) ℕ

variable (m : (ℓ : Loc nD τ sig) → Buf (Elt F) ℓ)

/-! ## The scratch between points -/

/-- The scratch before point `n`, of anything before the first. -/
def scr (c : Dev nD) : ℕ → Scr F
  | 0 => ⟨View.canon [], View.canon [], View.canon []⟩
  | n + 1 => if h : n < (cfgA (F := F)).N then nextS m c ⟨n, h⟩ (scr c n) else scr c n

theorem scr_succ (c : Dev nD) (t : Fin (cfgA (F := F)).N) : scr m c (t.val + 1) = nextS m c t (scr m c t.val) := dif_pos t.isLt

/-- What the core holds beside the windows before point `n`: the scratch (at `scr` except before the first point), the
    generator register, and the tables. -/
def Phi (c : Dev nD) (n : ℕ) : sProp 𝕄 :=
  iprop(∃ s : Scr F, ⌜n ≠ 0 → s = scr m c n⌝ ∗ owns (c : Thread nD τ) scM0 fullShare s.s0 ∗ owns (c : Thread nD τ) scM1 fullShare s.s1 ∗ owns (c : Thread nD τ) scM2 fullShare s.s2
    ∗ (∃ r, prngReg c r) ∗ tbPt c tbM0 (tb0 (F := F) c) ∗ tbPt c tbM1 (tb1 (F := F) c))

/-- The words and the step's blocks. -/
theorem w1_zero (t : Fin (cfgA (F := F)).N) (h : t.val = 0) : w1 t = 0#32 := by
  unfold w1; rw [(coords_val t).2.2, h, lit_zero_iff]; decide +kernel
theorem w_eq_iff (t : Fin (cfgA (F := F)).N) : w1 t = w0 t ↔ kN (t.val % 528) = qN (t.val % 528) := by
  unfold w1 w0; rw [(coords_val t).2.2, lit_eq_iff]

/-- What is carried into a point is all the point's results depend on. -/
theorem carried (c : Dev nD) (t : Fin (cfgA (F := F)).N) (s : Scr F) (hs : t.val ≠ 0 → s = scr m c t.val) :
    nextS m c t s = scr m c (t.val + 1) ∧ outS m c t s = outS m c t (scr m c t.val) := by
  rw [scr_succ]
  by_cases h : t.val = 0
  · exact ⟨nextS_first m c t (w1_zero t h) _ _, outS_first m c t (w1_zero t h) _ _⟩
  · rw [hs h]; exact ⟨rfl, rfl⟩

/-! ## The pipeline's proof data -/

/-- The arrays as the region finds them; each input's buffer left at its block, the output's at the row; nothing owed. -/
def dats (_ : Fin 1) (c : Dev nD) : Dat τ (Elt F) Unit ℕ (UR sig nD τ) ℕ (cfgA (F := F)) c where
  A w := V m c (Pipeline.arrRef spec0 w)
  after w t := match w with
    | ⟨0, _⟩ => xb0 m c t
    | ⟨1, _⟩ => xb1 m c t
    | ⟨2, _⟩ => xb2 m c t
    | ⟨3, _⟩ => xb3 m c t
    | ⟨4, _⟩ => xb4 m c t
    | ⟨5, _⟩ => xb5 m c t
    | ⟨6, _⟩ => xb6 m c t
    | ⟨7, _⟩ => xb7 m c t
    | ⟨8, _⟩ => outS m c t (scr m c t.val)
  Φ t := Phi m c t.val
  q w := Pipeline.shareOf spec0 w
  owed _ := 0

theorem A_eq (c : Dev nD) (w : Fin (cfgA (F := F)).W) : (dats m 0 c).A w = V m c (Pipeline.arrRef spec0 w) := by
  dsimp only [dats]

theorem after0 (c : Dev nD) (t : Fin (cfgA (F := F)).N) : (dats m 0 c).after 0 t = xb0 m c t := rfl
theorem after1 (c : Dev nD) (t : Fin (cfgA (F := F)).N) : (dats m 0 c).after 1 t = xb1 m c t := rfl
theorem after2 (c : Dev nD) (t : Fin (cfgA (F := F)).N) : (dats m 0 c).after 2 t = xb2 m c t := rfl
theorem after3 (c : Dev nD) (t : Fin (cfgA (F := F)).N) : (dats m 0 c).after 3 t = xb3 m c t := rfl
theorem after4 (c : Dev nD) (t : Fin (cfgA (F := F)).N) : (dats m 0 c).after 4 t = xb4 m c t := rfl
theorem after5 (c : Dev nD) (t : Fin (cfgA (F := F)).N) : (dats m 0 c).after 5 t = xb5 m c t := rfl
theorem after6 (c : Dev nD) (t : Fin (cfgA (F := F)).N) : (dats m 0 c).after 6 t = xb6 m c t := rfl
theorem after7 (c : Dev nD) (t : Fin (cfgA (F := F)).N) : (dats m 0 c).after 7 t = xb7 m c t := rfl
theorem after8 (c : Dev nD) (t : Fin (cfgA (F := F)).N) : (dats m 0 c).after 8 t = outS m c t (scr m c t.val) := rfl

theorem before0 (c : Dev nD) (t : Fin (cfgA (F := F)).N) (d) : (dats m 0 c).before 0 t d = xb0 m c t :=
  ((dats m 0 c).before_in_eq_fetched 0 rfl (fun _ => rfl) (fun _ _ _ => rfl) (fun t => by rw [after0]; unfold Dat.blockOf xb0 iblk; rw [A_eq]) t d).trans
    (by unfold Dat.fetched Dat.blockOf xb0 iblk; rw [A_eq]; rfl)
theorem before1 (c : Dev nD) (t : Fin (cfgA (F := F)).N) (d) : (dats m 0 c).before 1 t d = xb1 m c t :=
  ((dats m 0 c).before_in_eq_fetched 1 rfl (fun _ => rfl) (fun _ _ _ => rfl) (fun t => by rw [after1]; unfold Dat.blockOf xb1 iblk; rw [A_eq]) t d).trans
    (by unfold Dat.fetched Dat.blockOf xb1 iblk; rw [A_eq]; rfl)
theorem before2 (c : Dev nD) (t : Fin (cfgA (F := F)).N) (d) : (dats m 0 c).before 2 t d = xb2 m c t :=
  ((dats m 0 c).before_in_eq_fetched 2 rfl (fun _ => rfl) (fun _ _ _ => rfl) (fun t => by rw [after2]; unfold Dat.blockOf xb2 iblk; rw [A_eq]) t d).trans
    (by unfold Dat.fetched Dat.blockOf xb2 iblk; rw [A_eq]; rfl)
theorem before3 (c : Dev nD) (t : Fin (cfgA (F := F)).N) (d) : (dats m 0 c).before 3 t d = xb3 m c t :=
  ((dats m 0 c).before_in_eq_fetched 3 rfl (fun _ => rfl) (fun _ _ _ => rfl) (fun t => by rw [after3]; unfold Dat.blockOf xb3 iblk; rw [A_eq]) t d).trans
    (by unfold Dat.fetched Dat.blockOf xb3 iblk; rw [A_eq]; rfl)
theorem before4 (c : Dev nD) (t : Fin (cfgA (F := F)).N) (d) : (dats m 0 c).before 4 t d = xb4 m c t :=
  ((dats m 0 c).before_in_eq_fetched 4 rfl (fun _ => rfl) (fun _ _ _ => rfl) (fun t => by rw [after4]; unfold Dat.blockOf xb4 iblk; rw [A_eq]) t d).trans
    (by unfold Dat.fetched Dat.blockOf xb4 iblk; rw [A_eq]; rfl)
theorem before5 (c : Dev nD) (t : Fin (cfgA (F := F)).N) (d) : (dats m 0 c).before 5 t d = xb5 m c t :=
  ((dats m 0 c).before_in_eq_fetched 5 rfl (fun _ => rfl) (fun _ _ _ => rfl) (fun t => by rw [after5]; unfold Dat.blockOf xb5 iblk; rw [A_eq]) t d).trans
    (by unfold Dat.fetched Dat.blockOf xb5 iblk; rw [A_eq]; rfl)
theorem before6 (c : Dev nD) (t : Fin (cfgA (F := F)).N) (d) : (dats m 0 c).before 6 t d = xb6 m c t :=
  ((dats m 0 c).before_in_eq_fetched 6 rfl (fun _ => rfl) (fun _ _ _ => rfl) (fun t => by rw [after6]; unfold Dat.blockOf xb6 iblk; rw [A_eq]) t d).trans
    (by unfold Dat.fetched Dat.blockOf xb6 iblk; rw [A_eq]; rfl)
theorem before7 (c : Dev nD) (t : Fin (cfgA (F := F)).N) (d) : (dats m 0 c).before 7 t d = xb7 m c t :=
  ((dats m 0 c).before_in_eq_fetched 7 rfl (fun _ => rfl) (fun _ _ _ => rfl) (fun t => by rw [after7]; unfold Dat.blockOf xb7 iblk; rw [A_eq]) t d).trans
    (by unfold Dat.fetched Dat.blockOf xb7 iblk; rw [A_eq]; rfl)

/-! ## The body's obligation -/

def bodyPre (c : Dev nD) (t : Fin (cfgA (F := F)).N) : sProp 𝕄 :=
  iprop((dats m 0 c).Φ t.castSucc ∗ (dats m 0 c).owesAt () t.castSucc ∗ (∃ d, owns (c : Thread nD τ) (ms0 t) fullShare ((dats m 0 c).before 0 t d)) ∗ (∃ d, owns (c : Thread nD τ) (ms1 t) fullShare ((dats m 0 c).before 1 t d)) ∗ (∃ d, owns (c : Thread nD τ) (ms2 t) fullShare ((dats m 0 c).before 2 t d)) ∗ (∃ d, owns (c : Thread nD τ) (ms3 t) fullShare ((dats m 0 c).before 3 t d)) ∗ (∃ d, owns (c : Thread nD τ) (ms4 t) fullShare ((dats m 0 c).before 4 t d)) ∗ (∃ d, owns (c : Thread nD τ) (ms5 t) fullShare ((dats m 0 c).before 5 t d)) ∗ (∃ d, owns (c : Thread nD τ) (ms6 t) fullShare ((dats m 0 c).before 6 t d)) ∗ (∃ d, owns (c : Thread nD τ) (ms7 t) fullShare ((dats m 0 c).before 7 t d)) ∗ (∃ d, owns (c : Thread nD τ) (ms8 t) fullShare ((dats m 0 c).before 8 t d)))
def bodyPost (c : Dev nD) (t : Fin (cfgA (F := F)).N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t)

theorem leaves0 (c : Dev nD) (t : Fin (cfgA (F := F)).N) : (dats m 0 c).leavesExact 0 t = owns (c : Thread nD τ) (ms0 t) fullShare (xb0 m c t) := by
  unfold Dat.leavesExact; rw [show (cfgA (F := F)).idle 0 ((cfgA (F := F)).grid.coords t) = false from rfl, after0]; rfl
theorem toLeaves0 (c : Dev nD) (t : Fin (cfgA (F := F)).N) : owns (c : Thread nD τ) (ms0 t) fullShare (xb0 m c t) ⊢ (dats m 0 c).leavesExact 0 t := by
  rw [leaves0]
theorem leaves1 (c : Dev nD) (t : Fin (cfgA (F := F)).N) : (dats m 0 c).leavesExact 1 t = owns (c : Thread nD τ) (ms1 t) fullShare (xb1 m c t) := by
  unfold Dat.leavesExact; rw [show (cfgA (F := F)).idle 1 ((cfgA (F := F)).grid.coords t) = false from rfl, after1]; rfl
theorem toLeaves1 (c : Dev nD) (t : Fin (cfgA (F := F)).N) : owns (c : Thread nD τ) (ms1 t) fullShare (xb1 m c t) ⊢ (dats m 0 c).leavesExact 1 t := by
  rw [leaves1]
theorem leaves2 (c : Dev nD) (t : Fin (cfgA (F := F)).N) : (dats m 0 c).leavesExact 2 t = owns (c : Thread nD τ) (ms2 t) fullShare (xb2 m c t) := by
  unfold Dat.leavesExact; rw [show (cfgA (F := F)).idle 2 ((cfgA (F := F)).grid.coords t) = false from rfl, after2]; rfl
theorem toLeaves2 (c : Dev nD) (t : Fin (cfgA (F := F)).N) : owns (c : Thread nD τ) (ms2 t) fullShare (xb2 m c t) ⊢ (dats m 0 c).leavesExact 2 t := by
  rw [leaves2]
theorem leaves3 (c : Dev nD) (t : Fin (cfgA (F := F)).N) : (dats m 0 c).leavesExact 3 t = owns (c : Thread nD τ) (ms3 t) fullShare (xb3 m c t) := by
  unfold Dat.leavesExact; rw [show (cfgA (F := F)).idle 3 ((cfgA (F := F)).grid.coords t) = false from rfl, after3]; rfl
theorem toLeaves3 (c : Dev nD) (t : Fin (cfgA (F := F)).N) : owns (c : Thread nD τ) (ms3 t) fullShare (xb3 m c t) ⊢ (dats m 0 c).leavesExact 3 t := by
  rw [leaves3]
theorem leaves4 (c : Dev nD) (t : Fin (cfgA (F := F)).N) : (dats m 0 c).leavesExact 4 t = owns (c : Thread nD τ) (ms4 t) fullShare (xb4 m c t) := by
  unfold Dat.leavesExact; rw [show (cfgA (F := F)).idle 4 ((cfgA (F := F)).grid.coords t) = false from rfl, after4]; rfl
theorem toLeaves4 (c : Dev nD) (t : Fin (cfgA (F := F)).N) : owns (c : Thread nD τ) (ms4 t) fullShare (xb4 m c t) ⊢ (dats m 0 c).leavesExact 4 t := by
  rw [leaves4]
theorem leaves5 (c : Dev nD) (t : Fin (cfgA (F := F)).N) : (dats m 0 c).leavesExact 5 t = owns (c : Thread nD τ) (ms5 t) fullShare (xb5 m c t) := by
  unfold Dat.leavesExact; rw [show (cfgA (F := F)).idle 5 ((cfgA (F := F)).grid.coords t) = false from rfl, after5]; rfl
theorem toLeaves5 (c : Dev nD) (t : Fin (cfgA (F := F)).N) : owns (c : Thread nD τ) (ms5 t) fullShare (xb5 m c t) ⊢ (dats m 0 c).leavesExact 5 t := by
  rw [leaves5]
theorem leaves6 (c : Dev nD) (t : Fin (cfgA (F := F)).N) : (dats m 0 c).leavesExact 6 t = owns (c : Thread nD τ) (ms6 t) fullShare (xb6 m c t) := by
  unfold Dat.leavesExact; rw [show (cfgA (F := F)).idle 6 ((cfgA (F := F)).grid.coords t) = false from rfl, after6]; rfl
theorem toLeaves6 (c : Dev nD) (t : Fin (cfgA (F := F)).N) : owns (c : Thread nD τ) (ms6 t) fullShare (xb6 m c t) ⊢ (dats m 0 c).leavesExact 6 t := by
  rw [leaves6]
theorem leaves7 (c : Dev nD) (t : Fin (cfgA (F := F)).N) : (dats m 0 c).leavesExact 7 t = owns (c : Thread nD τ) (ms7 t) fullShare (xb7 m c t) := by
  unfold Dat.leavesExact; rw [show (cfgA (F := F)).idle 7 ((cfgA (F := F)).grid.coords t) = false from rfl, after7]; rfl
theorem toLeaves7 (c : Dev nD) (t : Fin (cfgA (F := F)).N) : owns (c : Thread nD τ) (ms7 t) fullShare (xb7 m c t) ⊢ (dats m 0 c).leavesExact 7 t := by
  rw [leaves7]

theorem leaves8_last (c : Dev nD) (t : Fin (cfgA (F := F)).N) (h : w1 t = w0 t) :
    (dats m 0 c).leavesExact 8 t = owns (c : Thread nD τ) (ms8 t) fullShare (outS m c t (scr m c t.val)) := by
  unfold Dat.leavesExact; rw [live8 t ((w_eq_iff t).mp h), after8]; rfl
theorem leaves8_idle (c : Dev nD) (t : Fin (cfgA (F := F)).N) (h : ¬ w1 t = w0 t) (d : Vec F S1x256x512 .bf16) (hd : ∃ d', d = (dats m 0 c).before 8 t d') :
    owns (c : Thread nD τ) (ms8 t) fullShare d ⊢ (dats m 0 c).leavesExact 8 t := by
  have h' := fun e => h ((w_eq_iff t).mpr e)
  obtain ⟨d', rfl⟩ := hd
  rw [Dat.leavesExact_idle (dats m 0 c) 8 t (idle8 t h') (noFlush8 t h')]
  iintro H; iexists _; iexact H

theorem toLeaves8 (c : Dev nD) (t : Fin (cfgA (F := F)).N) (o : Vec F S1x256x512 .bf16) (ho : o = outS m c t (scr m c t.val))
    (d : Vec F S1x256x512 .bf16) (hd : ∃ d', d = (dats m 0 c).before 8 t d') :
    owns (c : Thread nD τ) (ms8 t) fullShare (if w1 t = w0 t then o else d) ⊢ (dats m 0 c).leavesExact 8 t := by
  by_cases h : w1 t = w0 t
  · rw [if_pos h, leaves8_last m c t h, ho]
  · rw [if_neg h]; exact leaves8_idle m c t h d hd

set_option maxHeartbeats 800000 in
/-- The body at any point, over the pipeline's proof data. -/
theorem sound_body (c : Dev nD) (t : Fin (cfgA (F := F)).N) :
    bodyPre m c t ⊢ wp frame (wpE (defs₀ (F := F)) Variants.none c none) Set.univ (bodyAt t) (fun _ => bodyPost m c t) := by
  unfold bodyPre bodyPost
  simp only [before0, before1, before2, before3, before4, before5, before6, before7]
  rw [show (dats m 0 c).owesAt () t.succ = (dats m 0 c).owesAt () t.castSucc from rfl]
  rw [show (dats m 0 c).Φ t.succ = Phi m c (t.val + 1) from rfl, show (dats m 0 c).Φ t.castSucc = Phi m c t.castSucc.val from rfl, Fin.val_castSucc]
  unfold Phi
  iintro ⟨⟨%s, %hs, HS0, HS1, HS2, Hg, T0, T1⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  obtain ⟨hn, hout⟩ := carried m c t s hs
  iapply (body_at m c t s _ Set.univ _)
  isplitl [T0]; · iexact T0
  isplitl [T1]; · iexact T1
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  isplitl [HS2]; · iexact HS2
  iintro ⟨T0, T1, H0, H1, H2, H3, H4, H5, H6, H7, H8, HS0, HS1, HS2⟩
  isplitl [HS0 HS1 HS2 Hg T0 T1]
  · iexists (nextS m c t s)
    isplitr
    · ipureintro; exact fun _ => hn
    isplitl [HS0]; · iexact HS0
    isplitl [HS1]; · iexact HS1
    isplitl [HS2]; · iexact HS2
    isplitl [Hg]; · iexact Hg
    isplitl [T0]; · iexact T0
    iexact T1
  isplitl [Ho]; · iexact Ho
  isplitl [H0]; · iapply (toLeaves0 m c t); iexact H0
  isplitl [H1]; · iapply (toLeaves1 m c t); iexact H1
  isplitl [H2]; · iapply (toLeaves2 m c t); iexact H2
  isplitl [H3]; · iapply (toLeaves3 m c t); iexact H3
  isplitl [H4]; · iapply (toLeaves4 m c t); iexact H4
  isplitl [H5]; · iapply (toLeaves5 m c t); iexact H5
  isplitl [H6]; · iapply (toLeaves6 m c t); iexact H6
  isplitl [H7]; · iapply (toLeaves7 m c t); iexact H7
  iapply (toLeaves8 m c t (outS m c t s) hout _ ⟨d8, rfl⟩); iexact H8

/-- The body table's row at a point is the body called so. -/
theorem defs₀_row (t : Fin (cfgA (F := F)).N) :
    defs₀ (F := F) .tc (cfgA (F := F)).body ((cfgA (F := F)).bodyArgs t ((cfgA (F := F)).slots t)) = bodyAt t := by
  unfold defs₀; rw [Defs.onTc_tc]; rfl

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem PhiA_eq (c : Dev nD) :
    (Pipeline.ΦA spec0 c : sProp 𝕄)
      = iprop(iprop((∃ d, owns (c : Thread nD τ) scM0 fullShare d) ∗ (∃ d, owns (c : Thread nD τ) scM1 fullShare d) ∗ (∃ d, owns (c : Thread nD τ) scM2 fullShare d)) ∗ (∃ r, prngReg c r)) := by
  unfold Pipeline.ΦA; rw [scopedRest0_eq]; simp only [scM0, scM1, scM2, owns_whole]; try rfl

/-- What the launch hands the region is what is held before the first point, -/
theorem hin (c : Dev nD) : iprop(Pipeline.ΦA spec0 c ∗ Pipeline.ΦT pre0 (tbl (F := F)) c) ⊢ (dats m 0 c).Φ 0 := by
  rw [show (dats m 0 c).Φ 0 = Phi m c 0 from rfl, PhiA_eq, PhiT_eq]
  unfold Phi
  iintro ⟨⟨⟨⟨%d0, HS0⟩, ⟨%d1, HS1⟩, ⟨%d2, HS2⟩⟩, Hg⟩, T0, T1⟩
  iexists (⟨d0, d1, d2⟩ : Scr F)
  isplitr
  · ipureintro; exact fun h => absurd rfl h
  isplitl [HS0]; · iexact HS0
  isplitl [HS1]; · iexact HS1
  isplitl [HS2]; · iexact HS2
  isplitl [Hg]; · iexact Hg
  isplitl [T0]; · iexact T0
  iexact T1

/-- and what is held after the last gives it back. -/
theorem hout (c : Dev nD) : (dats m 0 c).Φ (Fin.last (cfgA (F := F)).N) ⊢ Pipeline.ΦA spec0 c := by
  rw [show (dats m 0 c).Φ (Fin.last (cfgA (F := F)).N) = Phi m c (cfgA (F := F)).N from rfl, PhiA_eq]
  unfold Phi
  iintro ⟨%s, %hs, HS0, HS1, HS2, Hg, -⟩
  isplitl [HS0 HS1 HS2]
  · isplitl [HS0]
    · iexists _; iexact HS0
    isplitl [HS1]
    · iexists _; iexact HS1
    iexists _; iexact HS2
  iexact Hg

/-! ## The run and the frame -/

variable (ρ : Dev nD → PrngReg)

set_option backward.isDefEq.respectTransparency.types false in
/-- Every weakly fair execution of @main ends, the pipeline's arrays at what the proof data say, every other unscoped
    buffer as the region found it, every semaphore counter at zero. -/
theorem run_main : θ_run defs (onTc (τ := τ) (main (F := F))) (s₀ m ρ) (fun r => (Pipeline.FramePost (Pipeline.pin (pcfgs (F := F)) adms) (dats m) 0 (V m)) r ∧ r.2.sem = fun _ => 0) :=
  Pipeline.θ_run_frameP_track_shared (Q' := _) (pcfgs (F := F)) adms (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hpf := hpf m) (hin := hin m) (hout := hout m)

/-- The frame: the argument arrays end as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).1 1).trans (((dats m 0 c).arrAt_in 1 rfl _).trans ((A_eq m c 1).trans (V_of_ne m c main_arg0 (by decide) (by decide) (by decide)))),
      ((h.1 c).1 2).trans (((dats m 0 c).arrAt_in 2 rfl _).trans ((A_eq m c 2).trans (V_of_ne m c main_arg1 (by decide) (by decide) (by decide)))),
      ((h.1 c).1 3).trans (((dats m 0 c).arrAt_in 3 rfl _).trans ((A_eq m c 3).trans (V_of_ne m c main_arg2 (by decide) (by decide) (by decide)))),
      ((h.1 c).1 4).trans (((dats m 0 c).arrAt_in 4 rfl _).trans ((A_eq m c 4).trans (V_of_ne m c main_arg3 (by decide) (by decide) (by decide)))),
      ((h.1 c).1 5).trans (((dats m 0 c).arrAt_in 5 rfl _).trans ((A_eq m c 5).trans (V_of_ne m c main_arg4 (by decide) (by decide) (by decide)))),
      ((h.1 c).1 6).trans (((dats m 0 c).arrAt_in 6 rfl _).trans ((A_eq m c 6).trans (V_of_ne m c main_arg5 (by decide) (by decide) (by decide)))),
      ((h.1 c).2 main_arg6 (Pipeline.mem_restRefs_of main_arg6 (by decide) (show ∀ w, (spec0 w).arr.view.ref ≠ main_arg6 from by decide))).trans (V_of_ne m c main_arg6 (by decide) (by decide) (by decide))⟩, h.2⟩) (run_main m ρ)

end Cert.DiffAttnIdeal.Hand

end
-- ==== Proof.DiffRefIdeal.Ref.lean ====
/- The reference's result, at each index. -/
module

public import proofs.«01_k».proof.Proof.Gen.DiffRefIdeal.Run
public import Idealize.ShloMosaic.Lib.Pipeline.ValueKit
public import Idealize.ShloMosaic.Lib.Pointwise

@[expose] public section

set_option maxRecDepth 16384

noncomputable section

namespace Cert.DiffRefIdeal.Hand

open Idealize.ShloMosaic Idealize.ShloMosaic.TcCoe Idealize.SL.Sem
open Cert.DiffRefIdeal Cert.DiffRefIdeal.Gen

/-- The masked scores of all maps. -/
def scores (X0 : FVec Ideal S2x8192x3072 .bf16) : FVec Ideal S2x8x8192x8192 .f32 :=
  select (broadcastInDim S2x8x8192x8192 ![2, 3] bcast_S8192x8192_S2x8x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (Host.dotGeneral dot_S2x8192x8x64_S2x8192x8x64_S2x8x8192x8192_3_3_1_1_02_02 none (shapeCast _ (extf .f32 (extractStridedSlice S2x8192x512 ![0, 0, 1536] X0 slices_S2x8192x3072_S2x8192x512_0_0_1536) bitsLt_bf16_f32) shapeCasts_S2x8192x512_S2x8192x8x64) (shapeCast _ (extf .f32 (extractStridedSlice S2x8192x512 ![0, 0, 2048] X0 slices_S2x8192x3072_S2x8192x512_0_0_2048) bitsLt_bf16_f32) shapeCasts_S2x8192x512_S2x8192x8x64)) (broadcastInDim S2x8x8192x8192 ![] bcast_S_S2x8x8192x8192 (id (constant S_ .f32 0xFF800000#32)))

/-- Their maxima along the keys. -/
def maxes (S : FVec Ideal S2x8x8192x8192 .f32) : FVec Ideal S2x8x8192 .f32 :=
  maximumf (broadcastInDim S2x8x8192 ![] bcast_S_S2x8x8192 (constant S_ .f32 0xFF800000#32)) (Host.reduce FloatOps.maximumf S (constant S_ .f32 0xFF800000#32) reducesTo_S2x8x8192x8192_S2x8x8192_d3 h_S_)

/-- The exponentials of the scores less their maxima. -/
def exps (S : FVec Ideal S2x8x8192x8192 .f32) (MX : FVec Ideal S2x8x8192 .f32) : FVec Ideal S2x8x8192x8192 .f32 :=
  Host.exp (subf S (broadcastInDim S2x8x8192x8192 ![0, 1, 2, 3] bcast_S2x8x8192x1_S2x8x8192x8192_0_1_2_3 (broadcastInDim S2x8x8192x1 ![0, 1, 2] bcast_S2x8x8192_S2x8x8192x1_0_1_2 MX)))

/-- The exponentials over their sums. -/
def probs (EX : FVec Ideal S2x8x8192x8192 .f32) : FVec Ideal S2x8x8192x8192 .f32 :=
  Host.divf EX (broadcastInDim S2x8x8192x8192 ![0, 1, 2, 3] bcast_S2x8x8192x1_S2x8x8192x8192_0_1_2_3 (broadcastInDim S2x8x8192x1 ![0, 1, 2] bcast_S2x8x8192_S2x8x8192x1_0_1_2 (Host.reduceAdd EX (constant S_ .f32 0x00000000#32) reducesTo_S2x8x8192x8192_S2x8x8192_d3 h_S_)))

/-- The second map's weight. -/
def weight (X2 X3 X4 X5 : FVec Ideal S1x64 .f32) : FVec Ideal S_ .f32 :=
  addf (subf (Host.exp (Host.reduceAdd (mulf (shapeCast _ X2 shapeCasts_S1x64_S64) (shapeCast _ X3 shapeCasts_S1x64_S64)) (constant S_ .f32 0x00000000#32) reducesTo_S64_S_d0 h_S_)) (Host.exp (Host.reduceAdd (mulf (shapeCast _ X4 shapeCasts_S1x64_S64) (shapeCast _ X5 shapeCasts_S1x64_S64)) (constant S_ .f32 0x00000000#32) reducesTo_S64_S_d0 h_S_))) (constant S_ .f32 0x3E4CCCCD#32)

/-- The two maps combined. -/
def comb (P : FVec Ideal S2x8x8192x8192 .f32) (L : FVec Ideal S_ .f32) : FVec Ideal S2x4x8192x8192 .f32 :=
  subf (shapeCast _ (extractStridedSlice S2x4x1x8192x8192 ![0, 0, 0, 0, 0] (shapeCast _ P shapeCasts_S2x8x8192x8192_S2x4x2x8192x8192) slices_S2x4x2x8192x8192_S2x4x1x8192x8192_0_0_0_0_0) shapeCasts_S2x4x1x8192x8192_S2x4x8192x8192) (mulf (broadcastInDim S2x4x8192x8192 ![] bcast_S_S2x4x8192x8192 L) (shapeCast _ (extractStridedSlice S2x4x1x8192x8192 ![0, 0, 1, 0, 0] (shapeCast _ P shapeCasts_S2x8x8192x8192_S2x4x2x8192x8192) slices_S2x4x2x8192x8192_S2x4x1x8192x8192_0_0_1_0_0) shapeCasts_S2x4x1x8192x8192_S2x4x8192x8192))

/-- The values weighted. -/
def weighted (X1 : FVec Ideal S2x512x8192 .bf16) (AA : FVec Ideal S2x4x8192x8192 .f32) : FVec Ideal S2x8192x4x128 .f32 :=
  transpose S2x8192x4x128 [0, 3, 1, 2] (Host.dotGeneral dot_S2x8192x4x128_S2x4x8192x8192_S2x4x128x8192_1_3_3_2_02_01 none (shapeCast _ (transpose S2x8192x512 [0, 2, 1] (extf .f32 X1 bitsLt_bf16_f32) transposes_S2x512x8192_S2x8192x512_0_2_1) shapeCasts_S2x8192x512_S2x8192x4x128) AA) transposes_S2x4x128x8192_S2x8192x4x128_0_3_1_2

/-- The heads normalised and scaled. -/
def normed (X6 : FVec Ideal S1x128 .f32) (O : FVec Ideal S2x8192x4x128 .f32) : FVec Ideal S2x8192x512 .bf16 :=
  truncf .bf16 (shapeCast _ (mulf (mulf (mulf O (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf O O) (constant S_ .f32 0x00000000#32) reducesTo_S2x8192x4x128_S2x8192x4_d3 h_S_)) (broadcastInDim S2x8192x4x1 ![] bcast_S_S2x8192x4x1 (constant S_ .f32 0x43000000#32))) (broadcastInDim S2x8192x4x1 ![] bcast_S_S2x8192x4x1 (constant S_ .f32 0x3727C5AC#32)))))) (broadcastInDim S2x8192x4x128 ![0, 1, 2, 3] bcast_S1x1x1x128_S2x8192x4x128_0_1_2_3 (broadcastInDim S1x1x1x128 ![3] bcast_S128_S1x1x1x128_3 (shapeCast _ X6 shapeCasts_S1x128_S128)))) (broadcastInDim S2x8192x4x128 ![] bcast_S_S2x8192x4x128 (constant S_ .f32 0x3F4CCCCD#32))) shapeCasts_S2x8192x4x128_S2x8192x512) bitsLt_bf16_f32

/-- The result is these in turn. -/
theorem res_eq (m : (ℓ : Loc nD τ sig) → Buf (Elt Ideal) ℓ) (c : Dev nD) :
    Cert.DiffRefIdeal.Value.res_main_v67 m c = normed (m ((c.tc : Thread nD τ).loc main_arg6)) (weighted (m ((c.tc : Thread nD τ).loc main_arg1))
      (comb (probs (exps (scores (m ((c.tc : Thread nD τ).loc main_arg0))) (maxes (scores (m ((c.tc : Thread nD τ).loc main_arg0))))))
        (weight (m ((c.tc : Thread nD τ).loc main_arg2)) (m ((c.tc : Thread nD τ).loc main_arg3)) (m ((c.tc : Thread nD τ).loc main_arg4)) (m ((c.tc : Thread nD τ).loc main_arg5))))) := by
  unfold Cert.DiffRefIdeal.Value.res_main_v67 normed weighted comb weight probs exps maxes scores
  rfl

theorem scores_apply (X0 : FVec Ideal S2x8192x3072 .bf16) (b : Fin 2) (i : Fin 8) (q k : Fin 8192) :
    scores X0 (ix4 b i q k) = Scalar.select (IntOp.cmpi .sle (BitVec.ofNat 32 k.val) (BitVec.ofNat 32 q.val))
      (∑ d : Fin 64, (show EReal from X0 (ix3 b q ⟨1536 + (64 * i.val + d.val), by omega⟩)) * (show EReal from X0 (ix3 b k ⟨2048 + (64 * i.val + d.val), by omega⟩)))
      (Ideal.ofBits .f32 4286578688#32) := by
  unfold scores
  simp only [id_eq]
  pointwise
  blk_point []

/-- A maximum along the last axis is the fold of `max`. -/
theorem reduce_max {n0 n1 n2 n3 : ℕ} {u : Shape} (v : FVec Ideal ⟨4, ![n0, n1, n2, n3]⟩ .f32) (w : FVec Ideal u .f32)
    (h : (⟨4, ![n0, n1, n2, n3]⟩ : Shape).ReducesTo [3] ⟨3, ![n0, n1, n2]⟩) (hu : 0 < u.numel) (b : Fin n0) (i : Fin n1) (q : Fin n2) :
    Host.reduce FloatOps.maximumf v w h hu (ix3 b i q)
      = Finset.univ.fold max (show EReal from w (Shape.Idx.first hu)) fun k : Fin n3 => (show EReal from v (ix4 b i q k)) := by
  simp only [pointwise]

/-- The greater of an array's element and a maximum. -/
theorem max_reduce_max {n0 n1 n2 n3 : ℕ} {u : Shape} (x : FVec Ideal ⟨3, ![n0, n1, n2]⟩ .f32) (v : FVec Ideal ⟨4, ![n0, n1, n2, n3]⟩ .f32) (w : FVec Ideal u .f32)
    (h : (⟨4, ![n0, n1, n2, n3]⟩ : Shape).ReducesTo [3] ⟨3, ![n0, n1, n2]⟩) (hu : 0 < u.numel) (b : Fin n0) (i : Fin n1) (q : Fin n2) (x0 w0 : EReal)
    (hx : x (ix3 b i q) = x0) (hw : w (Shape.Idx.first hu) = w0) :
    maximumf x (Host.reduce FloatOps.maximumf v w h hu) (ix3 b i q) = max x0 (Finset.univ.fold max w0 fun k : Fin n3 => (show EReal from v (ix4 b i q k))) := by
  subst hx hw
  exact congrArg (fun y : EReal => max (show EReal from x (ix3 b i q)) y) (reduce_max v w h hu b i q)

theorem maxes_apply (S : FVec Ideal S2x8x8192x8192 .f32) (b : Fin 2) (i : Fin 8) (q : Fin 8192) :
    maxes S (ix3 b i q) = max (Ideal.ofBits .f32 4286578688#32) (Finset.univ.fold max (Ideal.ofBits .f32 4286578688#32) fun k : Fin 8192 => (show EReal from S (ix4 b i q k))) := by
  unfold maxes
  exact max_reduce_max _ S _ _ _ b i q _ _ rfl rfl

theorem exps_apply (S : FVec Ideal S2x8x8192x8192 .f32) (MX : FVec Ideal S2x8x8192 .f32) (b : Fin 2) (i : Fin 8) (q k : Fin 8192) :
    exps S MX (ix4 b i q k) = Ideal.exp ((show EReal from S (ix4 b i q k)) - (show EReal from MX (ix3 b i q))) := by
  unfold exps
  pointwise

theorem probs_apply (EX : FVec Ideal S2x8x8192x8192 .f32) (b : Fin 2) (i : Fin 8) (q k : Fin 8192) :
    probs EX (ix4 b i q k) = Ideal.div (show EReal from EX (ix4 b i q k)) (Ideal.ofBits .f32 0#32 + ∑ k' : Fin 8192, (show EReal from EX (ix4 b i q k'))) := by
  unfold probs
  pointwise

theorem weight_apply (X2 X3 X4 X5 : FVec Ideal S1x64 .f32) (y : S_.Idx) :
    weight X2 X3 X4 X5 y = Ideal.exp (Ideal.ofBits .f32 0#32 + ∑ d : Fin 64, (show EReal from X2 (ix2 0 d)) * (show EReal from X3 (ix2 0 d)))
      - Ideal.exp (Ideal.ofBits .f32 0#32 + ∑ d : Fin 64, (show EReal from X4 (ix2 0 d)) * (show EReal from X5 (ix2 0 d))) + Ideal.ofBits .f32 1045220557#32 := by
  unfold weight
  pointwise

theorem comb_apply (P : FVec Ideal S2x8x8192x8192 .f32) (L : FVec Ideal S_ .f32) (b : Fin 2) (h : Fin 4) (q k : Fin 8192) :
    comb P L (ix4 b h q k) = (show EReal from P (ix4 b ⟨2 * h.val, by omega⟩ q k)) - (show EReal from L ix0) * (show EReal from P (ix4 b ⟨2 * h.val + 1, by omega⟩ q k)) := by
  unfold comb
  pointwise
  blk_point []

theorem weighted_apply (X1 : FVec Ideal S2x512x8192 .bf16) (AA : FVec Ideal S2x4x8192x8192 .f32) (b : Fin 2) (q : Fin 8192) (h : Fin 4) (e : Fin 128) :
    weighted X1 AA (ix4 b q h e) = ∑ k : Fin 8192, (show EReal from X1 (ix3 b ⟨128 * h.val + e.val, by omega⟩ k)) * (show EReal from AA (ix4 b h q k)) := by
  unfold weighted
  pointwise
  blk_point []

theorem normed_apply (X6 : FVec Ideal S1x128 .f32) (O : FVec Ideal S2x8192x4x128 .f32) (b : Fin 2) (q : Fin 8192) (h : Fin 4) (e : Fin 128) :
    normed X6 O (ix3 b q ⟨128 * h.val + e.val, by omega⟩) = (show EReal from O (ix4 b q h e))
      * Ideal.rsqrt (Ideal.div (Ideal.ofBits .f32 0#32 + ∑ e' : Fin 128, (show EReal from O (ix4 b q h e')) * (show EReal from O (ix4 b q h e'))) (Ideal.ofBits .f32 1124073472#32) + Ideal.ofBits .f32 925353388#32)
      * (show EReal from X6 (ix2 0 e)) * Ideal.ofBits .f32 1061997773#32 := by
  unfold normed
  pointwise

end Cert.DiffRefIdeal.Hand

end
-- ==== Proof.Softmax.lean ====
/- The running softmax over the extended reals: a maximum, a normaliser and weighted sums, carried over blocks of scores. -/
module

public import Idealize.ShloMosaic.PureOps.Ideal
public import Mathlib.Analysis.SpecialFunctions.Exp
public import Mathlib.Data.EReal.Operations

@[expose] public section

noncomputable section

namespace Softmax

open Idealize.ShloMosaic

/-- A sum of reals is the sum of the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A score `x` with its weight `w`: masked with weight zero, or real with its exponential. -/
def Wt (x : EReal) (w : ℝ) : Prop := (x = ⊥ ∧ w = 0) ∨ ∃ r : ℝ, x = (r : EReal) ∧ w = Real.exp r

theorem Wt.ne_top {x : EReal} {w : ℝ} (h : Wt x w) : x ≠ ⊤ := by
  rcases h with ⟨rfl, _⟩ | ⟨r, rfl, _⟩ <;> simp

theorem Wt.nonneg {x : EReal} {w : ℝ} (h : Wt x w) : 0 ≤ w := by
  rcases h with ⟨_, rfl⟩ | ⟨r, _, rfl⟩
  · exact le_refl _
  · exact (Real.exp_pos r).le

/-- A score less a real maximum has as exponential its weight scaled. -/
theorem Wt.exp_sub {x : EReal} {w : ℝ} (h : Wt x w) (M : ℝ) : Ideal.exp (x - (M : EReal)) = ((Real.exp (-M) * w : ℝ) : EReal) := by
  rcases h with ⟨rfl, rfl⟩ | ⟨r, rfl, rfl⟩
  · rw [EReal.bot_sub]; simp
  · rw [← EReal.coe_sub, Ideal.exp_coe, ← Real.exp_add, neg_add_eq_sub]

/-- The maximum of scores, of which one is real, is real. -/
theorem fold_real {ι : Type*} [Fintype ι] (S : ι → EReal) (x : EReal) (hx : x ≠ ⊤) (hS : ∀ k, S k ≠ ⊤)
    (h : x ≠ ⊥ ∨ ∃ k, S k ≠ ⊥) : ∃ M : ℝ, max x (Finset.univ.fold max (⊥ : EReal) S) = (M : EReal) := by
  have ht : max x (Finset.univ.fold max (⊥ : EReal) S) < ⊤ := by
    rw [max_lt_iff, Finset.fold_max_lt]
    exact ⟨lt_top_iff_ne_top.2 hx, bot_lt_top, fun k _ => lt_top_iff_ne_top.2 (hS k)⟩
  have hb : ⊥ < max x (Finset.univ.fold max (⊥ : EReal) S) := by
    rw [lt_max_iff, Finset.lt_fold_max]
    rcases h with h | ⟨k, h⟩
    · exact Or.inl (bot_lt_iff_ne_bot.2 h)
    · exact Or.inr (Or.inr ⟨k, Finset.mem_univ _, bot_lt_iff_ne_bot.2 h⟩)
  exact ⟨_, (EReal.coe_toReal ht.ne hb.ne').symm⟩

/-- The state holds the normaliser `L` and the sums `A`, all scaled by the exponential of its maximum. -/
def Inv {ε : Type*} (x l : EReal) (a : ε → EReal) (L : ℝ) (A : ε → ℝ) : Prop :=
  ∃ M : ℝ, x = (M : EReal) ∧ l = ((Real.exp (-M) * L : ℝ) : EReal) ∧ ∀ e, a e = ((Real.exp (-M) * A e : ℝ) : EReal)

/-- The state before the first block. -/
def Start {ε : Type*} (x l : EReal) (a : ε → EReal) (L : ℝ) (A : ε → ℝ) : Prop :=
  x = ⊥ ∧ l = 0 ∧ (∀ e, a e = 0) ∧ L = 0 ∧ ∀ e, A e = 0

/-- The old value, rescaled to the new maximum. -/
theorem rescale (M M' : ℝ) (r : ℝ) : Ideal.exp ((M : EReal) - (M' : EReal)) * ((Real.exp (-M) * r : ℝ) : EReal) = ((Real.exp (-M') * r : ℝ) : EReal) := by
  rw [← EReal.coe_sub, Ideal.exp_coe, ← EReal.coe_mul]
  congr 1
  rw [← mul_assoc, ← Real.exp_add]
  congr 2; ring

/-- One block of scores extends the sums. -/
theorem step {ι ε : Type*} [Fintype ι] (S : ι → EReal) (W : ι → ℝ) (V : ε → ι → EReal) (v : ε → ι → ℝ) (x l : EReal) (a : ε → EReal) (L : ℝ) (A : ε → ℝ)
    (hS : ∀ k, Wt (S k) (W k)) (hV : ∀ e k, V e k = (v e k : EReal))
    (h : Inv x l a L A ∨ Start x l a L A ∧ ∃ k, S k ≠ ⊥) :
    Inv (max x (Finset.univ.fold max (⊥ : EReal) S))
      (Ideal.exp (x - max x (Finset.univ.fold max (⊥ : EReal) S)) * l + ∑ k, Ideal.exp (S k - max x (Finset.univ.fold max (⊥ : EReal) S)))
      (fun e => Ideal.exp (x - max x (Finset.univ.fold max (⊥ : EReal) S)) * a e + ∑ k, V e k * Ideal.exp (S k - max x (Finset.univ.fold max (⊥ : EReal) S)))
      (L + ∑ k, W k) (fun e => A e + ∑ k, v e k * W k) := by
  obtain ⟨M, hM⟩ : ∃ M : ℝ, max x (Finset.univ.fold max (⊥ : EReal) S) = (M : EReal) := by
    rcases h with ⟨M, rfl, _⟩ | ⟨⟨rfl, _⟩, hk⟩
    · exact fold_real S _ (EReal.coe_ne_top M) (fun k => (hS k).ne_top) (Or.inl (EReal.coe_ne_bot M))
    · exact fold_real S _ bot_ne_top (fun k => (hS k).ne_top) (Or.inr hk)
  rw [hM]
  have e1 : ∑ k, Ideal.exp (S k - (M : EReal)) = ((Real.exp (-M) * ∑ k, W k : ℝ) : EReal) := by
    rw [Finset.mul_sum, coe_sum]; exact Finset.sum_congr rfl fun k _ => (hS k).exp_sub M
  have e2 : ∀ e, ∑ k, V e k * Ideal.exp (S k - (M : EReal)) = ((Real.exp (-M) * ∑ k, v e k * W k : ℝ) : EReal) := fun e => by
    rw [Finset.mul_sum, coe_sum]
    refine Finset.sum_congr rfl fun k _ => ?_
    rw [(hS k).exp_sub M, hV, ← EReal.coe_mul]; congr 1; ring
  refine ⟨M, rfl, ?_, fun e => ?_⟩
  · rw [e1]
    rcases h with ⟨M0, rfl, rfl, _⟩ | ⟨⟨rfl, rfl, _, rfl, _⟩, _⟩
    · rw [rescale, ← EReal.coe_add, ← mul_add]
    · rw [mul_zero, zero_add, zero_add]
  · show _ * a e + _ = ((Real.exp (-M) * (A e + ∑ k, v e k * W k) : ℝ) : EReal)
    rw [e2]
    rcases h with ⟨M0, rfl, _, ha⟩ | ⟨⟨rfl, _, ha, _, hA⟩, _⟩
    · rw [ha, rescale, ← EReal.coe_add, ← mul_add]
    · rw [ha, mul_zero, zero_add, hA, zero_add]

/-- A weighted sum over its normaliser does not see the maximum. -/
theorem Inv.div {ε : Type*} {x l : EReal} {a : ε → EReal} {L : ℝ} {A : ε → ℝ} (h : Inv x l a L A) (hL : L ≠ 0) (e : ε) :
    Ideal.div (a e) l = ((A e / L : ℝ) : EReal) := by
  obtain ⟨M, _, rfl, ha⟩ := h
  have hp := Real.exp_ne_zero (-M)
  rw [ha, Ideal.div_coe (mul_ne_zero hp hL), ← EReal.coe_mul]
  congr 1
  field_simp

/-- A row of softmax is its weights over their sum. -/
theorem row {ι : Type*} [Fintype ι] (S : ι → EReal) (W : ι → ℝ) (hS : ∀ k, Wt (S k) (W k)) (hk : ∃ k, S k ≠ ⊥) (k : ι) :
    Ideal.div (Ideal.exp (S k - max (⊥ : EReal) (Finset.univ.fold max (⊥ : EReal) S)))
      (0 + ∑ k', Ideal.exp (S k' - max (⊥ : EReal) (Finset.univ.fold max (⊥ : EReal) S))) = ((W k / ∑ k', W k' : ℝ) : EReal) := by
  obtain ⟨M, hM⟩ := fold_real S ⊥ bot_ne_top (fun k => (hS k).ne_top) (Or.inr hk)
  rw [hM, (hS k).exp_sub M, zero_add]
  have e1 : ∑ k, Ideal.exp (S k - (M : EReal)) = ((Real.exp (-M) * ∑ k, W k : ℝ) : EReal) := by
    rw [Finset.mul_sum, coe_sum]; exact Finset.sum_congr rfl fun k _ => (hS k).exp_sub M
  have hL : ∑ k', W k' ≠ 0 := by
    obtain ⟨k0, h0⟩ := hk
    refine (Finset.sum_pos' (fun k _ => (hS k).nonneg) ⟨k0, Finset.mem_univ _, ?_⟩).ne'
    rcases hS k0 with ⟨h, _⟩ | ⟨r, _, h⟩
    · exact absurd h h0
    · rw [h]; exact Real.exp_pos r
  have hp := Real.exp_ne_zero (-M)
  rw [e1, Ideal.div_coe (mul_ne_zero hp hL), ← EReal.coe_mul]
  congr 1
  field_simp

end Softmax

end
-- ==== Proof.DiffAttnIdeal.Blocks.lean ====
/- The blocks a point reads, at coordinates of the argument arrays. -/
module

public import proofs.«01_k».proof.Proof.DiffAttnIdeal.Frame
public import Idealize.ShloMosaic.Lib.Pipeline.ValueKit
public import Idealize.ShloMosaic.Lib.Pointwise

@[expose] public section

set_option maxRecDepth 16384

noncomputable section

namespace Cert.DiffAttnIdeal.Hand

open Idealize.ShloMosaic Idealize.ShloMosaic.TcCoe Idealize.SL.Sem
open Cert.DiffAttnIdeal Cert.DiffAttnIdeal.Gen

variable (m : (ℓ : Loc nD τ sig) → Buf (Elt Ideal) ℓ)

/-- The arguments as launched. -/
def a0 (c : Dev nD) : Vec Ideal S2x8192x3072 .bf16 := m ((c : Thread nD τ).loc main_arg0)
def a1 (c : Dev nD) : Vec Ideal S2x512x8192 .bf16 := m ((c : Thread nD τ).loc main_arg1)
def a2 (c : Dev nD) : Vec Ideal S1x64 .f32 := m ((c : Thread nD τ).loc main_arg2)
def a3 (c : Dev nD) : Vec Ideal S1x64 .f32 := m ((c : Thread nD τ).loc main_arg3)
def a4 (c : Dev nD) : Vec Ideal S1x64 .f32 := m ((c : Thread nD τ).loc main_arg4)
def a5 (c : Dev nD) : Vec Ideal S1x64 .f32 := m ((c : Thread nD τ).loc main_arg5)
def a6 (c : Dev nD) : Vec Ideal S1x128 .f32 := m ((c : Thread nD τ).loc main_arg6)

/-- A point's batch, query block and key block. -/
theorem pt_bounds (t : Fin (cfgA (F := Ideal)).N) : t.val / 528 < 2 ∧ qN (t.val % 528) < 32 ∧ kN (t.val % 528) < 32 := by
  have hN : t.val < 1056 := lt_of_lt_of_eq t.isLt N_0
  obtain ⟨h, h', -⟩ := tri ⟨t.val % 528, by omega⟩
  exact ⟨by omega, h, lt_of_le_of_lt h' h⟩

theorem index0 (t : Fin (cfgA (F := Ideal)).N) : ((cfgA (F := Ideal)).win 0).index t = ![t.val / 528, qN (t.val % 528), 3] := by
  rw [← (coords_val t).1, ← (coords_val t).2.2]; exact tr0 (grid0.coords t)
theorem index1 (t : Fin (cfgA (F := Ideal)).N) : ((cfgA (F := Ideal)).win 1).index t = ![t.val / 528, kN (t.val % 528), 4] := by
  rw [← (coords_val t).1, ← (coords_val t).2.2]; exact tr1 (grid0.coords t)
theorem index2 (t : Fin (cfgA (F := Ideal)).N) : ((cfgA (F := Ideal)).win 2).index t = ![t.val / 528, 0, kN (t.val % 528)] := by
  rw [← (coords_val t).1, ← (coords_val t).2.2]; exact tr2 (grid0.coords t)

theorem index3 (t : Fin (cfgA (F := Ideal)).N) : ((cfgA (F := Ideal)).win 3).index t = ![0, 0] := by
  funext a; match a with | 0 => rfl | 1 => rfl
theorem index4 (t : Fin (cfgA (F := Ideal)).N) : ((cfgA (F := Ideal)).win 4).index t = ![0, 0] := by
  funext a; match a with | 0 => rfl | 1 => rfl
theorem index5 (t : Fin (cfgA (F := Ideal)).N) : ((cfgA (F := Ideal)).win 5).index t = ![0, 0] := by
  funext a; match a with | 0 => rfl | 1 => rfl
theorem index6 (t : Fin (cfgA (F := Ideal)).N) : ((cfgA (F := Ideal)).win 6).index t = ![0, 0] := by
  funext a; match a with | 0 => rfl | 1 => rfl
theorem index7 (t : Fin (cfgA (F := Ideal)).N) : ((cfgA (F := Ideal)).win 7).index t = ![0, 0] := by
  funext a; match a with | 0 => rfl | 1 => rfl

theorem xb0_eq (c : Dev nD) (t : Fin (cfgA (F := Ideal)).N) (q : Fin 256) (n : Fin 512) :
    xb0 m c t (ix3 0 q n) = a0 m c (ix3 ⟨t.val / 528, (pt_bounds t).1⟩ ⟨256 * qN (t.val % 528) + q.val, by have := (pt_bounds t).2.1; omega⟩ ⟨1536 + n.val, by omega⟩) := by
  unfold xb0 a0
  rw [← V_of_ne m c main_arg0 (by decide) (by decide) (by decide)]
  blk_ext [iblk, index0 t]

theorem xb1_eq (c : Dev nD) (t : Fin (cfgA (F := Ideal)).N) (k : Fin 256) (n : Fin 512) :
    xb1 m c t (ix3 0 k n) = a0 m c (ix3 ⟨t.val / 528, (pt_bounds t).1⟩ ⟨256 * kN (t.val % 528) + k.val, by have := (pt_bounds t).2.2; omega⟩ ⟨2048 + n.val, by omega⟩) := by
  unfold xb1 a0
  rw [← V_of_ne m c main_arg0 (by decide) (by decide) (by decide)]
  blk_ext [iblk, index1 t]

theorem xb2_eq (c : Dev nD) (t : Fin (cfgA (F := Ideal)).N) (n : Fin 512) (k : Fin 256) :
    xb2 m c t (ix3 0 n k) = a1 m c (ix3 ⟨t.val / 528, (pt_bounds t).1⟩ n ⟨256 * kN (t.val % 528) + k.val, by have := (pt_bounds t).2.2; omega⟩) := by
  unfold xb2 a1
  rw [← V_of_ne m c main_arg1 (by decide) (by decide) (by decide)]
  blk_ext [iblk, index2 t]

theorem xb3_eq (c : Dev nD) (t : Fin (cfgA (F := Ideal)).N) : xb3 m c t = a2 m c := by
  unfold xb3 a2
  rw [← V_of_ne m c main_arg2 (by decide) (by decide) (by decide)]
  funext y; blk_ext [iblk, index3 t]
theorem xb4_eq (c : Dev nD) (t : Fin (cfgA (F := Ideal)).N) : xb4 m c t = a3 m c := by
  unfold xb4 a3
  rw [← V_of_ne m c main_arg3 (by decide) (by decide) (by decide)]
  funext y; blk_ext [iblk, index4 t]
theorem xb5_eq (c : Dev nD) (t : Fin (cfgA (F := Ideal)).N) : xb5 m c t = a4 m c := by
  unfold xb5 a4
  rw [← V_of_ne m c main_arg4 (by decide) (by decide) (by decide)]
  funext y; blk_ext [iblk, index5 t]
theorem xb6_eq (c : Dev nD) (t : Fin (cfgA (F := Ideal)).N) : xb6 m c t = a5 m c := by
  unfold xb6 a5
  rw [← V_of_ne m c main_arg5 (by decide) (by decide) (by decide)]
  funext y; blk_ext [iblk, index6 t]
theorem xb7_eq (c : Dev nD) (t : Fin (cfgA (F := Ideal)).N) (e : Fin 128) : xb7 m c t (ix2 e 0) = a6 m c (ix2 0 e) := by
  unfold xb7 a6
  blk_simp [iblk]
  entry_read
  pointwise
  blk_ext [index7 t]

end Cert.DiffAttnIdeal.Hand

end
-- ==== Proof.DiffAttnIdeal.Val.lean ====
/- What a step of the state holds at each index, over the extended reals. -/
module

public import proofs.«01_k».proof.Proof.DiffAttnIdeal.Step
public import Idealize.ShloMosaic.Lib.Pipeline.ValueKit
public import Idealize.ShloMosaic.Lib.Pointwise
public import Idealize.ShloMosaic.Lib.Pipeline.ReadBack

@[expose] public section

set_option maxRecDepth 16384

noncomputable section

namespace Cert.DiffAttnIdeal.Hand

open Idealize.ShloMosaic Idealize.ShloMosaic.TcCoe Idealize.SL.Sem
open Cert.DiffAttnIdeal Cert.DiffAttnIdeal.Gen

/-- The last entry of the list is the first store; where a later one covers the index, it is not read. -/
theorem canon_dropLast {s : Shape} {e : EltTy} (L : List (View.Piece (Elt Ideal) s e)) (y : s.Idx)
    (h : ∃ p ∈ L.dropLast, y ∈ p.1.set) : View.canon L y = View.canon L.dropLast y := by
  induction L with
  | nil => rfl
  | cons p L ih =>
    cases L with
    | nil => obtain ⟨p, hp, _⟩ := h; simp at hp
    | cons r L =>
      rw [List.dropLast_cons₂] at h ⊢
      by_cases hm : y ∈ p.1.set
      · obtain ⟨x, rfl⟩ := p.1.exists_idx_of_mem hm
        rw [show p.1.idx x = p.1.emb x from rfl, View.canon_cons_emb, View.canon_cons_emb]
      · rw [View.canon_cons_of_not_mem _ _ hm, View.canon_cons_of_not_mem _ _ hm]
        refine ih ?_
        obtain ⟨u, hu, hy⟩ := h
        rcases List.mem_cons.mp hu with rfl | hu
        · exact absurd hy hm
        · exact ⟨u, hu, hy⟩

/-- The two maps' weights combined over the values, at each value lane. -/
def oK (A : Fin 8 → Fin 128 → Fin 256 → EReal) (L : Fin 8 → Fin 256 → EReal) (lam : EReal) (h : Fin 4) (e : Fin 128) (q : Fin 256) : EReal :=
  Ideal.div (A ⟨2 * h.val, by omega⟩ e q) (L ⟨2 * h.val, by omega⟩ q) - lam * Ideal.div (A ⟨2 * h.val + 1, by omega⟩ e q) (L ⟨2 * h.val + 1, by omega⟩ q)

/-- The second map's weight. -/
def lamK (X3 X4 X5 X6 : Vec Ideal S1x64 .f32) : EReal :=
  Ideal.exp (∑ d : Fin 64, (show EReal from X3 (ix2 0 d)) * (show EReal from X4 (ix2 0 d)))
    - Ideal.exp (∑ d : Fin 64, (show EReal from X5 (ix2 0 d)) * (show EReal from X6 (ix2 0 d))) + Ideal.ofBits .f32 1045220557#32

/-- The head's row normalised and scaled, as it is stored. -/
def finK (A : Fin 8 → Fin 128 → Fin 256 → EReal) (L : Fin 8 → Fin 256 → EReal) (lam : EReal) (X7 : Vec Ideal S128x1 .f32) (h : Fin 4) (e : Fin 128) (q : Fin 256) : EReal :=
  oK A L lam h e q * Ideal.rsqrt (Ideal.div (∑ e' : Fin 128, oK A L lam h e' q * oK A L lam h e' q) (Ideal.ofBits .f32 1124073472#32) + Ideal.ofBits .f32 925353388#32)
    * (show EReal from X7 (ix2 e 0)) * Ideal.ofBits .f32 1061997773#32

/-- A score: the key's row against the query's row, of map `i`. -/
def sc (X0 X1 : Vec Ideal S1x256x512 .bf16) (i : Fin 8) (k q : Fin 256) : EReal :=
  ∑ d : Fin 64, (show EReal from X1 (ix3 0 k ⟨64 * i.val + d.val, by omega⟩)) * (show EReal from X0 (ix3 0 q ⟨64 * i.val + d.val, by omega⟩))

/-- The scores of a row's last block: the key after the query is masked. -/
def scm (X0 X1 : Vec Ideal S1x256x512 .bf16) (i : Fin 8) (k q : Fin 256) : EReal :=
  Scalar.select (IntOp.cmpi .sle (BitVec.ofNat 32 k.val) (BitVec.ofNat 32 q.val)) (sc X0 X1 i k q) (Named.named (F := Ideal) κ "mask" (φ := .f32) 4048155338#32)

/-- The state a row begins with. -/
def s00 : Scr Ideal := ⟨fun _ => (0 : EReal), fun _ => Named.named (F := Ideal) κ "mask" (φ := .f32) 4048155338#32, fun _ => (0 : EReal)⟩

/-- The running maximum after a block of scores `S`. -/
def mx (S : Fin 8 → Fin 256 → Fin 256 → EReal) (s1 : Vec Ideal S8x1x256 .f32) (i : Fin 8) (q : Fin 256) : EReal :=
  max (s1 (ix3 i 0 q)) (Finset.univ.fold max (Ideal.ofBits .f32 4286578688#32) fun k => S i k q)

/-- The normaliser after a block of scores. -/
def lx (S : Fin 8 → Fin 256 → Fin 256 → EReal) (s1 s2 : Vec Ideal S8x1x256 .f32) (i : Fin 8) (q : Fin 256) : EReal :=
  Ideal.exp ((show EReal from s1 (ix3 i 0 q)) - mx S s1 i q) * (show EReal from s2 (ix3 i 0 q)) + ∑ k : Fin 256, Ideal.exp (S i k q - mx S s1 i q)

/-- The unnormalised sums after a block of scores. -/
def ax (S : Fin 8 → Fin 256 → Fin 256 → EReal) (X2 : Vec Ideal S1x512x256 .bf16) (s0 : Vec Ideal S8x128x256 .f32) (s1 : Vec Ideal S8x1x256 .f32)
    (i : Fin 8) (e : Fin 128) (q : Fin 256) : EReal :=
  Ideal.exp ((show EReal from s1 (ix3 i 0 q)) - mx S s1 i q) * (show EReal from s0 (ix3 i e q))
    + ∑ k : Fin 256, (show EReal from X2 (ix3 0 ⟨128 * (i.val / 2) + e.val, by omega⟩ k)) * Ideal.exp (S i k q - mx S s1 i q)

/-- The state after a block of scores `S`, as it is read at each index. -/
def StepOf (S : Fin 8 → Fin 256 → Fin 256 → EReal) (X2 : Vec Ideal S1x512x256 .bf16) (s s' : Scr Ideal) : Prop :=
  ∀ (i : Fin 8) (q : Fin 256), s'.s1 (ix3 i 0 q) = mx S s.s1 i q ∧ s'.s2 (ix3 i 0 q) = lx S s.s1 s.s2 i q ∧ ∀ e : Fin 128, s'.s0 (ix3 i e q) = ax S X2 s.s0 s.s1 i e q

end Cert.DiffAttnIdeal.Hand

end
-- ==== Proof.DiffAttnIdeal.ValA.lean ====
/- What a step of the state holds at each index, in a row of one block. -/
module

public import proofs.«01_k».proof.Proof.DiffAttnIdeal.Val
public import Idealize.ShloMosaic.Lib.Pipeline.ValueKit
public import Idealize.ShloMosaic.Lib.Pointwise
public import Idealize.ShloMosaic.Lib.Pipeline.ReadBack

@[expose] public section

set_option maxRecDepth 16384

noncomputable section

namespace Cert.DiffAttnIdeal.Hand

open Idealize.ShloMosaic Idealize.ShloMosaic.TcCoe Idealize.SL.Sem
open Cert.DiffAttnIdeal Cert.DiffAttnIdeal.Gen

variable (m : (ℓ : Loc nD τ sig) → Buf (Elt Ideal) ℓ)

set_option maxHeartbeats 1600000 in
/-- A row of one block steps from the beginning, masked. -/
theorem stepA (c : Dev nD) (t : Fin (cfgA (F := Ideal)).N) (h0 : w1 t = 0#32) (h1 : w1 t = w0 t) :
    StepOf (scm (xb0 m c t) (xb1 m c t)) (xb2 m c t) s00 (nxA m c t h0 h1) := by
  intro i q
  refine ⟨(congrFun (nxA_1 m c t h0 h1) _).symm.trans ((canon_dropLast _ _ (View.cover_of_tiledL (atA m c t h0 h1).2.2.1.dropLast S1x1x256.size (by sl_kernel_rfl) _)).trans ?_), (congrFun (nxA_2 m c t h0 h1) _).symm.trans ((canon_dropLast _ _ (View.cover_of_tiledL (atA m c t h0 h1).2.2.2.1.dropLast S1x1x256.size (by sl_kernel_rfl) _)).trans ?_), fun e => (congrFun (nxA_0 m c t h0 h1) _).symm.trans ((canon_dropLast _ _ (View.cover_of_tiledL (atA m c t h0 h1).2.1.dropLast S1x128x256.size (by sl_kernel_rfl) _)).trans ?_)⟩
  all_goals
    unfold atA runA
    frame_open
    simp (disch := decide) only [↓ View.readCov_skip, ↓ View.readCov_cons_toLoadRect, ↓ View.readCov_fill]
    frame_out
    simp only [List.dropLast_cons₂, List.dropLast_singleton]
    generalize xb0 m c t = X0
    generalize xb1 m c t = X1
    generalize xb2 m c t = X2
    clear h0 h1
    canon_tiles x h
    all_goals
      replace h0 : (i : ℕ) = _ := h0
      first | replace h1 : (e : ℕ) = _ := h1 | skip
      replace h2 : (q : ℕ) = _ := h2
      open_payloads
      pointwise [mx, lx, ax, s00, scm, sc]
      blk_point []
      all_goals exact h2.symm

end Cert.DiffAttnIdeal.Hand

end
-- ==== Proof.DiffAttnIdeal.ValB.lean ====
/- What a step of the state holds at each index, at the beginning of a row. -/
module

public import proofs.«01_k».proof.Proof.DiffAttnIdeal.Val
public import Idealize.ShloMosaic.Lib.Pipeline.ValueKit
public import Idealize.ShloMosaic.Lib.Pointwise
public import Idealize.ShloMosaic.Lib.Pipeline.ReadBack

@[expose] public section

set_option maxRecDepth 16384

noncomputable section

namespace Cert.DiffAttnIdeal.Hand

open Idealize.ShloMosaic Idealize.ShloMosaic.TcCoe Idealize.SL.Sem
open Cert.DiffAttnIdeal Cert.DiffAttnIdeal.Gen

variable (m : (ℓ : Loc nD τ sig) → Buf (Elt Ideal) ℓ)

set_option maxHeartbeats 1600000 in
/-- The first block of a row steps from the beginning. -/
theorem stepB (c : Dev nD) (t : Fin (cfgA (F := Ideal)).N) (h0 : w1 t = 0#32) (h1 : ¬ w1 t = w0 t) :
    StepOf (sc (xb0 m c t) (xb1 m c t)) (xb2 m c t) s00 (nxB m c t h0 h1) := by
  intro i q
  refine ⟨(congrFun (nxB_1 m c t h0 h1) _).symm.trans ((canon_dropLast _ _ (View.cover_of_tiledL (atB m c t h0 h1).2.1.dropLast S1x1x256.size (by sl_kernel_rfl) _)).trans ?_), (congrFun (nxB_2 m c t h0 h1) _).symm.trans ((canon_dropLast _ _ (View.cover_of_tiledL (atB m c t h0 h1).2.2.1.dropLast S1x1x256.size (by sl_kernel_rfl) _)).trans ?_), fun e => (congrFun (nxB_0 m c t h0 h1) _).symm.trans ((canon_dropLast _ _ (View.cover_of_tiledL (atB m c t h0 h1).1.dropLast S1x128x256.size (by sl_kernel_rfl) _)).trans ?_)⟩
  all_goals
    unfold atB runB
    frame_open
    simp (disch := decide) only [↓ View.readCov_skip, ↓ View.readCov_cons_toLoadRect, ↓ View.readCov_fill]
    frame_out
    simp only [List.dropLast_cons₂, List.dropLast_singleton]
    generalize xb0 m c t = X0
    generalize xb1 m c t = X1
    generalize xb2 m c t = X2
    clear h0 h1
    canon_tiles x h
    all_goals
      replace h0 : (i : ℕ) = _ := h0
      first | replace h1 : (e : ℕ) = _ := h1 | skip
      replace h2 : (q : ℕ) = _ := h2
      open_payloads
      pointwise [mx, lx, ax, s00, sc]
      blk_point []

end Cert.DiffAttnIdeal.Hand

end
-- ==== Proof.DiffAttnIdeal.ValC.lean ====
/- What a step of the state holds at each index, at the end of a row. -/
module

public import proofs.«01_k».proof.Proof.DiffAttnIdeal.Val
public import Idealize.ShloMosaic.Lib.Pipeline.ValueKit
public import Idealize.ShloMosaic.Lib.Pointwise
public import Idealize.ShloMosaic.Lib.Pipeline.ReadBack

@[expose] public section

set_option maxRecDepth 16384

noncomputable section

namespace Cert.DiffAttnIdeal.Hand

open Idealize.ShloMosaic Idealize.ShloMosaic.TcCoe Idealize.SL.Sem
open Cert.DiffAttnIdeal Cert.DiffAttnIdeal.Gen

variable (m : (ℓ : Loc nD τ sig) → Buf (Elt Ideal) ℓ)

set_option maxHeartbeats 1600000 in
/-- The last block of a row steps masked. -/
theorem stepC (c : Dev nD) (t : Fin (cfgA (F := Ideal)).N) (h0 : ¬ w1 t = 0#32) (h1 : w1 t = w0 t) (s : Scr Ideal) :
    StepOf (scm (xb0 m c t) (xb1 m c t)) (xb2 m c t) s (nxC m c t h0 h1 s) := by
  intro i q
  refine ⟨(congrFun (nxC_1 m c t h0 h1 s) _).symm.trans ?_, (congrFun (nxC_2 m c t h0 h1 s) _).symm.trans ?_, fun e => (congrFun (nxC_0 m c t h0 h1 s) _).symm.trans ?_⟩
  all_goals
    unfold atC runC
    frame_out
    simp only [read_unread_whole]
    generalize xb0 m c t = X0
    generalize xb1 m c t = X1
    generalize xb2 m c t = X2
    obtain ⟨s0, s1, s2⟩ := s
    clear h0 h1
    canon_tiles x h
    all_goals
      replace h0 : (i : ℕ) = _ := h0
      first | replace h1 : (e : ℕ) = _ := h1 | skip
      replace h2 : (q : ℕ) = _ := h2
      open_payloads
      pointwise [mx, lx, ax, scm, sc]
      blk_point []
      all_goals exact h2.symm

end Cert.DiffAttnIdeal.Hand

end
-- ==== Proof.DiffAttnIdeal.ValD.lean ====
/- What a step of the state holds at each index, strictly inside a row. -/
module

public import proofs.«01_k».proof.Proof.DiffAttnIdeal.Val
public import Idealize.ShloMosaic.Lib.Pipeline.ValueKit
public import Idealize.ShloMosaic.Lib.Pointwise
public import Idealize.ShloMosaic.Lib.Pipeline.ReadBack

@[expose] public section

set_option maxRecDepth 16384

noncomputable section

namespace Cert.DiffAttnIdeal.Hand

open Idealize.ShloMosaic Idealize.ShloMosaic.TcCoe Idealize.SL.Sem
open Cert.DiffAttnIdeal Cert.DiffAttnIdeal.Gen

variable (m : (ℓ : Loc nD τ sig) → Buf (Elt Ideal) ℓ)

set_option maxHeartbeats 1600000 in
/-- A block inside a row steps. -/
theorem stepD (c : Dev nD) (t : Fin (cfgA (F := Ideal)).N) (h0 : ¬ w1 t = 0#32) (h1 : ¬ w1 t = w0 t) (s : Scr Ideal) :
    StepOf (sc (xb0 m c t) (xb1 m c t)) (xb2 m c t) s (nxD m c t h0 h1 s) := by
  intro i q
  refine ⟨(congrFun (nxD_1 m c t h0 h1 s) _).symm.trans ?_, (congrFun (nxD_2 m c t h0 h1 s) _).symm.trans ?_, fun e => (congrFun (nxD_0 m c t h0 h1 s) _).symm.trans ?_⟩
  all_goals
    unfold atD runD
    frame_out
    simp only [read_unread_whole]
    generalize xb0 m c t = X0
    generalize xb1 m c t = X1
    generalize xb2 m c t = X2
    obtain ⟨s0, s1, s2⟩ := s
    clear h0 h1
    canon_tiles x h
    all_goals
      replace h0 : (i : ℕ) = _ := h0
      first | replace h1 : (e : ℕ) = _ := h1 | skip
      replace h2 : (q : ℕ) = _ := h2
      open_payloads
      pointwise [mx, lx, ax, sc]
      blk_point []

end Cert.DiffAttnIdeal.Hand

end
-- ==== Proof.DiffAttnIdeal.FinA.lean ====
/- What a step of the state holds at each index, in a row of one block. -/
module

public import proofs.«01_k».proof.Proof.DiffAttnIdeal.Val
public import Idealize.ShloMosaic.Lib.Pipeline.ValueKit
public import Idealize.ShloMosaic.Lib.Pointwise
public import Idealize.ShloMosaic.Lib.Pipeline.ReadBack

@[expose] public section

set_option maxRecDepth 16384

noncomputable section

namespace Cert.DiffAttnIdeal.Hand

open Idealize.ShloMosaic Idealize.ShloMosaic.TcCoe Idealize.SL.Sem
open Cert.DiffAttnIdeal Cert.DiffAttnIdeal.Gen

variable (m : (ℓ : Loc nD τ sig) → Buf (Elt Ideal) ℓ)

set_option maxHeartbeats 1600000 in
/-- What a row of one block stores of its output. -/
theorem finA (c : Dev nD) (t : Fin (cfgA (F := Ideal)).N) (h0 : w1 t = 0#32) (h1 : w1 t = w0 t) (hd : Fin 4) (e : Fin 128) (q : Fin 256) :
    (outA m c t h0 h1) (ix3 0 q ⟨128 * hd.val + e.val, by omega⟩) = finK (ax (scm (xb0 m c t) (xb1 m c t)) (xb2 m c t) s00.s0 s00.s1)
      (lx (scm (xb0 m c t) (xb1 m c t)) s00.s1 s00.s2) (lamK (xb3 m c t) (xb4 m c t) (xb5 m c t) (xb6 m c t)) (xb7 m c t) hd e q := by
  unfold outA atA runA
  frame_open
  simp (disch := decide) only [↓ View.readCov_skip, ↓ View.readCov_cons_toLoadRect, ↓ View.readCov_fill]
  frame_out
  generalize xb0 m c t = X0
  generalize xb1 m c t = X1
  generalize xb2 m c t = X2
  generalize xb3 m c t = X3
  generalize xb4 m c t = X4
  generalize xb5 m c t = X5
  generalize xb6 m c t = X6
  generalize xb7 m c t = X7
  clear h0 h1
  canon_tiles x h
  all_goals
    replace h1 : (q : ℕ) = _ := h1
    replace h2 : 128 * (hd : ℕ) + (e : ℕ) = _ := h2
    open_payloads
    pointwise [finK, oK, lamK, mx, lx, ax, s00, scm, sc]
    blk_point []
    all_goals exact h1.symm

end Cert.DiffAttnIdeal.Hand

end
-- ==== Proof.DiffAttnIdeal.FinC.lean ====
/- What a step of the state holds at each index, at the end of a row. -/
module

public import proofs.«01_k».proof.Proof.DiffAttnIdeal.Val
public import Idealize.ShloMosaic.Lib.Pipeline.ValueKit
public import Idealize.ShloMosaic.Lib.Pointwise
public import Idealize.ShloMosaic.Lib.Pipeline.ReadBack

@[expose] public section

set_option maxRecDepth 16384

noncomputable section

namespace Cert.DiffAttnIdeal.Hand

open Idealize.ShloMosaic Idealize.ShloMosaic.TcCoe Idealize.SL.Sem
open Cert.DiffAttnIdeal Cert.DiffAttnIdeal.Gen

variable (m : (ℓ : Loc nD τ sig) → Buf (Elt Ideal) ℓ)

set_option maxHeartbeats 1600000 in
/-- What the end of a row stores of its output. -/
theorem finC (c : Dev nD) (t : Fin (cfgA (F := Ideal)).N) (h0 : ¬ w1 t = 0#32) (h1 : w1 t = w0 t) (s : Scr Ideal) (hd : Fin 4) (e : Fin 128) (q : Fin 256) :
    (outC m c t h0 h1 s) (ix3 0 q ⟨128 * hd.val + e.val, by omega⟩) = finK (ax (scm (xb0 m c t) (xb1 m c t)) (xb2 m c t) s.s0 s.s1)
      (lx (scm (xb0 m c t) (xb1 m c t)) s.s1 s.s2) (lamK (xb3 m c t) (xb4 m c t) (xb5 m c t) (xb6 m c t)) (xb7 m c t) hd e q := by
  unfold outC atC runC
  frame_open
  simp (disch := decide) only [↓ View.readCov_skip, ↓ View.readCov_cons_toLoadRect, ↓ View.readCov_fill]
  frame_out
  simp only [read_unread_whole]
  generalize xb0 m c t = X0
  generalize xb1 m c t = X1
  generalize xb2 m c t = X2
  generalize xb3 m c t = X3
  generalize xb4 m c t = X4
  generalize xb5 m c t = X5
  generalize xb6 m c t = X6
  generalize xb7 m c t = X7
  obtain ⟨s0, s1, s2⟩ := s
  clear h0 h1
  canon_tiles x h
  all_goals
    replace h1 : (q : ℕ) = _ := h1
    replace h2 : 128 * (hd : ℕ) + (e : ℕ) = _ := h2
    open_payloads
    pointwise [finK, oK, lamK, mx, lx, ax, scm, sc]
    blk_point []
    all_goals exact h1.symm

end Cert.DiffAttnIdeal.Hand

end
-- ==== Proof.DiffAttnIdeal.Row.lean ====
/- The running softmax along a row of the attention: what the state holds after each key block, and what the row stores. -/
module

public import proofs.«01_k».proof.Proof.Softmax
public import proofs.«01_k».proof.Proof.DiffAttnIdeal.Blocks
public import proofs.«01_k».proof.Proof.DiffAttnIdeal.ValA
public import proofs.«01_k».proof.Proof.DiffAttnIdeal.ValB
public import proofs.«01_k».proof.Proof.DiffAttnIdeal.ValC
public import proofs.«01_k».proof.Proof.DiffAttnIdeal.ValD
public import proofs.«01_k».proof.Proof.DiffAttnIdeal.FinA
public import proofs.«01_k».proof.Proof.DiffAttnIdeal.FinC

@[expose] public section

set_option maxRecDepth 16384

noncomputable section

namespace Cert.DiffAttnIdeal.Hand

open Idealize.ShloMosaic Idealize.ShloMosaic.TcCoe Idealize.SL.Sem
open Cert.DiffAttnIdeal Cert.DiffAttnIdeal.Gen

/-- The word of minus infinity. -/
theorem ninf : Ideal.ofBits .f32 4286578688#32 = ⊥ := by unfold Ideal.ofBits; simp [Ideal.ieee]

/-- The named mask is minus infinity. -/
theorem mask_bot : Named.named (F := Ideal) κ "mask" (φ := .f32) 4048155338#32 = (⊥ : EReal) := rfl

/-- Comparing two positions. -/
theorem sle_of {k q : ℕ} (hk : k < 8192) (hq : q < 8192) : IntOp.cmpi .sle (BitVec.ofNat 32 k) (BitVec.ofNat 32 q) = BitVec.ofBool (decide (k ≤ q)) := by
  have e : (BitVec.ofNat 32 k).sle (BitVec.ofNat 32 q) = decide (k ≤ q) := by
    rw [BitVec.sle_eq_decide, BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  unfold IntOp.cmpi
  simp only [e]

variable (X : Vec Ideal S2x8192x3072 .bf16) (Y : Vec Ideal S2x512x8192 .bf16)

/-- The arrays' elements as reals, at numbers. -/
def xr (b s n : ℕ) : ℝ := if h : b < 2 ∧ s < 8192 ∧ n < 3072 then (show EReal from X (ix3 ⟨b, h.1⟩ ⟨s, h.2.1⟩ ⟨n, h.2.2⟩)).toReal else 0
def yr (b n s : ℕ) : ℝ := if h : b < 2 ∧ n < 512 ∧ s < 8192 then (show EReal from Y (ix3 ⟨b, h.1⟩ ⟨n, h.2.1⟩ ⟨s, h.2.2⟩)).toReal else 0

/-- Every element is a real. -/
def Fin0 : Prop := ∀ y, (show EReal from X y) ≠ ⊤ ∧ (show EReal from X y) ≠ ⊥
def Fin1 : Prop := ∀ y, (show EReal from Y y) ≠ ⊤ ∧ (show EReal from Y y) ≠ ⊥

variable {X Y} in
theorem xr_coe (hX : Fin0 X) (b : Fin 2) (s : Fin 8192) (n : Fin 3072) : X (ix3 b s n) = ((xr X b.val s.val n.val : ℝ) : EReal) := by
  unfold xr
  rw [dif_pos ⟨b.isLt, s.isLt, n.isLt⟩]
  exact (EReal.coe_toReal (hX _).1 (hX _).2).symm
variable {X Y} in
theorem yr_coe (hY : Fin1 Y) (b : Fin 2) (n : Fin 512) (s : Fin 8192) : Y (ix3 b n s) = ((yr Y b.val n.val s.val : ℝ) : EReal) := by
  unfold yr
  rw [dif_pos ⟨b.isLt, n.isLt, s.isLt⟩]
  exact (EReal.coe_toReal (hY _).1 (hY _).2).symm

/-- A score of map `i` as a real, and its weight: zero where the key is after the query. -/
def sr (b i q k : ℕ) : ℝ := ∑ d : Fin 64, xr X b k (2048 + (64 * i + d.val)) * xr X b q (1536 + (64 * i + d.val))
def wr (b i q k : ℕ) : ℝ := if k ≤ q then Real.exp (sr X b i q k) else 0

/-- The normaliser over the first `n` keys, and the weighted values. -/
def lr (b i q n : ℕ) : ℝ := ∑ k ∈ Finset.range n, wr X b i q k
def ar (b i q n e : ℕ) : ℝ := ∑ k ∈ Finset.range n, yr Y b (128 * (i / 2) + e) k * wr X b i q k

theorem wr_nonneg (b i q k : ℕ) : 0 ≤ wr X b i q k := by
  unfold wr; split
  · exact (Real.exp_pos _).le
  · exact le_refl _

theorem lr_pos (b i q n : ℕ) (h : 0 < n) : 0 < lr X b i q n := by
  unfold lr
  refine Finset.sum_pos' (fun k _ => wr_nonneg X b i q k) ⟨0, Finset.mem_range.2 h, ?_⟩
  unfold wr; rw [if_pos (Nat.zero_le q)]; exact Real.exp_pos _

/-- One more block of keys. -/
theorem lr_block (b i q n : ℕ) : lr X b i q (n + 256) = lr X b i q n + ∑ k : Fin 256, wr X b i q (n + k.val) := by
  unfold lr; rw [Finset.sum_range_add, Finset.sum_range fun k => wr X b i q (n + k)]
theorem ar_block (b i q n e : ℕ) : ar X Y b i q (n + 256) e = ar X Y b i q n e + ∑ k : Fin 256, yr Y b (128 * (i / 2) + e) (n + k.val) * wr X b i q (n + k.val) := by
  unfold ar; rw [Finset.sum_range_add, Finset.sum_range fun k => yr Y b (128 * (i / 2) + e) (n + k) * wr X b i q (n + k)]

/-- Keys after the query add nothing. -/
theorem wr_zero (b i q k : ℕ) (h : q < k) : wr X b i q k = 0 := if_neg (by omega)
theorem lr_all (b i q n N : ℕ) (h : q < n) (hN : n ≤ N) : lr X b i q N = lr X b i q n := by
  unfold lr
  refine (Finset.sum_subset (Finset.range_mono hN) fun k _ hk => wr_zero X b i q k ?_).symm
  rw [Finset.mem_range] at hk; omega
theorem ar_all (b i q n N e : ℕ) (h : q < n) (hN : n ≤ N) : ar X Y b i q N e = ar X Y b i q n e := by
  unfold ar
  refine (Finset.sum_subset (Finset.range_mono hN) fun k _ hk => ?_).symm
  rw [wr_zero X b i q k (by rw [Finset.mem_range] at hk; omega), mul_zero]

/-- A state holds map `i`'s sums at query `q` over the first `n` keys. -/
def Holds (b qi n : ℕ) (s : Scr Ideal) : Prop :=
  ∀ (i : Fin 8) (q : Fin 256), Softmax.Inv (s.s1 (ix3 i 0 q)) (s.s2 (ix3 i 0 q)) (fun e : Fin 128 => s.s0 (ix3 i e q))
    (lr X b i.val (256 * qi + q.val) n) (fun e => ar X Y b i.val (256 * qi + q.val) n e.val)

/-- The scores of a block are these weights'. -/
def Scores (b qi kj : ℕ) (S : Fin 8 → Fin 256 → Fin 256 → EReal) : Prop :=
  ∀ (i : Fin 8) (k q : Fin 256), Softmax.Wt (S i k q) (wr X b i.val (256 * qi + q.val) (256 * kj + k.val))

variable {X Y}

/-- A block after the first. -/
theorem holds_step {b qi kj : ℕ} {S : Fin 8 → Fin 256 → Fin 256 → EReal} {X2 : Vec Ideal S1x512x256 .bf16} {s s' : Scr Ideal}
    (hS : Scores X b qi kj S) (hV : ∀ (n : Fin 512) (k : Fin 256), X2 (ix3 0 n k) = ((yr Y b n.val (256 * kj + k.val) : ℝ) : EReal))
    (h : Holds X Y b qi (256 * kj) s) :
    (∀ (i : Fin 8) (q : Fin 256), Softmax.Inv (mx S s.s1 i q) (lx S s.s1 s.s2 i q) (fun e : Fin 128 => ax S X2 s.s0 s.s1 i e q)
      (lr X b i.val (256 * qi + q.val) (256 * kj + 256)) (fun e => ar X Y b i.val (256 * qi + q.val) (256 * kj + 256) e.val)) := by
  intro i q
  have := Softmax.step (fun k => S i k q) (fun k => wr X b i.val (256 * qi + q.val) (256 * kj + k.val)) (fun (e : Fin 128) k => X2 (ix3 0 ⟨128 * (i.val / 2) + e.val, by omega⟩ k))
    (fun e k => yr Y b (128 * (i.val / 2) + e.val) (256 * kj + k.val)) _ _ _ _ _ (fun k => hS i k q) (fun e k => hV _ k) (Or.inl (h i q))
  simp only [lr_block, ar_block]
  unfold mx lx ax mx
  rw [ninf]
  exact this

/-- The first block. -/
theorem holds_first {b qi : ℕ} {S : Fin 8 → Fin 256 → Fin 256 → EReal} {X2 : Vec Ideal S1x512x256 .bf16}
    (hS : Scores X b qi 0 S) (hV : ∀ (n : Fin 512) (k : Fin 256), X2 (ix3 0 n k) = ((yr Y b n.val (256 * 0 + k.val) : ℝ) : EReal)) :
    (∀ (i : Fin 8) (q : Fin 256), Softmax.Inv (mx S s00.s1 i q) (lx S s00.s1 s00.s2 i q) (fun e : Fin 128 => ax S X2 s00.s0 s00.s1 i e q)
      (lr X b i.val (256 * qi + q.val) (256 * 0 + 256)) (fun e => ar X Y b i.val (256 * qi + q.val) (256 * 0 + 256) e.val)) := by
  intro i q
  have hb : ∃ k : Fin 256, S i k q ≠ ⊥ := by
    refine ⟨0, ?_⟩
    rcases hS i 0 q with ⟨_, h⟩ | ⟨r, h, _⟩
    · exact absurd h (by unfold wr; rw [if_pos (show 256 * 0 + (0 : Fin 256).val ≤ 256 * qi + q.val from Nat.zero_le _)]; exact (Real.exp_pos _).ne')
    · rw [h]; exact EReal.coe_ne_bot r
  have := Softmax.step (fun k => S i k q) (fun k => wr X b i.val (256 * qi + q.val) (256 * 0 + k.val)) (fun (e : Fin 128) k => X2 (ix3 0 ⟨128 * (i.val / 2) + e.val, by omega⟩ k))
    (fun e k => yr Y b (128 * (i.val / 2) + e.val) (256 * 0 + k.val)) ⊥ 0 (fun _ => 0) 0 (fun _ => 0) (fun k => hS i k q) (fun e k => hV _ k)
    (Or.inr ⟨⟨rfl, rfl, fun _ => rfl, rfl, fun _ => rfl⟩, hb⟩)
  simp only [lr_block, ar_block]
  rw [show lr X b i.val (256 * qi + q.val) (256 * 0) = 0 from rfl]
  simp only [show ∀ e, ar X Y b i.val (256 * qi + q.val) (256 * 0) e = 0 from fun _ => rfl]
  unfold mx lx ax mx
  rw [ninf]
  exact this

/-- The state a step leaves holds what its values say. -/
theorem holds_of {b qi n : ℕ} {S : Fin 8 → Fin 256 → Fin 256 → EReal} {X2 : Vec Ideal S1x512x256 .bf16} {s s' : Scr Ideal} (hs : StepOf S X2 s s')
    (h : ∀ (i : Fin 8) (q : Fin 256), Softmax.Inv (mx S s.s1 i q) (lx S s.s1 s.s2 i q) (fun e : Fin 128 => ax S X2 s.s0 s.s1 i e q)
      (lr X b i.val (256 * qi + q.val) n) (fun e => ar X Y b i.val (256 * qi + q.val) n e.val)) : Holds X Y b qi n s' := by
  intro i q
  obtain ⟨h1, h2, h3⟩ := hs i q
  have h3' : (fun e : Fin 128 => s'.s0 (ix3 i e q)) = fun e => ax S X2 s.s0 s.s1 i e q := funext h3
  rw [h1, h2, h3']
  exact h i q

variable (m : (ℓ : Loc nD τ sig) → Buf (Elt Ideal) ℓ)

/-- A block's scores as reals. -/
theorem sc_coe (c : Dev nD) (hX : Fin0 (a0 m c)) (t : Fin (cfgA (F := Ideal)).N) (i : Fin 8) (k q : Fin 256) :
    sc (xb0 m c t) (xb1 m c t) i k q = ((sr (a0 m c) (t.val / 528) i.val (256 * qN (t.val % 528) + q.val) (256 * kN (t.val % 528) + k.val) : ℝ) : EReal) := by
  unfold sc sr
  rw [Softmax.coe_sum]
  refine Finset.sum_congr rfl fun d _ => ?_
  rw [xb1_eq, xb0_eq, EReal.coe_mul, xr_coe hX, xr_coe hX]

theorem vals (c : Dev nD) (hY : Fin1 (a1 m c)) (t : Fin (cfgA (F := Ideal)).N) (n : Fin 512) (k : Fin 256) :
    xb2 m c t (ix3 0 n k) = ((yr (a1 m c) (t.val / 528) n.val (256 * kN (t.val % 528) + k.val) : ℝ) : EReal) := by
  rw [xb2_eq, yr_coe hY]

/-- Strictly inside a row every key is before every query. -/
theorem scores_in (c : Dev nD) (hX : Fin0 (a0 m c)) (t : Fin (cfgA (F := Ideal)).N) (h : kN (t.val % 528) < qN (t.val % 528)) :
    Scores (a0 m c) (t.val / 528) (qN (t.val % 528)) (kN (t.val % 528)) (sc (xb0 m c t) (xb1 m c t)) := by
  intro i k q
  refine Or.inr ⟨_, sc_coe m c hX t i k q, ?_⟩
  unfold wr; rw [if_pos (by omega)]

/-- At a row's last block the keys after the query are masked. -/
theorem scores_last (c : Dev nD) (hX : Fin0 (a0 m c)) (t : Fin (cfgA (F := Ideal)).N) (h : kN (t.val % 528) = qN (t.val % 528)) :
    Scores (a0 m c) (t.val / 528) (qN (t.val % 528)) (kN (t.val % 528)) (scm (xb0 m c t) (xb1 m c t)) := by
  intro i k q
  have hc : IntOp.cmpi .sle (BitVec.ofNat 32 k.val) (BitVec.ofNat 32 q.val) = BitVec.ofBool (decide (k.val ≤ q.val)) := by
    exact sle_of (by omega) (by omega)
  unfold scm
  rw [hc]
  by_cases hk : k.val ≤ q.val
  · refine Or.inr ⟨sr (a0 m c) (t.val / 528) i.val (256 * qN (t.val % 528) + q.val) (256 * kN (t.val % 528) + k.val), ?_, ?_⟩
    · rw [decide_eq_true hk]; exact sc_coe m c hX t i k q
    · unfold wr; rw [if_pos (by omega)]
  · refine Or.inl ⟨?_, ?_⟩
    · rw [decide_eq_false hk]; exact mask_bot
    · unfold wr; rw [if_neg (by omega)]

/-- The previous point of a row. -/
theorem prev (t : ℕ) (ht : t < 1056) (h : kN (t % 528) ≠ 0) :
    0 < t ∧ (t - 1) / 528 = t / 528 ∧ qN ((t - 1) % 528) = qN (t % 528) ∧ kN ((t - 1) % 528) + 1 = kN (t % 528) := by
  have h0 : t % 528 ≠ 0 := fun h0 => h (by rw [h0]; decide +kernel)
  have hp : (t - 1) % 528 = t % 528 - 1 := by omega
  obtain ⟨a, b, d⟩ := tri ⟨t % 528, by omega⟩
  obtain ⟨a', b', d'⟩ := tri ⟨(t - 1) % 528, by omega⟩
  have hn := tri_next ⟨(t - 1) % 528, by omega⟩
  simp only at a b d a' b' d' hn
  have hs : (t - 1) % 528 + 1 = t % 528 := by omega
  rw [hs] at hn
  refine ⟨by omega, by omega, ?_⟩
  by_cases he : kN ((t - 1) % 528) = qN ((t - 1) % 528)
  · exfalso
    have hq : qN (t % 528) * (qN (t % 528) + 1) / 2 + kN (t % 528) = qN ((t - 1) % 528) * (qN ((t - 1) % 528) + 1) / 2 + kN ((t - 1) % 528) + 1 := by omega
    rw [he] at hq
    generalize qN (t % 528) = x at *
    generalize kN (t % 528) = y at *
    generalize qN ((t - 1) % 528) = z at *
    rcases Nat.lt_or_ge z x with hz | hz
    · obtain ⟨w, rfl⟩ := Nat.exists_eq_add_of_lt hz
      have : (z + w + 1) * (z + w + 1 + 1) ≥ (z + 1) * (z + 2) := Nat.mul_le_mul (by omega) (by omega)
      have e : (z + 1) * (z + 2) = z * (z + 1) + 2 * (z + 1) := by ring
      omega
    · have : x * (x + 1) ≤ z * (z + 1) := Nat.mul_le_mul hz (by omega)
      rcases Nat.lt_or_ge x z with hxz | hxz
      · have : (x + 1) * (x + 2) ≤ z * (z + 1) := Nat.mul_le_mul (by omega) (by omega)
        have e : (x + 1) * (x + 2) = x * (x + 1) + 2 * (x + 1) := by ring
        omega
      · have : x = z := by omega
        subst this; omega
  · exact ⟨(hn he).1.symm, (hn he).2.symm⟩

/-- What the step's values are, at every point but over what the state held before. -/
def Vals (c : Dev nD) (t : Fin (cfgA (F := Ideal)).N) (S : Fin 8 → Fin 256 → Fin 256 → EReal) (s : Scr Ideal) : Prop :=
  ∀ (i : Fin 8) (q : Fin 256), Softmax.Inv (mx S s.s1 i q) (lx S s.s1 s.s2 i q) (fun e : Fin 128 => ax S (xb2 m c t) s.s0 s.s1 i e q)
    (lr (a0 m c) (t.val / 528) i.val (256 * qN (t.val % 528) + q.val) (256 * kN (t.val % 528) + 256))
    (fun e => ar (a0 m c) (a1 m c) (t.val / 528) i.val (256 * qN (t.val % 528) + q.val) (256 * kN (t.val % 528) + 256) e.val)

theorem w1_zero_iff (t : Fin (cfgA (F := Ideal)).N) : w1 (F := Ideal) t = 0#32 ↔ kN (t.val % 528) = 0 := by
  unfold w1; rw [(coords_val t).2.2, lit_zero_iff]

theorem vals_first (c : Dev nD) (hX : Fin0 (a0 m c)) (hY : Fin1 (a1 m c)) (t : Fin (cfgA (F := Ideal)).N) (h : kN (t.val % 528) = 0)
    (S : Fin 8 → Fin 256 → Fin 256 → EReal) (hS : Scores (a0 m c) (t.val / 528) (qN (t.val % 528)) (kN (t.val % 528)) S) : Vals m c t S s00 := by
  have hV := vals m c hY t
  unfold Vals
  rw [h] at hS hV ⊢
  exact holds_first hS hV

theorem vals_next (c : Dev nD) (hX : Fin0 (a0 m c)) (hY : Fin1 (a1 m c)) (t : Fin (cfgA (F := Ideal)).N)
    (S : Fin 8 → Fin 256 → Fin 256 → EReal) (hS : Scores (a0 m c) (t.val / 528) (qN (t.val % 528)) (kN (t.val % 528)) S) (s : Scr Ideal)
    (h : Holds (a0 m c) (a1 m c) (t.val / 528) (qN (t.val % 528)) (256 * kN (t.val % 528)) s) : Vals m c t S s :=
  holds_step (s' := s) hS (vals m c hY t) h

theorem le_of_pt (t : Fin (cfgA (F := Ideal)).N) : kN (t.val % 528) ≤ qN (t.val % 528) := by
  have hN : t.val < 1056 := lt_of_lt_of_eq t.isLt N_0
  exact (tri ⟨t.val % 528, by omega⟩).2.1

/-- After every point the state holds its row's sums up to the point's key block. -/
theorem holds (c : Dev nD) (hX : Fin0 (a0 m c)) (hY : Fin1 (a1 m c)) : ∀ (n : ℕ) (hn : n < (cfgA (F := Ideal)).N),
    Holds (a0 m c) (a1 m c) (n / 528) (qN (n % 528)) (256 * kN (n % 528) + 256) (scr m c (n + 1)) := by
  intro n
  induction n with
  | zero =>
    intro hn
    rw [show (0 : ℕ) + 1 = (⟨0, hn⟩ : Fin (cfgA (F := Ideal)).N).val + 1 from rfl, scr_succ]
    have hk : kN ((⟨0, hn⟩ : Fin (cfgA (F := Ideal)).N).val % 528) = 0 := show kN (0 % 528) = 0 by decide +kernel
    have hq : kN ((⟨0, hn⟩ : Fin (cfgA (F := Ideal)).N).val % 528) = qN ((⟨0, hn⟩ : Fin (cfgA (F := Ideal)).N).val % 528) := show kN (0 % 528) = qN (0 % 528) by decide +kernel
    rw [nextS_A m c ⟨0, hn⟩ ((w1_zero_iff _).2 hk) ((w_eq_iff _).2 hq)]
    exact holds_of (stepA m c ⟨0, hn⟩ _ _) (vals_first m c hX hY ⟨0, hn⟩ hk _ (scores_last m c hX ⟨0, hn⟩ hq))
  | succ n ih =>
    intro hn
    have hN : n + 1 < 1056 := lt_of_lt_of_eq hn N_0
    rw [show n + 1 + 1 = (⟨n + 1, hn⟩ : Fin (cfgA (F := Ideal)).N).val + 1 from rfl, scr_succ]
    by_cases hk : kN ((n + 1) % 528) = 0
    · by_cases hq : kN ((n + 1) % 528) = qN ((n + 1) % 528)
      · rw [nextS_A m c ⟨n + 1, hn⟩ ((w1_zero_iff _).2 hk) ((w_eq_iff _).2 hq)]
        exact holds_of (stepA m c ⟨n + 1, hn⟩ _ _) (vals_first m c hX hY ⟨n + 1, hn⟩ hk _ (scores_last m c hX ⟨n + 1, hn⟩ hq))
      · rw [nextS_B m c ⟨n + 1, hn⟩ ((w1_zero_iff _).2 hk) (fun h => hq ((w_eq_iff _).1 h))]
        exact holds_of (stepB m c ⟨n + 1, hn⟩ _ _) (vals_first m c hX hY ⟨n + 1, hn⟩ hk _
          (scores_in m c hX ⟨n + 1, hn⟩ (lt_of_le_of_ne (le_of_pt ⟨n + 1, hn⟩) hq)))
    · obtain ⟨_, e1, e2, e3⟩ := prev (n + 1) hN hk
      have hp := ih (Nat.lt_of_succ_lt hn)
      rw [Nat.add_sub_cancel] at e1 e2 e3
      rw [e1, e2, show 256 * kN (n % 528) + 256 = 256 * (kN (n % 528) + 1) by ring, e3] at hp
      by_cases hq : kN ((n + 1) % 528) = qN ((n + 1) % 528)
      · rw [nextS_C m c ⟨n + 1, hn⟩ (fun h => hk ((w1_zero_iff _).1 h)) ((w_eq_iff _).2 hq)]
        exact holds_of (stepC m c ⟨n + 1, hn⟩ _ _ _) (vals_next m c hX hY ⟨n + 1, hn⟩ _ (scores_last m c hX ⟨n + 1, hn⟩ hq) _ hp)
      · rw [nextS_D m c ⟨n + 1, hn⟩ (fun h => hk ((w1_zero_iff _).1 h)) (fun h => hq ((w_eq_iff _).1 h))]
        exact holds_of (stepD m c ⟨n + 1, hn⟩ _ _ _) (vals_next m c hX hY ⟨n + 1, hn⟩ _
          (scores_in m c hX ⟨n + 1, hn⟩ (lt_of_le_of_ne (le_of_pt ⟨n + 1, hn⟩) hq)) _ hp)

/-- The two maps' combination at value lane `n` of head `h`, over all keys. -/
def orr (X : Vec Ideal S2x8192x3072 .bf16) (Y : Vec Ideal S2x512x8192 .bf16) (lam : ℝ) (b q h e : ℕ) : ℝ :=
  ar X Y b (2 * h) q 8192 e / lr X b (2 * h) q 8192 - lam * (ar X Y b (2 * h + 1) q 8192 e / lr X b (2 * h + 1) q 8192)

/-- What is stored of it. -/
def yval (X : Vec Ideal S2x8192x3072 .bf16) (Y : Vec Ideal S2x512x8192 .bf16) (lam : ℝ) (g : EReal) (b q h e : ℕ) : EReal :=
  ((orr X Y lam b q h e : ℝ) : EReal) * Ideal.rsqrt (Ideal.div (∑ e' : Fin 128, ((orr X Y lam b q h e'.val : ℝ) : EReal) * ((orr X Y lam b q h e'.val : ℝ) : EReal)) (Ideal.ofBits .f32 1124073472#32) + Ideal.ofBits .f32 925353388#32)
    * g * Ideal.ofBits .f32 1061997773#32

/-- The end of a row, over the state's values. -/
theorem finK_eq (c : Dev nD) (t : Fin (cfgA (F := Ideal)).N) (hq : kN (t.val % 528) = qN (t.val % 528)) (S : Fin 8 → Fin 256 → Fin 256 → EReal) (s : Scr Ideal) (h : Vals m c t S s)
    (lam : ℝ) (X7 : Vec Ideal S128x1 .f32) (hd : Fin 4) (e : Fin 128) (q : Fin 256) :
    finK (ax S (xb2 m c t) s.s0 s.s1) (lx S s.s1 s.s2) (lam : EReal) X7 hd e q
      = yval (a0 m c) (a1 m c) lam (show EReal from X7 (ix2 e 0)) (t.val / 528) (256 * qN (t.val % 528) + q.val) hd.val e.val := by
  have hb := (pt_bounds t).2.1
  have hd1 : ∀ (i : Fin 8) (e : Fin 128), Ideal.div (ax S (xb2 m c t) s.s0 s.s1 i e q) (lx S s.s1 s.s2 i q)
      = ((ar (a0 m c) (a1 m c) (t.val / 528) i.val (256 * qN (t.val % 528) + q.val) 8192 e.val / lr (a0 m c) (t.val / 528) i.val (256 * qN (t.val % 528) + q.val) 8192 : ℝ) : EReal) := by
    intro i e
    rw [ar_all (n := 256 * kN (t.val % 528) + 256) (h := by omega) (hN := by omega), lr_all (n := 256 * kN (t.val % 528) + 256) (h := by omega) (hN := by omega)]
    exact (h i q).div (lr_pos _ _ _ _ _ (by omega)).ne' e
  have ho : ∀ e : Fin 128, oK (ax S (xb2 m c t) s.s0 s.s1) (lx S s.s1 s.s2) (lam : EReal) hd e q
      = ((orr (a0 m c) (a1 m c) lam (t.val / 528) (256 * qN (t.val % 528) + q.val) hd.val e.val : ℝ) : EReal) := by
    intro e
    unfold oK orr
    rw [hd1, hd1, EReal.coe_sub, EReal.coe_mul]
  unfold finK yval
  simp only [ho]

/-- The row's block as its last point leaves it. -/
theorem out_eq (c : Dev nD) (hX : Fin0 (a0 m c)) (hY : Fin1 (a1 m c)) (lam : ℝ) (hlam : lamK (a2 m c) (a3 m c) (a4 m c) (a5 m c) = (lam : EReal))
    (t : Fin (cfgA (F := Ideal)).N) (hq : kN (t.val % 528) = qN (t.val % 528)) (hd : Fin 4) (e : Fin 128) (q : Fin 256) :
    outS m c t (scr m c t.val) (ix3 0 q ⟨128 * hd.val + e.val, by omega⟩)
      = yval (a0 m c) (a1 m c) lam (show EReal from a6 m c (ix2 0 e)) (t.val / 528) (256 * qN (t.val % 528) + q.val) hd.val e.val := by
  have hN : t.val < 1056 := lt_of_lt_of_eq t.isLt N_0
  have hlam' : lamK (xb3 m c t) (xb4 m c t) (xb5 m c t) (xb6 m c t) = (lam : EReal) := by rw [xb3_eq, xb4_eq, xb5_eq, xb6_eq, hlam]
  by_cases hk : kN (t.val % 528) = 0
  · rw [outS_A m c t ((w1_zero_iff _).2 hk) ((w_eq_iff _).2 hq), finA, hlam',
      finK_eq m c t hq _ _ (vals_first m c hX hY t hk _ (scores_last m c hX t hq)), xb7_eq]
  · have hp : Holds (a0 m c) (a1 m c) (t.val / 528) (qN (t.val % 528)) (256 * kN (t.val % 528)) (scr m c t.val) := by
      obtain ⟨h0, e1, e2, e3⟩ := prev t.val hN hk
      have hp := holds m c hX hY (t.val - 1) (lt_of_le_of_lt (Nat.sub_le _ _) t.isLt)
      rw [e1, e2, show 256 * kN ((t.val - 1) % 528) + 256 = 256 * (kN ((t.val - 1) % 528) + 1) by ring, e3, Nat.sub_add_cancel h0] at hp
      exact hp
    rw [outS_C m c t (fun h => hk ((w1_zero_iff _).1 h)) ((w_eq_iff _).2 hq), finC, hlam',
      finK_eq m c t hq _ _ (vals_next m c hX hY t _ (scores_last m c hX t hq) _ hp), xb7_eq]

end Cert.DiffAttnIdeal.Hand

end
-- ==== Proof.DiffRefIdeal.Match.lean ====
/- The reference's value in reals: each softmax row is its weights over their sum, so the heads are what the kernel's state divides to. -/
module

public import proofs.«01_k».proof.Proof.DiffRefIdeal.Ref
public import proofs.«01_k».proof.Proof.DiffAttnIdeal.Row

@[expose] public section

set_option maxRecDepth 16384

noncomputable section

namespace Cert.DiffRefIdeal.Hand

open Idealize.ShloMosaic Idealize.ShloMosaic.TcCoe Idealize.SL.Sem
open Cert.DiffRefIdeal Cert.DiffRefIdeal.Gen
open Cert.DiffAttnIdeal.Hand (Fin0 Fin1 xr yr sr wr lr ar orr yval xr_coe yr_coe sle_of ninf lr_pos wr_zero)

variable {X : Vec Ideal Cert.DiffAttnIdeal.S2x8192x3072 .bf16} {Y : Vec Ideal Cert.DiffAttnIdeal.S2x512x8192 .bf16}

/-- A score is its weight's. -/
theorem scores_wt (hX : Fin0 X) (b : Fin 2) (i : Fin 8) (q k : Fin 8192) : Softmax.Wt (scores X (ix4 b i q k)) (wr X b.val i.val q.val k.val) := by
  rw [scores_apply, sle_of k.isLt q.isLt, ninf]
  by_cases hk : k.val ≤ q.val
  · refine Or.inr ⟨sr X b.val i.val q.val k.val, ?_, ?_⟩
    · rw [decide_eq_true hk]
      unfold sr
      rw [Softmax.coe_sum Finset.univ]
      show (∑ d : Fin 64, (show EReal from X (ix3 b q ⟨1536 + (64 * i.val + d.val), by omega⟩)) * (show EReal from X (ix3 b k ⟨2048 + (64 * i.val + d.val), by omega⟩))) = _
      refine Finset.sum_congr rfl fun d _ => ?_
      rw [mul_comm, EReal.coe_mul]
      exact congrArg₂ (fun x y : EReal => x * y) (xr_coe hX b k ⟨2048 + (64 * i.val + d.val), by omega⟩) (xr_coe hX b q ⟨1536 + (64 * i.val + d.val), by omega⟩)
    · unfold wr; rw [if_pos hk]
  · refine Or.inl ⟨?_, ?_⟩
    · rw [decide_eq_false hk]; rfl
    · unfold wr; rw [if_neg hk]

/-- A softmax row. -/
theorem probs_eq (hX : Fin0 X) (b : Fin 2) (i : Fin 8) (q k : Fin 8192) :
    probs (exps (scores X) (maxes (scores X))) (ix4 b i q k) = ((wr X b.val i.val q.val k.val / lr X b.val i.val q.val 8192 : ℝ) : EReal) := by
  have h0 : ∃ k : Fin 8192, (show EReal from scores X (ix4 b i q k)) ≠ ⊥ := by
    refine ⟨⟨0, by omega⟩, ?_⟩
    rcases scores_wt hX b i q ⟨0, by omega⟩ with ⟨_, h⟩ | ⟨r, h, _⟩
    · exact absurd h (by unfold wr; rw [if_pos (Nat.zero_le _)]; exact (Real.exp_pos _).ne')
    · intro e; exact EReal.coe_ne_bot r (h.symm.trans e)
  have hr := Softmax.row (fun k : Fin 8192 => (show EReal from scores X (ix4 b i q k))) (fun k => wr X b.val i.val q.val k.val) (fun k => scores_wt hX b i q k) h0 k
  have hl : lr X b.val i.val q.val 8192 = ∑ k : Fin 8192, wr X b.val i.val q.val k.val := by
    unfold lr; rw [Finset.sum_range fun k => wr X b.val i.val q.val k]
  rw [probs_apply, Ideal.ofBits_zero_f32, hl]
  simp only [exps_apply, maxes_apply, ninf]
  exact hr

/-- The heads' values. -/
theorem weighted_eq (hX : Fin0 X) (hY : Fin1 Y) (L : FVec Ideal S_ .f32) (lam : ℝ) (hL : L ix0 = (lam : EReal)) (b : Fin 2) (q : Fin 8192) (h : Fin 4) (e : Fin 128) :
    weighted Y (comb (probs (exps (scores X) (maxes (scores X)))) L) (ix4 b q h e) = ((orr X Y lam b.val q.val h.val e.val : ℝ) : EReal) := by
  have hs : orr X Y lam b.val q.val h.val e.val = ∑ k : Fin 8192, yr Y b.val (128 * h.val + e.val) k.val
      * (wr X b.val (2 * h.val) q.val k.val / lr X b.val (2 * h.val) q.val 8192 - lam * (wr X b.val (2 * h.val + 1) q.val k.val / lr X b.val (2 * h.val + 1) q.val 8192)) := by
    unfold orr ar
    rw [show 2 * h.val / 2 = h.val by omega, show (2 * h.val + 1) / 2 = h.val by omega, Finset.sum_div, Finset.sum_div, Finset.mul_sum, ← Finset.sum_sub_distrib,
      Finset.sum_range]
    refine Finset.sum_congr rfl fun k _ => ?_
    ring
  rw [weighted_apply, hs, Softmax.coe_sum]
  refine Finset.sum_congr rfl fun k _ => ?_
  rw [comb_apply, probs_eq hX, probs_eq hX, hL, EReal.coe_mul, EReal.coe_sub, EReal.coe_mul]
  exact congrArg (fun x : EReal => x * _) (yr_coe hY b ⟨128 * h.val + e.val, by omega⟩ k)

/-- The stored value. -/
theorem normed_eq (hX : Fin0 X) (hY : Fin1 Y) (L : FVec Ideal S_ .f32) (lam : ℝ) (hL : L ix0 = (lam : EReal)) (X6 : FVec Ideal S1x128 .f32) (b : Fin 2) (q : Fin 8192) (h : Fin 4) (e : Fin 128) :
    normed X6 (weighted Y (comb (probs (exps (scores X) (maxes (scores X)))) L)) (ix3 b q ⟨128 * h.val + e.val, by omega⟩)
      = yval X Y lam (show EReal from X6 (ix2 0 e)) b.val q.val h.val e.val := by
  rw [normed_apply, Ideal.ofBits_zero_f32]
  simp only [weighted_eq hX hY L lam hL]
  rw [zero_add]
  rfl

/-- The second map's weight is the kernel's. -/
theorem weight_eq (X2 X3 X4 X5 : FVec Ideal S1x64 .f32) : weight X2 X3 X4 X5 ix0 = Cert.DiffAttnIdeal.Hand.lamK X2 X3 X4 X5 := by
  rw [weight_apply, Ideal.ofBits_zero_f32, zero_add, zero_add]
  rfl

/-- Of finite vectors it is a real. -/
theorem weight_real (X2 X3 X4 X5 : Vec Ideal Cert.DiffAttnIdeal.S1x64 .f32) (h2 : ∀ y, ∃ r : ℝ, X2 y = (r : EReal)) (h3 : ∀ y, ∃ r : ℝ, X3 y = (r : EReal))
    (h4 : ∀ y, ∃ r : ℝ, X4 y = (r : EReal)) (h5 : ∀ y, ∃ r : ℝ, X5 y = (r : EReal)) : ∃ lam : ℝ, Cert.DiffAttnIdeal.Hand.lamK X2 X3 X4 X5 = (lam : EReal) := by
  choose f2 h2 using h2
  choose f3 h3 using h3
  choose f4 h4 using h4
  choose f5 h5 using h5
  have hc : ∃ r : ℝ, Ideal.ofBits .f32 1045220557#32 = (r : EReal) := by
    refine ⟨13421773 * (2 ^ 26 : ℝ)⁻¹, ?_⟩
    unfold Ideal.ofBits; simp [Ideal.ieee]
  obtain ⟨r, hc⟩ := hc
  have hs : ∀ (u v : Vec Ideal Cert.DiffAttnIdeal.S1x64 .f32) (f g : Cert.DiffAttnIdeal.S1x64.Idx → ℝ), (∀ y, u y = (f y : EReal)) → (∀ y, v y = (g y : EReal)) →
      (∑ d : Fin 64, (show EReal from u (ix2 0 d)) * (show EReal from v (ix2 0 d))) = ((∑ d : Fin 64, f (ix2 0 d) * g (ix2 0 d) : ℝ) : EReal) := by
    intro u v f g hu hv
    rw [Softmax.coe_sum]
    refine Finset.sum_congr rfl fun d _ => ?_
    rw [EReal.coe_mul, hu, hv]
  refine ⟨Real.exp (∑ d : Fin 64, f2 (ix2 0 d) * f3 (ix2 0 d)) - Real.exp (∑ d : Fin 64, f4 (ix2 0 d) * f5 (ix2 0 d)) + r, ?_⟩
  unfold Cert.DiffAttnIdeal.Hand.lamK
  rw [hs X2 X3 f2 f3 h2 h3, hs X4 X5 f4 f5 h4 h5, hc, Ideal.exp_coe, Ideal.exp_coe, EReal.coe_add, EReal.coe_sub]

end Cert.DiffRefIdeal.Hand

end
-- ==== Proof.Bridge.lean ====
/- The kernel's output array is the reference's result. -/
module

public import proofs.«01_k».proof.Proof.DiffRefIdeal.Match
public import proofs.«01_k».proof.Proof.DiffAttnIdeal.Frame
public import Idealize.ShloMosaic.Lib.Claim

@[expose] public section

set_option maxRecDepth 16384

noncomputable section

namespace Cert.DiffAttnIdeal.Hand

open Idealize.ShloMosaic Idealize.ShloMosaic.TcCoe Idealize.SL.Sem
open Cert.DiffAttnIdeal Cert.DiffAttnIdeal.Gen
open Cert.DiffRefIdeal.Hand (normed weighted comb probs exps scores maxes weight normed_eq weight_eq)

variable (m : (ℓ : Loc nD τ sig) → Buf (Elt Ideal) ℓ)

/-- The reference's result of the kernel's arguments. -/
def want (c : Dev nD) : Vec Ideal S2x8192x512 .bf16 :=
  normed (a6 m c) (weighted (a1 m c) (comb (probs (exps (scores (a0 m c)) (maxes (scores (a0 m c))))) (weight (a2 m c) (a3 m c) (a4 m c) (a5 m c))))

theorem want_eq (c : Dev nD) (hX : Fin0 (a0 m c)) (hY : Fin1 (a1 m c)) (lam : ℝ) (hlam : lamK (a2 m c) (a3 m c) (a4 m c) (a5 m c) = (lam : EReal))
    (b : Fin 2) (q : Fin 8192) (h : Fin 4) (e : Fin 128) :
    want m c (ix3 b q ⟨128 * h.val + e.val, by omega⟩) = yval (a0 m c) (a1 m c) lam (show EReal from a6 m c (ix2 0 e)) b.val q.val h.val e.val :=
  normed_eq hX hY _ lam ((weight_eq _ _ _ _).trans hlam) _ b q h e

/-- An index of the output's block. -/
theorem block_idx (y : (⟨3, ![1, 256, 512]⟩ : Shape).Idx) : ∃ (q : Fin 256) (n : Fin 512), y = ix3 0 q n := by
  refine ⟨y 1, y 2, (eq_ix3 y).trans ?_⟩
  have h : ∀ a : Fin 1, (ix3 a (y 1) (y 2) : (⟨3, ![1, 256, 512]⟩ : Shape).Idx) = ix3 0 (y 1) (y 2) := fun a => by rw [Subsingleton.elim a 0]; rfl
  exact h (y 0)

theorem out_array (c : Dev nD) (hX : Fin0 (a0 m c)) (hY : Fin1 (a1 m c)) (lam : ℝ) (hlam : lamK (a2 m c) (a3 m c) (a4 m c) (a5 m c) = (lam : EReal)) :
    (dats m 0 c).arrAt 8 (cfgA (F := Ideal)).N = want m c := by
  refine (dats m 0 c).arrAt_eq_of_covers 8 _ (by decide +kernel) fun t hf y => ?_
  have hq : kN (t.val % 528) = qN (t.val % 528) := by
    by_contra h
    rw [noFlush8 t h] at hf
    exact absurd hf (by decide)
  blk_simp
  rw [after8]
  have hb := pt_bounds t
  obtain ⟨q, n, rfl⟩ : ∃ (q : Fin 256) (n : Fin 512), y = ix3 0 q n :=
    block_idx y
  have he : want m c (((cfgA.win 8).blk t).view.emb (ix3 0 q n)) = want m c (ix3 ⟨t.val / 528, hb.1⟩ ⟨256 * qN (t.val % 528) + q.val, by omega⟩ n) := by
    blk_ext [index8 t]
  rw [he]
  obtain ⟨hd, e, rfl⟩ : ∃ (hd : Fin 4) (e : Fin 128), n = ⟨128 * hd.val + e.val, by omega⟩ :=
    ⟨⟨n.val / 128, by omega⟩, ⟨n.val % 128, by omega⟩, Fin.ext (by simp only; omega)⟩
  rw [want_eq m c hX hY lam hlam]
  exact out_eq m c hX hY lam hlam t hq hd e q

end Cert.DiffAttnIdeal.Hand

end
-- ==== Proof.FfnIdeal.Row.lean ====
/- One row of the feed-forward layer, and the split of its hidden features into two chunks. -/
module

public import Idealize.ShloMosaic.Lib.Pipeline.ValueKit

@[expose] public section

noncomputable section

namespace Cert.FfnIdeal.Hand

open Idealize.ShloMosaic

/-- The row scaled and shifted. -/
def modulated (x sh sc : Fin 1024 → EReal) (j : Fin 1024) : EReal :=
  x j * (Ideal.ofBits .f32 1065353216#32 + sc j) + sh j

/-- The row times a column of a weight. -/
def lin (h w : Fin 1024 → EReal) : EReal := ∑ j : Fin 1024, h j * w j

/-- The gate feature through its activation, times the up feature. -/
def act (h wg wu : Fin 1024 → EReal) : EReal :=
  lin h wg * Ideal.div (Ideal.ofBits .f32 1065353216#32) (Ideal.ofBits .f32 1065353216#32 + Ideal.exp (-lin h wg)) * lin h wu

/-- The `n` hidden features times a column of the down weight. -/
def part {n : ℕ} (h : Fin 1024 → EReal) (wg wu : Fin n → Fin 1024 → EReal) (wd : Fin n → EReal) : EReal :=
  ∑ f : Fin n, act h (wg f) (wu f) * wd f

/-- The layer's row before its normalisation. -/
def resid (x gate o : Fin 1024 → EReal) (j : Fin 1024) : EReal :=
  Ideal.ofBits .f32 1066940400#32 * x j + gate j * o j

/-- The mean of a row. -/
def mean (y : Fin 1024 → EReal) : EReal := Ideal.div (∑ j : Fin 1024, y j) (Ideal.ofBits .f32 1149239296#32)

/-- A row less its mean, over the root of its variance, scaled and shifted. -/
def normed (y g b : Fin 1024 → EReal) (j : Fin 1024) : EReal :=
  (y j - mean y) * Ideal.rsqrt (mean (fun i => (y i - mean y) * (y i - mean y)) + Ideal.ofBits .f32 925353388#32) * g j + b j

/-- Hidden features summed in two chunks are hidden features summed at once. -/
theorem part_add {n k : ℕ} (h : Fin 1024 → EReal) (wg wu : Fin (n + k) → Fin 1024 → EReal) (wd : Fin (n + k) → EReal) :
    part h wg wu wd = part h (fun f => wg (Fin.castAdd k f)) (fun f => wu (Fin.castAdd k f)) (fun f => wd (Fin.castAdd k f))
      + part h (fun f => wg (Fin.natAdd n f)) (fun f => wu (Fin.natAdd n f)) (fun f => wd (Fin.natAdd n f)) :=
  Fin.sum_univ_add _

end Cert.FfnIdeal.Hand

end
-- ==== Proof.FfnIdeal.Case.lean ====
/- What the feed-forward kernel's body leaves at each of its two points, and its terms at an index. -/
module

public import proofs.«01_k».proof.Proof.Gen.FfnIdeal.Value
public import proofs.«01_k».proof.Proof.FfnIdeal.Row
public import Idealize.ShloMosaic.Lib.Pointwise

@[expose] public section

set_option maxRecDepth 16384

noncomputable section

namespace Cert.FfnIdeal.Hand

open Idealize.ShloMosaic Idealize.ShloMosaic.TcCoe Idealize.SL.Sem
open Cert.FfnIdeal Cert.FfnIdeal.Gen

variable (m : (ℓ : Loc nD τ sig) → Buf (Elt Ideal) ℓ)

/-- The first chunk's point leaves its product in the scratch. -/
theorem first_point (c : Dev nD) (t : Fin cfg0.N) (h0 : t.val % 2 = 0) (h1 : ¬t.val % 2 = 1) :
    (outsAt0 m c t.val t.isLt).2 = k0_pay4 (iblk m c 0 t) (iblk m c 2 t) (iblk m c 1 t) (iblk m c 4 t) (iblk m c 5 t) (iblk m c 6 t) := by
  rw [outsAt0_A m c t h0 h1 h1]
  dsimp only
  frame_out
  unfold k0_pay5
  simp only [shapeCast_self]

/-- The second chunk's point writes the normalised row of the two products' sum. -/
theorem second_point (c : Dev nD) (t : Fin cfg0.N) (h0 : ¬t.val % 2 = 0) (h1 : t.val % 2 = 1) :
    (outsAt0 m c t.val t.isLt).1 = k0_pay2 (k0_pay3 (iblk m c 0 t)) (iblk m c 3 t)
      (k0_pay1 (k0_pay4 (iblk m c 0 t) (iblk m c 2 t) (iblk m c 1 t) (iblk m c 4 t) (iblk m c 5 t) (iblk m c 6 t)) (outsAt0 m c (t.val - 1) (Nat.lt_of_le_of_lt (Nat.sub_le _ _) t.isLt)).2)
      (iblk m c 7 t) (iblk m c 8 t) := by
  rw [outsAt0_B m c t h0 h1 h1]
  dsimp only
  frame_out
  exact congrArg (fun a => k0_pay2 (k0_pay3 (iblk m c 0 t)) (iblk m c 3 t)
      (k0_pay1 (k0_pay4 (iblk m c 0 t) (iblk m c 2 t) (iblk m c 1 t) (iblk m c 4 t) (iblk m c 5 t) (iblk m c 6 t)) a) (iblk m c 7 t) (iblk m c 8 t))
    ((Memref.isWhole_whole cc0_scratch0).read_unread _)

/-- A chunk's product at an index. -/
theorem pay4_apply (x : Vec Ideal S1x512x1024 .f32) (sc sh : Vec Ideal S1x1x1024 .f32) (wg wu : Vec Ideal S1024x1408 .bf16) (wd : Vec Ideal S1408x1024 .bf16) (r : Fin 512) (e : Fin 1024) :
    k0_pay4 x sc sh wg wu wd (ix2 r e) = part (modulated (fun j => x (ix3 0 r j)) (fun j => sh (ix3 0 0 j)) (fun j => sc (ix3 0 0 j)))
      (fun (f : Fin 1408) j => wg (ix2 j f)) (fun f j => wu (ix2 j f)) (fun f => wd (ix2 f e)) := by
  unfold k0_pay4 k0_pay3 part act lin modulated
  pointwise
  simp only [sub_eq_add_neg, zero_add]

theorem pay1_apply (p acc : FVec Ideal S512x1024 .f32) (r : Fin 512) (e : Fin 1024) :
    k0_pay1 p acc (ix2 r e) = (show EReal from acc (ix2 r e)) + (show EReal from p (ix2 r e)) := by
  unfold k0_pay1
  pointwise

/-- The written row at an index. -/
theorem pay2_apply (x : Vec Ideal S1x512x1024 .f32) (gate : Vec Ideal S1x1x1024 .f32) (o : FVec Ideal S512x1024 .f32) (g b : Vec Ideal S1x1024 .f32) (r : Fin 512) (e : Fin 1024) :
    k0_pay2 (k0_pay3 x) gate o g b (ix3 0 r e) = normed (resid (fun j => x (ix3 0 r j)) (fun j => gate (ix3 0 0 j)) (fun j => o (ix2 r j))) (fun j => g (ix2 0 j)) (fun j => b (ix2 0 j)) e := by
  unfold k0_pay2 k0_pay3 normed mean resid
  pointwise

end Cert.FfnIdeal.Hand

end
-- ==== Proof.FfnRefIdeal.Ref.lean ====
/- The reference's feed-forward result, at each index. -/
module

public import proofs.«01_k».proof.Proof.Gen.FfnRefIdeal.Run
public import proofs.«01_k».proof.Proof.FfnIdeal.Row
public import Idealize.ShloMosaic.Lib.Pointwise

@[expose] public section

set_option maxRecDepth 16384

noncomputable section

namespace Cert.FfnRefIdeal.Hand

open Idealize.ShloMosaic Idealize.ShloMosaic.TcCoe Idealize.SL.Sem
open Cert.FfnRefIdeal Cert.FfnRefIdeal.Gen
open Cert.FfnIdeal.Hand (modulated lin act part resid mean normed)

/-- The gate and up features of all rows. -/
def feats (X0 : FVec Ideal S2x8192x1024 .f32) (X1 : FVec Ideal S2x1x6144 .f32) (X2 : FVec Ideal S1024x5632 .bf16) : FVec Ideal S2x8192x5632 .f32 :=
  Host.dotGeneral dot_S2x8192x1024_S1024x5632_S2x8192x5632_2_0_01_1_n_n none (addf (mulf X0 (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 0, 4096] X1 slices_S2x1x6144_S2x1x1024_0_0_4096)))) (broadcastInDim S2x8192x1024 ![0, 1, 2] bcast_S2x1x1024_S2x8192x1024_0_1_2 (extractStridedSlice S2x1x1024 ![0, 0, 3072] X1 slices_S2x1x6144_S2x1x1024_0_0_3072))) (extf .f32 X2 bitsLt_bf16_f32)

/-- The hidden features. -/
def hidden (H : FVec Ideal S2x8192x5632 .f32) : FVec Ideal S2x8192x2816 .f32 :=
  mulf (mulf (extractStridedSlice S2x8192x2816 ![0, 0, 0] H slices_S2x8192x5632_S2x8192x2816_0_0_0) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (extractStridedSlice S2x8192x2816 ![0, 0, 0] H slices_S2x8192x5632_S2x8192x2816_0_0_0)))))) (extractStridedSlice S2x8192x2816 ![0, 0, 2816] H slices_S2x8192x5632_S2x8192x2816_0_0_2816)

/-- The rows before their normalisation. -/
def outs (X0 : FVec Ideal S2x8192x1024 .f32) (X1 : FVec Ideal S2x1x6144 .f32) (X3 : FVec Ideal S2816x1024 .bf16) (A : FVec Ideal S2x8192x2816 .f32) : FVec Ideal S2x8192x1024 .f32 :=
  addf (mulf (broadcastInDim S2x8192x1024 ![] bcast_S_S2x8192x1024 (constant S_ .f32 0x3F9837F0#32)) X0) (mulf (broadcastInDim S2x8192x1024 ![0, 1, 2] bcast_S2x1x1024_S2x8192x1024_0_1_2 (extractStridedSlice S2x1x1024 ![0, 0, 5120] X1 slices_S2x1x6144_S2x1x1024_0_0_5120)) (Host.dotGeneral dot_S2x8192x2816_S2816x1024_S2x8192x1024_2_0_01_1_n_n none A (extf .f32 X3 bitsLt_bf16_f32)))

/-- The mean of every row. -/
def means (Y : FVec Ideal S2x8192x1024 .f32) : FVec Ideal S2x8192x1 .f32 :=
  Host.divf (broadcastInDim S2x8192x1 ![0, 1] bcast_S2x8192_S2x8192x1_0_1 (Host.reduceAdd Y (constant S_ .f32 0x00000000#32) reducesTo_S2x8192x1024_S2x8192_d2 h_S_)) (broadcastInDim S2x8192x1 ![] bcast_S_S2x8192x1 (constant S_ .f32 0x44800000#32))

/-- The rows less their means. -/
def less (Y : FVec Ideal S2x8192x1024 .f32) : FVec Ideal S2x8192x1024 .f32 :=
  subf Y (broadcastInDim S2x8192x1024 ![0, 1, 2] bcast_S2x8192x1_S2x8192x1024_0_1_2 (means Y))

/-- A vector along every row. -/
def along (G : FVec Ideal S1x1024 .f32) : FVec Ideal S2x8192x1024 .f32 :=
  broadcastInDim S2x8192x1024 ![0, 1, 2] bcast_S1x1x1024_S2x8192x1024_0_1_2 (broadcastInDim S1x1x1024 ![2] bcast_S1024_S1x1x1024_2 (shapeCast _ G shapeCasts_S1x1024_S1024))

/-- The rows normalised, scaled and shifted. -/
def norms (D : FVec Ideal S2x8192x1024 .f32) (V : FVec Ideal S2x8192x1 .f32) (G B : FVec Ideal S1x1024 .f32) : FVec Ideal S2x8192x1024 .f32 :=
  addf (mulf (mulf D (broadcastInDim S2x8192x1024 ![0, 1, 2] bcast_S2x8192x1_S2x8192x1024_0_1_2 (Host.rsqrt (addf V (broadcastInDim S2x8192x1 ![] bcast_S_S2x8192x1 (constant S_ .f32 0x3727C5AC#32)))))) (along G)) (along B)

/-- The whole layer. -/
def layer (X0 : FVec Ideal S2x8192x1024 .f32) (X1 : FVec Ideal S2x1x6144 .f32) (X2 : FVec Ideal S1024x5632 .bf16) (X3 : FVec Ideal S2816x1024 .bf16) (X4 X5 : FVec Ideal S1x1024 .f32) : FVec Ideal S2x8192x1024 .f32 :=
  norms (less (outs X0 X1 X3 (hidden (feats X0 X1 X2)))) (means (mulf (less (outs X0 X1 X3 (hidden (feats X0 X1 X2)))) (less (outs X0 X1 X3 (hidden (feats X0 X1 X2)))))) X4 X5

/-- The result is these in turn. -/
theorem res_eq (m : (ℓ : Loc nD τ sig) → Buf (Elt Ideal) ℓ) (c : Dev nD) :
    Cert.FfnRefIdeal.Value.res_main_v47 m c = layer (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold Cert.FfnRefIdeal.Value.res_main_v47 layer norms along less means outs hidden feats
  rfl

/-- A row of the input. -/
abbrev rowOf (X0 : FVec Ideal S2x8192x1024 .f32) (b : Fin 2) (q : Fin 8192) : Fin 1024 → EReal := fun j => X0 (ix3 b q j)

/-- A part of the modulation. -/
abbrev modOf (X1 : FVec Ideal S2x1x6144 .f32) (b : Fin 2) (o : ℕ) (ho : o + 1024 ≤ 6144) : Fin 1024 → EReal := fun j => X1 (ix3 b 0 ⟨o + j.val, by omega⟩)

theorem feats_apply (X0 : FVec Ideal S2x8192x1024 .f32) (X1 : FVec Ideal S2x1x6144 .f32) (X2 : FVec Ideal S1024x5632 .bf16) (b : Fin 2) (q : Fin 8192) (f : Fin 5632) :
    feats X0 X1 X2 (ix3 b q f) = lin (modulated (rowOf X0 b q) (modOf X1 b 3072 (by decide)) (modOf X1 b 4096 (by decide))) (fun j => X2 (ix2 j f)) := by
  unfold feats lin modulated
  pointwise

theorem hidden_apply (H : FVec Ideal S2x8192x5632 .f32) (b : Fin 2) (q : Fin 8192) (f : Fin 2816) :
    hidden H (ix3 b q f) = (show EReal from H (ix3 b q ⟨f.val, by omega⟩)) * Ideal.div (Ideal.ofBits .f32 1065353216#32) (Ideal.ofBits .f32 1065353216#32 + Ideal.exp (-(show EReal from H (ix3 b q ⟨f.val, by omega⟩))))
      * (show EReal from H (ix3 b q ⟨2816 + f.val, by omega⟩)) := by
  unfold hidden
  pointwise

theorem outs_apply (X0 : FVec Ideal S2x8192x1024 .f32) (X1 : FVec Ideal S2x1x6144 .f32) (X3 : FVec Ideal S2816x1024 .bf16) (A : FVec Ideal S2x8192x2816 .f32) (b : Fin 2) (q : Fin 8192) (e : Fin 1024) :
    outs X0 X1 X3 A (ix3 b q e) = resid (rowOf X0 b q) (modOf X1 b 5120 (by decide)) (fun e => ∑ f : Fin 2816, (show EReal from A (ix3 b q f)) * (show EReal from X3 (ix2 f e))) e := by
  unfold outs resid
  pointwise

theorem means_apply (Y : FVec Ideal S2x8192x1024 .f32) (b : Fin 2) (q : Fin 8192) :
    means Y (ix3 b q 0) = mean (rowOf Y b q) := by
  unfold means mean
  pointwise

theorem less_apply (Y : FVec Ideal S2x8192x1024 .f32) (b : Fin 2) (q : Fin 8192) (e : Fin 1024) :
    less Y (ix3 b q e) = (show EReal from Y (ix3 b q e)) - mean (rowOf Y b q) := by
  rw [← means_apply]
  unfold less
  pointwise

theorem norms_apply (D : FVec Ideal S2x8192x1024 .f32) (V : FVec Ideal S2x8192x1 .f32) (G B : FVec Ideal S1x1024 .f32) (b : Fin 2) (q : Fin 8192) (e : Fin 1024) :
    norms D V G B (ix3 b q e) = (show EReal from D (ix3 b q e)) * Ideal.rsqrt ((show EReal from V (ix3 b q 0)) + Ideal.ofBits .f32 925353388#32) * (show EReal from G (ix2 0 e)) + (show EReal from B (ix2 0 e)) := by
  unfold norms along
  pointwise

/-- The layer at an index: the row's normalised residual. -/
theorem layer_apply (X0 : FVec Ideal S2x8192x1024 .f32) (X1 : FVec Ideal S2x1x6144 .f32) (X2 : FVec Ideal S1024x5632 .bf16) (X3 : FVec Ideal S2816x1024 .bf16) (X4 X5 : FVec Ideal S1x1024 .f32) (b : Fin 2) (q : Fin 8192) (e : Fin 1024) :
    layer X0 X1 X2 X3 X4 X5 (ix3 b q e) = normed (resid (rowOf X0 b q) (modOf X1 b 5120 (by decide)) fun e =>
        part (modulated (rowOf X0 b q) (modOf X1 b 3072 (by decide)) (modOf X1 b 4096 (by decide)))
          (fun (f : Fin 2816) j => X2 (ix2 j ⟨f.val, by omega⟩)) (fun f j => X2 (ix2 j ⟨2816 + f.val, by omega⟩)) (fun f => X3 (ix2 f e)))
      (fun j => X4 (ix2 0 j)) (fun j => X5 (ix2 0 j)) e := by
  unfold layer normed
  rw [norms_apply, means_apply]
  have ho : rowOf (outs X0 X1 X3 (hidden (feats X0 X1 X2))) b q = resid (rowOf X0 b q) (modOf X1 b 5120 (by decide)) fun e =>
        part (modulated (rowOf X0 b q) (modOf X1 b 3072 (by decide)) (modOf X1 b 4096 (by decide)))
          (fun (f : Fin 2816) j => X2 (ix2 j ⟨f.val, by omega⟩)) (fun f j => X2 (ix2 j ⟨2816 + f.val, by omega⟩)) (fun f => X3 (ix2 f e)) := by
    funext e
    refine (outs_apply X0 X1 X3 _ b q e).trans ?_
    simp only [hidden_apply, feats_apply]
    rfl
  have hd : ∀ e, (show EReal from less (outs X0 X1 X3 (hidden (feats X0 X1 X2))) (ix3 b q e)) = rowOf (outs X0 X1 X3 (hidden (feats X0 X1 X2))) b q e - mean (rowOf (outs X0 X1 X3 (hidden (feats X0 X1 X2))) b q) :=
    fun e => less_apply _ b q e
  have hv : rowOf (mulf (less (outs X0 X1 X3 (hidden (feats X0 X1 X2)))) (less (outs X0 X1 X3 (hidden (feats X0 X1 X2))))) b q
      = fun i => (show EReal from less (outs X0 X1 X3 (hidden (feats X0 X1 X2))) (ix3 b q i)) * (show EReal from less (outs X0 X1 X3 (hidden (feats X0 X1 X2))) (ix3 b q i)) := rfl
  rw [hv, ← ho]
  simp only [hd]

end Cert.FfnRefIdeal.Hand

end
-- ==== Proof.FfnIdeal.Out.lean ====
/- The feed-forward kernel's output array is the reference's result. -/
module

public import proofs.«01_k».proof.Proof.FfnIdeal.Case
public import proofs.«01_k».proof.Proof.FfnRefIdeal.Ref

@[expose] public section

set_option maxRecDepth 16384

noncomputable section

namespace Cert.FfnIdeal.Hand

open Idealize.ShloMosaic Idealize.ShloMosaic.TcCoe Idealize.SL.Sem
open Cert.FfnIdeal Cert.FfnIdeal.Gen
open Cert.FfnRefIdeal.Hand (layer layer_apply rowOf modOf)

variable (m : (ℓ : Loc nD τ sig) → Buf (Elt Ideal) ℓ)

/-- The arguments as launched. -/
def a0 (c : Dev nD) : Vec Ideal S2x8192x1024 .f32 := m ((c : Thread nD τ).loc main_arg0)
def a1 (c : Dev nD) : Vec Ideal S2x1x6144 .f32 := m ((c : Thread nD τ).loc main_arg1)
def a2 (c : Dev nD) : Vec Ideal S1024x5632 .bf16 := m ((c : Thread nD τ).loc main_arg2)
def a3 (c : Dev nD) : Vec Ideal S2816x1024 .bf16 := m ((c : Thread nD τ).loc main_arg3)
def a4 (c : Dev nD) : Vec Ideal S1x1024 .f32 := m ((c : Thread nD τ).loc main_arg4)
def a5 (c : Dev nD) : Vec Ideal S1x1024 .f32 := m ((c : Thread nD τ).loc main_arg5)

/-- A point's batch, row block and chunk. -/
theorem pt_bounds (t : Fin cfg0.N) : t.val / 32 < 2 ∧ t.val / 2 % 16 < 16 ∧ t.val % 2 < 2 := by
  have hN : t.val < 64 := lt_of_lt_of_eq t.isLt N_0
  omega

theorem row_lt (t : Fin cfg0.N) (r : Fin 512) : 512 * (t.val / 2 % 16) + r.val < 8192 := by
  have := pt_bounds t
  omega

/-- The windows' blocks at a point. -/
theorem indices : ∀ t : Fin cfg0.N, win0_0.index t = ![t.val / 32, t.val / 2 % 16, 0] ∧ win0_1.index t = ![t.val / 32, 0, 3] ∧ win0_2.index t = ![t.val / 32, 0, 4]
    ∧ win0_3.index t = ![t.val / 32, 0, 5] ∧ win0_4.index t = ![0, t.val % 2] ∧ win0_5.index t = ![0, 2 + t.val % 2] ∧ win0_6.index t = ![t.val % 2, 0]
    ∧ win0_7.index t = ![0, 0] ∧ win0_8.index t = ![0, 0] ∧ win0_9.index t = ![t.val / 32, t.val / 2 % 16, 0] :=
  (by decide +kernel : ∀ t : Fin grid0.N, _)

variable (c : Dev nD) (t : Fin cfg0.N)

theorem x_block (r : Fin 512) (j : Fin 1024) : (show Vec Ideal S1x512x1024 .f32 from iblk m c 0 t) (ix3 0 r j)
    = a0 m c (ix3 ⟨t.val / 32, (pt_bounds t).1⟩ ⟨512 * (t.val / 2 % 16) + r.val, row_lt t r⟩ j) := by
  unfold a0
  rw [← V_main_arg0 m c]
  blk_ext [iblk, indices t]

theorem shift_block (j : Fin 1024) : (show Vec Ideal S1x1x1024 .f32 from iblk m c 1 t) (ix3 0 0 j)
    = a1 m c (ix3 ⟨t.val / 32, (pt_bounds t).1⟩ 0 ⟨3072 + j.val, by omega⟩) := by
  unfold a1
  rw [← V_main_arg1 m c]
  blk_ext [iblk, indices t]

theorem scale_block (j : Fin 1024) : (show Vec Ideal S1x1x1024 .f32 from iblk m c 2 t) (ix3 0 0 j)
    = a1 m c (ix3 ⟨t.val / 32, (pt_bounds t).1⟩ 0 ⟨4096 + j.val, by omega⟩) := by
  unfold a1
  rw [← V_main_arg1 m c]
  blk_ext [iblk, indices t]

theorem gate_block (j : Fin 1024) : (show Vec Ideal S1x1x1024 .f32 from iblk m c 3 t) (ix3 0 0 j)
    = a1 m c (ix3 ⟨t.val / 32, (pt_bounds t).1⟩ 0 ⟨5120 + j.val, by omega⟩) := by
  unfold a1
  rw [← V_main_arg1 m c]
  blk_ext [iblk, indices t]

theorem wg_block (j : Fin 1024) (f : Fin 1408) : (show Vec Ideal S1024x1408 .bf16 from iblk m c 4 t) (ix2 j f)
    = a2 m c (ix2 j ⟨1408 * (t.val % 2) + f.val, by omega⟩) := by
  unfold a2
  rw [← V_main_arg2 m c]
  blk_ext [iblk, indices t]

theorem wu_block (j : Fin 1024) (f : Fin 1408) : (show Vec Ideal S1024x1408 .bf16 from iblk m c 5 t) (ix2 j f)
    = a2 m c (ix2 j ⟨2816 + (1408 * (t.val % 2) + f.val), by omega⟩) := by
  unfold a2
  rw [← V_main_arg2 m c]
  blk_ext [iblk, indices t]

theorem wd_block (f : Fin 1408) (e : Fin 1024) : (show Vec Ideal S1408x1024 .bf16 from iblk m c 6 t) (ix2 f e)
    = a3 m c (ix2 ⟨1408 * (t.val % 2) + f.val, by omega⟩ e) := by
  unfold a3
  rw [← V_main_arg3 m c]
  blk_ext [iblk, indices t]

theorem g_block (j : Fin 1024) : (show Vec Ideal S1x1024 .f32 from iblk m c 7 t) (ix2 0 j) = a4 m c (ix2 0 j) := by
  unfold a4
  rw [← V_main_arg4 m c]
  blk_ext [iblk, indices t]

theorem b_block (j : Fin 1024) : (show Vec Ideal S1x1024 .f32 from iblk m c 8 t) (ix2 0 j) = a5 m c (ix2 0 j) := by
  unfold a5
  rw [← V_main_arg5 m c]
  blk_ext [iblk, indices t]

/-- A row's modulated input. -/
abbrev rowIn (b : Fin 2) (q : Fin 8192) : Fin 1024 → EReal :=
  modulated (rowOf (a0 m c) b q) (modOf (a1 m c) b 3072 (by decide)) (modOf (a1 m c) b 4096 (by decide))

/-- A point's product at an index. -/
theorem chunk_eq (r : Fin 512) (e : Fin 1024) (b : Fin 2) (q : Fin 8192) (k : ℕ) (hk : k < 2) (hb : t.val / 32 = b.val) (hq : 512 * (t.val / 2 % 16) + r.val = q.val) (ht : t.val % 2 = k) :
    k0_pay4 (iblk m c 0 t) (iblk m c 2 t) (iblk m c 1 t) (iblk m c 4 t) (iblk m c 5 t) (iblk m c 6 t) (ix2 r e)
      = part (rowIn m c b q) (fun (f : Fin 1408) j => a2 m c (ix2 j ⟨1408 * k + f.val, by omega⟩)) (fun f j => a2 m c (ix2 j ⟨2816 + (1408 * k + f.val), by omega⟩))
        (fun f => a3 m c (ix2 ⟨1408 * k + f.val, by omega⟩ e)) := by
  subst ht
  obtain rfl : b = ⟨t.val / 32, (pt_bounds t).1⟩ := Fin.ext hb.symm
  obtain rfl : q = ⟨512 * (t.val / 2 % 16) + r.val, row_lt t r⟩ := Fin.ext hq.symm
  refine (pay4_apply _ _ _ _ _ _ r e).trans ?_
  have h0 := funext (x_block m c t r)
  have h1 := funext (shift_block m c t)
  have h2 := funext (scale_block m c t)
  have h4 := funext fun f => funext fun j => wg_block m c t j f
  have h5 := funext fun f => funext fun j => wu_block m c t j f
  have h6 := funext fun f => wd_block m c t f e
  exact congr (congr (congr (congrArg part (congr (congr (congrArg modulated h0) h1) h2)) h4) h5) h6

/-- An index of the output's block. -/
theorem block_idx (y : (⟨3, ![1, 512, 1024]⟩ : Shape).Idx) : ∃ (r : Fin 512) (e : Fin 1024), y = ix3 0 r e := by
  refine ⟨y 1, y 2, (eq_ix3 y).trans ?_⟩
  have h : ∀ a : Fin 1, (ix3 a (y 1) (y 2) : (⟨3, ![1, 512, 1024]⟩ : Shape).Idx) = ix3 0 (y 1) (y 2) := fun a => by rw [Subsingleton.elim a 0]; rfl
  exact h (y 0)

/-- The reference's result of the kernel's arguments. -/
def want : Vec Ideal S2x8192x1024 .f32 := layer (a0 m c) (a1 m c) (a2 m c) (a3 m c) (a4 m c) (a5 m c)

/-- The written row at an index. -/
theorem written_eq (h1 : t.val % 2 = 1) (r : Fin 512) (e : Fin 1024) :
    (outsAt0 m c t.val t.isLt).1 (ix3 0 r e)
      = want m c (ix3 ⟨t.val / 32, (pt_bounds t).1⟩ ⟨512 * (t.val / 2 % 16) + r.val, row_lt t r⟩ e) := by
  have hp : t.val - 1 < cfg0.N := Nat.lt_of_le_of_lt (Nat.sub_le _ _) t.isLt
  have hs : ∀ e : Fin 1024, k0_pay1 (k0_pay4 (iblk m c 0 t) (iblk m c 2 t) (iblk m c 1 t) (iblk m c 4 t) (iblk m c 5 t) (iblk m c 6 t)) (outsAt0 m c (t.val - 1) hp).2 (ix2 r e)
      = part (rowIn m c ⟨t.val / 32, (pt_bounds t).1⟩ ⟨512 * (t.val / 2 % 16) + r.val, row_lt t r⟩)
          (fun (f : Fin 2816) j => a2 m c (ix2 j ⟨f.val, by omega⟩)) (fun f j => a2 m c (ix2 j ⟨2816 + f.val, by omega⟩)) (fun f => a3 m c (ix2 f e)) := by
    intro e
    rw [pay1_apply, first_point m c ⟨t.val - 1, hp⟩ (by dsimp only; omega) (by dsimp only; omega)]
    refine (congrArg₂ (fun x y : EReal => x + y)
      (chunk_eq m c ⟨t.val - 1, hp⟩ r e ⟨t.val / 32, (pt_bounds t).1⟩ ⟨512 * (t.val / 2 % 16) + r.val, row_lt t r⟩ 0 (by omega) (by dsimp only; omega) (by dsimp only; omega) (by dsimp only; omega))
      (chunk_eq m c t r e ⟨t.val / 32, (pt_bounds t).1⟩ ⟨512 * (t.val / 2 % 16) + r.val, row_lt t r⟩ 1 (by omega) rfl rfl h1)).trans ?_
    refine Eq.trans ?_ (part_add (n := 1408) (k := 1408) _ _ _ _).symm
    simp only [Fin.castAdd, Fin.natAdd, Fin.castLE, Nat.mul_zero, Nat.zero_add, Nat.mul_one]
  rw [second_point m c t (by omega) h1]
  refine (pay2_apply _ _ _ _ _ r e).trans ?_
  unfold want
  rw [layer_apply]
  have h0 := funext (x_block m c t r)
  have h3 := funext (gate_block m c t)
  have h7 := funext (g_block m c t)
  have h8 := funext (b_block m c t)
  exact congrFun (congr (congr (congrArg normed (congr (congr (congrArg resid h0) h3) (funext hs))) h7) h8) e

/-- The array after the run. -/
theorem out_array : (dats m 0 c).arrAt 9 cfg0.N = want m c := by
  refine (dats m 0 c).arrAt_eq_of_covers 9 _ (by decide +kernel) fun t hf y => ?_
  have h1 : t.val % 2 = 1 := (flush0_9 t).mp hf
  blk_simp
  rw [after0_9]
  have hb := pt_bounds t
  obtain ⟨r, e, rfl⟩ : ∃ (r : Fin 512) (e : Fin 1024), y = ix3 0 r e := block_idx y
  have he : want m c (((cfg0.win 9).blk t).view.emb (ix3 0 r e)) = want m c (ix3 ⟨t.val / 32, hb.1⟩ ⟨512 * (t.val / 2 % 16) + r.val, by omega⟩ e) := by
    blk_ext [indices t]
  rw [he]
  exact written_eq m c t h1 r e

end Cert.FfnIdeal.Hand

end
-- ==== Proof.MergeRefIdeal.Ref.lean ====
/- The reference's merged rows, at each index. -/
module

public import proofs.«01_k».proof.Proof.Gen.MergeRefIdeal.Run
public import proofs.«01_k».proof.Proof.FfnRefIdeal.Ref
public import Idealize.ShloMosaic.Lib.Pointwise

@[expose] public section

set_option maxRecDepth 16384

noncomputable section

namespace Cert.MergeRefIdeal.Hand

open Idealize.ShloMosaic Idealize.ShloMosaic.TcCoe Idealize.SL.Sem
open Cert.MergeRefIdeal Cert.MergeRefIdeal.Gen
open Cert.FfnIdeal.Hand (resid mean normed)
open Cert.FfnRefIdeal.Hand (norms less means rowOf modOf norms_apply means_apply less_apply)

/-- The rows before their normalisation. -/
def outs (X0 : FVec Ideal S2x8192x1024 .f32) (X1 X2 : FVec Ideal S2x8192x512 .bf16) (X3 : FVec Ideal S2x1x6144 .f32) (X4 : FVec Ideal S1024x1024 .bf16) : FVec Ideal S2x8192x1024 .f32 :=
  addf (mulf (broadcastInDim S2x8192x1024 ![] bcast_S_S2x8192x1024 (constant S_ .f32 0x3F9837F0#32)) X0) (mulf (broadcastInDim S2x8192x1024 ![0, 1, 2] bcast_S2x1x1024_S2x8192x1024_0_1_2 (extractStridedSlice S2x1x1024 ![0, 0, 2048] X3 slices_S2x1x6144_S2x1x1024_0_0_2048)) (Host.dotGeneral dot_S2x8192x1024_S1024x1024_S2x8192x1024_2_0_01_1_n_n none (extf .f32 (concatenate S2x8192x1024 2 [⟨S2x8192x512, X1⟩, ⟨S2x8192x512, X2⟩] concatenates_S2x8192x512_S2x8192x512_S2x8192x1024_d2) bitsLt_bf16_f32) (extf .f32 X4 bitsLt_bf16_f32)))

/-- The rows normalised, scaled and shifted. -/
def merged (X0 : FVec Ideal S2x8192x1024 .f32) (X1 X2 : FVec Ideal S2x8192x512 .bf16) (X3 : FVec Ideal S2x1x6144 .f32) (X4 : FVec Ideal S1024x1024 .bf16) (X5 X6 : FVec Ideal S1x1024 .f32) : FVec Ideal S2x8192x1024 .f32 :=
  norms (less (outs X0 X1 X2 X3 X4)) (means (mulf (less (outs X0 X1 X2 X3 X4)) (less (outs X0 X1 X2 X3 X4)))) X5 X6

/-- The result is these in turn. -/
theorem res_eq (m : (ℓ : Loc nD τ sig) → Buf (Elt Ideal) ℓ) (c : Dev nD) :
    Cert.MergeRefIdeal.Value.res_main_v35 m c = merged (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  unfold Cert.MergeRefIdeal.Value.res_main_v35 merged norms Cert.FfnRefIdeal.Hand.along less means outs
  rfl

/-- The two heads' rows times a column of the output weight. -/
def joined (s d : Fin 512 → EReal) (w : Fin 1024 → EReal) : EReal :=
  (∑ k : Fin 512, s k * w ⟨k.val, by omega⟩) + ∑ k : Fin 512, d k * w ⟨512 + k.val, by omega⟩

theorem outs_apply (X0 : FVec Ideal S2x8192x1024 .f32) (X1 X2 : FVec Ideal S2x8192x512 .bf16) (X3 : FVec Ideal S2x1x6144 .f32) (X4 : FVec Ideal S1024x1024 .bf16) (b : Fin 2) (q : Fin 8192) (e : Fin 1024) :
    outs X0 X1 X2 X3 X4 (ix3 b q e) = resid (rowOf X0 b q) (modOf X3 b 2048 (by decide)) (fun e => joined (fun k => X1 (ix3 b q k)) (fun k => X2 (ix3 b q k)) (fun k => X4 (ix2 k e))) e := by
  unfold outs resid joined
  pointwise

/-- The normalisation of any rows, at an index. -/
theorem norm_apply (Y : FVec Ideal S2x8192x1024 .f32) (G B : FVec Ideal S1x1024 .f32) (b : Fin 2) (q : Fin 8192) (e : Fin 1024) :
    norms (less Y) (means (mulf (less Y) (less Y))) G B (ix3 b q e) = normed (rowOf Y b q) (fun j => G (ix2 0 j)) (fun j => B (ix2 0 j)) e := by
  unfold normed
  rw [norms_apply, means_apply]
  have hd : ∀ e, (show EReal from less Y (ix3 b q e)) = rowOf Y b q e - mean (rowOf Y b q) := fun e => less_apply _ b q e
  have hv : rowOf (mulf (less Y) (less Y)) b q = fun i => (show EReal from less Y (ix3 b q i)) * (show EReal from less Y (ix3 b q i)) := rfl
  rw [hv]
  simp only [hd]

/-- The result at an index: the row's normalised residual. -/
theorem merged_apply (X0 : FVec Ideal S2x8192x1024 .f32) (X1 X2 : FVec Ideal S2x8192x512 .bf16) (X3 : FVec Ideal S2x1x6144 .f32) (X4 : FVec Ideal S1024x1024 .bf16) (X5 X6 : FVec Ideal S1x1024 .f32) (b : Fin 2) (q : Fin 8192) (e : Fin 1024) :
    merged X0 X1 X2 X3 X4 X5 X6 (ix3 b q e) = normed (resid (rowOf X0 b q) (modOf X3 b 2048 (by decide)) fun e => joined (fun k => X1 (ix3 b q k)) (fun k => X2 (ix3 b q k)) (fun k => X4 (ix2 k e)))
      (fun j => X5 (ix2 0 j)) (fun j => X6 (ix2 0 j)) e := by
  unfold merged
  rw [norm_apply]
  have ho := funext (outs_apply X0 X1 X2 X3 X4 b q)
  exact congrArg (fun y => normed y (fun j => X5 (ix2 0 j)) (fun j => X6 (ix2 0 j)) e) ho

end Cert.MergeRefIdeal.Hand

end
-- ==== Proof.MergeIdeal.Out.lean ====
/- The merge kernel's output array is the reference's result. -/
module

public import proofs.«01_k».proof.Proof.Gen.MergeIdeal.Value
public import proofs.«01_k».proof.Proof.MergeRefIdeal.Ref

@[expose] public section

set_option maxRecDepth 16384

noncomputable section

namespace Cert.MergeIdeal.Hand

open Idealize.ShloMosaic Idealize.ShloMosaic.TcCoe Idealize.SL.Sem
open Cert.MergeIdeal Cert.MergeIdeal.Gen
open Cert.FfnIdeal.Hand (resid mean normed)
open Cert.FfnRefIdeal.Hand (rowOf modOf)
open Cert.MergeRefIdeal.Hand (merged merged_apply joined)

variable (m : (ℓ : Loc nD τ sig) → Buf (Elt Ideal) ℓ)

/-- The arguments as launched. -/
def a0 (c : Dev nD) : Vec Ideal S2x8192x1024 .f32 := m ((c : Thread nD τ).loc main_arg0)
def a1 (c : Dev nD) : Vec Ideal S2x8192x512 .bf16 := m ((c : Thread nD τ).loc main_arg1)
def a2 (c : Dev nD) : Vec Ideal S2x8192x512 .bf16 := m ((c : Thread nD τ).loc main_arg2)
def a3 (c : Dev nD) : Vec Ideal S2x1x6144 .f32 := m ((c : Thread nD τ).loc main_arg3)
def a4 (c : Dev nD) : Vec Ideal S1024x1024 .bf16 := m ((c : Thread nD τ).loc main_arg4)
def a5 (c : Dev nD) : Vec Ideal S1x1024 .f32 := m ((c : Thread nD τ).loc main_arg5)
def a6 (c : Dev nD) : Vec Ideal S1x1024 .f32 := m ((c : Thread nD τ).loc main_arg6)

/-- The written row at an index. -/
theorem pay_apply (x : Vec Ideal S1x512x1024 .f32) (s d : Vec Ideal S1x512x512 .bf16) (gate : Vec Ideal S1x1x1024 .f32) (wt wb : Vec Ideal S512x1024 .bf16) (g b : Vec Ideal S1x1024 .f32) (r : Fin 512) (e : Fin 1024) :
    k0_pay1 g b (k0_pay2 s wt d wb x gate) (k0_pay3 s wt d wb x gate) (ix3 0 r e)
      = normed (resid (fun j => x (ix3 0 r j)) (fun j => gate (ix3 0 0 j)) (fun e => (∑ k : Fin 512, (show EReal from s (ix3 0 r k)) * (show EReal from wt (ix2 k e))) + ∑ k : Fin 512, (show EReal from d (ix3 0 r k)) * (show EReal from wb (ix2 k e))))
        (fun j => g (ix2 0 j)) (fun j => b (ix2 0 j)) e := by
  unfold k0_pay1 k0_pay3 k0_pay2 normed mean resid
  pointwise

/-- A point's batch and row block. -/
theorem pt_bounds (t : Fin cfg0.N) : t.val / 16 < 2 ∧ t.val % 16 < 16 := by
  have hN : t.val < 32 := lt_of_lt_of_eq t.isLt N_0
  omega

theorem row_lt (t : Fin cfg0.N) (r : Fin 512) : 512 * (t.val % 16) + r.val < 8192 := by
  have := pt_bounds t
  omega

/-- The windows' blocks at a point. -/
theorem indices : ∀ t : Fin cfg0.N, win0_0.index t = ![t.val / 16, t.val % 16, 0] ∧ win0_1.index t = ![t.val / 16, t.val % 16, 0] ∧ win0_2.index t = ![t.val / 16, t.val % 16, 0]
    ∧ win0_3.index t = ![t.val / 16, 0, 2] ∧ win0_4.index t = ![0, 0] ∧ win0_5.index t = ![0, 0] ∧ win0_6.index t = ![0, 0] ∧ win0_7.index t = ![t.val / 16, t.val % 16, 0] :=
  (by decide +kernel : ∀ t : Fin grid0.N, _)

variable (c : Dev nD) (t : Fin cfg0.N)

theorem x_block (r : Fin 512) (j : Fin 1024) : (show Vec Ideal S1x512x1024 .f32 from iblk m c 0 t) (ix3 0 r j)
    = a0 m c (ix3 ⟨t.val / 16, (pt_bounds t).1⟩ ⟨512 * (t.val % 16) + r.val, row_lt t r⟩ j) := by
  unfold a0
  rw [← V_main_arg0 m c]
  blk_ext [iblk, indices t]

theorem s_block (r k : Fin 512) : (show Vec Ideal S1x512x512 .bf16 from iblk m c 1 t) (ix3 0 r k)
    = a1 m c (ix3 ⟨t.val / 16, (pt_bounds t).1⟩ ⟨512 * (t.val % 16) + r.val, row_lt t r⟩ k) := by
  unfold a1
  rw [← V_main_arg1 m c]
  blk_ext [iblk, indices t]

theorem d_block (r k : Fin 512) : (show Vec Ideal S1x512x512 .bf16 from iblk m c 2 t) (ix3 0 r k)
    = a2 m c (ix3 ⟨t.val / 16, (pt_bounds t).1⟩ ⟨512 * (t.val % 16) + r.val, row_lt t r⟩ k) := by
  unfold a2
  rw [← V_main_arg2 m c]
  blk_ext [iblk, indices t]

theorem gate_block (j : Fin 1024) : (show Vec Ideal S1x1x1024 .f32 from iblk m c 3 t) (ix3 0 0 j)
    = a3 m c (ix3 ⟨t.val / 16, (pt_bounds t).1⟩ 0 ⟨2048 + j.val, by omega⟩) := by
  unfold a3
  rw [← V_main_arg3 m c]
  blk_ext [iblk, indices t]

theorem w_block (k e : Fin 1024) : (show Vec Ideal S1024x1024 .bf16 from iblk m c 4 t) (ix2 k e) = a4 m c (ix2 k e) := by
  unfold a4
  rw [← V_main_arg4 m c]
  blk_ext [iblk, indices t]

theorem g_block (j : Fin 1024) : (show Vec Ideal S1x1024 .f32 from iblk m c 5 t) (ix2 0 j) = a5 m c (ix2 0 j) := by
  unfold a5
  rw [← V_main_arg5 m c]
  blk_ext [iblk, indices t]

theorem b_block (j : Fin 1024) : (show Vec Ideal S1x1024 .f32 from iblk m c 6 t) (ix2 0 j) = a6 m c (ix2 0 j) := by
  unfold a6
  rw [← V_main_arg6 m c]
  blk_ext [iblk, indices t]

/-- The weight's upper and lower halves, as the body loads them. -/
theorem upper_half (w : Vec Ideal S1024x1024 .bf16) (k : Fin 512) (e : Fin 1024) : View.ld w r0_1 (ix2 k e) = w (ix2 ⟨k.val, by omega⟩ e) := by
  refine congrArg w ?_
  funext a
  fin_cases a <;> apply Fin.ext <;> simp [Rect.emb]

theorem lower_half (w : Vec Ideal S1024x1024 .bf16) (k : Fin 512) (e : Fin 1024) : View.ld w r0_2 (ix2 k e) = w (ix2 ⟨512 + k.val, by omega⟩ e) := by
  refine congrArg w ?_
  funext a
  fin_cases a <;> apply Fin.ext <;> simp [Rect.emb]

/-- The reference's result of the kernel's arguments. -/
def want : Vec Ideal S2x8192x1024 .f32 := merged (a0 m c) (a1 m c) (a2 m c) (a3 m c) (a4 m c) (a5 m c) (a6 m c)

/-- What a point writes. -/
theorem written (x0 : Vec Ideal S1x512x1024 .f32) (x1 x2 : Vec Ideal S1x512x512 .bf16) (x3 : Vec Ideal S1x1x1024 .f32) (x4 : Vec Ideal S1024x1024 .bf16) (x5 x6 : Vec Ideal S1x1024 .f32) :
    out0_7 x0 x1 x2 x3 x4 x5 x6 = k0_pay1 x5 x6 (k0_pay2 x1 (View.ld x4 r0_1) x2 (View.ld x4 r0_2) x0 x3) (k0_pay3 x1 (View.ld x4 r0_1) x2 (View.ld x4 r0_2) x0 x3) := by
  unfold out0_7
  frame_out

/-- The written row at an index. -/
theorem written_eq (r : Fin 512) (e : Fin 1024) :
    out0_7 (iblk m c 0 t) (iblk m c 1 t) (iblk m c 2 t) (iblk m c 3 t) (iblk m c 4 t) (iblk m c 5 t) (iblk m c 6 t) (ix3 0 r e)
      = want m c (ix3 ⟨t.val / 16, (pt_bounds t).1⟩ ⟨512 * (t.val % 16) + r.val, row_lt t r⟩ e) := by
  rw [written]
  refine (pay_apply _ _ _ _ _ _ _ _ r e).trans ?_
  unfold want
  rw [merged_apply]
  have h0 := funext (x_block m c t r)
  have h1 := s_block m c t r
  have h2 := d_block m c t r
  have h3 := funext (gate_block m c t)
  have h5 := funext (g_block m c t)
  have h6 := funext (b_block m c t)
  refine congrFun (congr (congr (congrArg normed (congr (congr (congrArg resid h0) h3) (funext fun e => ?_))) h5) h6) e
  unfold joined
  refine congrArg₂ (fun x y : EReal => x + y) (Finset.sum_congr rfl fun k _ => congrArg₂ (fun x y : EReal => x * y) (h1 k) ?_)
    (Finset.sum_congr rfl fun k _ => congrArg₂ (fun x y : EReal => x * y) (h2 k) ?_)
  · exact (upper_half _ k e).trans (w_block m c t _ e)
  · exact (lower_half _ k e).trans (w_block m c t _ e)

/-- The array after the run. -/
theorem out_array : (dats m 0 c).arrAt 7 cfg0.N = want m c := by
  refine (dats m 0 c).arrAt_eq_of_covers 7 _ (by decide +kernel) fun t hf y => ?_
  blk_simp
  rw [after0_7]
  have hb := pt_bounds t
  obtain ⟨r, e, rfl⟩ : ∃ (r : Fin 512) (e : Fin 1024), y = ix3 0 r e := by
    refine ⟨y 1, y 2, (eq_ix3 y).trans ?_⟩
    have h : ∀ a : Fin 1, (ix3 a (y 1) (y 2) : (⟨3, ![1, 512, 1024]⟩ : Shape).Idx) = ix3 0 (y 1) (y 2) := fun a => by rw [Subsingleton.elim a 0]; rfl
    exact h (y 0)
  have he : want m c (((cfg0.win 7).blk t).view.emb (ix3 0 r e)) = want m c (ix3 ⟨t.val / 16, hb.1⟩ ⟨512 * (t.val % 16) + r.val, by omega⟩ e) := by
    blk_ext [indices t]
  rw [he]
  exact written_eq m c t r e

end Cert.MergeIdeal.Hand

end
-- ==== Proof.InprojRefIdeal.Row.lean ====
/- One row of the projections: its rotated columns and its packing. -/
module

public import proofs.«01_k».proof.Proof.FfnIdeal.Row

@[expose] public section

noncomputable section

namespace Cert.InprojRefIdeal.Hand

open Idealize.ShloMosaic

/-- A column rotated with its partner, which lies 32 columns after it in the first half of its head and 32 before it in the second. -/
def turn (y : Fin 3072 → EReal) (cs sn : Fin 32 → EReal) (n : Fin 3072) : EReal :=
  if h : n.val % 64 < 32 then y n * cs ⟨n.val % 32, Nat.mod_lt _ (by decide)⟩ - y ⟨n.val + 32, by omega⟩ * sn ⟨n.val % 32, Nat.mod_lt _ (by decide)⟩
  else y n * cs ⟨n.val % 32, Nat.mod_lt _ (by decide)⟩ + y ⟨n.val - 32, by omega⟩ * sn ⟨n.val % 32, Nat.mod_lt _ (by decide)⟩

/-- A column of the packed row: the queries scaled, the second pair of queries and keys rotated. -/
def packed (y : Fin 3072 → EReal) (cs sn : Fin 32 → EReal) (n : Fin 3072) : EReal :=
  if n.val < 512 then y n * Ideal.ofBits .f32 1040187392#32
  else if n.val < 1536 then y n
  else if n.val < 2048 then turn y cs sn n * Ideal.ofBits .f32 1040187392#32
  else if n.val < 2560 then turn y cs sn n
  else y n

end Cert.InprojRefIdeal.Hand

end
-- ==== Proof.InprojIdeal.Piece.lean ====
/- One piece of the in-projection's rotation, at each lane. -/
module

public import proofs.«01_k».proof.Proof.Gen.InprojIdeal.Value
public import proofs.«01_k».proof.Proof.InprojRefIdeal.Row
public import Idealize.ShloMosaic.Lib.Pointwise

@[expose] public section

set_option maxRecDepth 16384

noncomputable section

namespace Cert.InprojIdeal.Hand

open Idealize.ShloMosaic Idealize.ShloMosaic.TcCoe Idealize.SL.Sem
open Cert.InprojIdeal Cert.InprojIdeal.Gen
open Cert.InprojRefIdeal.Hand (turn packed)

/-- A piece times the cosines plus its partners times the signed sines. -/
def piece (t C S : FVec Ideal S512x128 .f32) : FVec Ideal S512x128 .f32 :=
  addf (mulf t C) (mulf (select k0_pay11 (dynamicRotate 1 96#32 none t rotates_S512x128_d1) (dynamicRotate 1 32#32 none t rotates_S512x128_d1)) S)

/-- The lanes of the first halves of the heads. -/
theorem mask_lane : ∀ l : Fin 128, IntOp.cmpi CmpIPredicate.slt (IntOp.andi (BitVec.ofNat 32 l.val) 63#32) 32#32 = if l.val % 64 < 32 then 1#1 else 0#1 := by decide

theorem piece_apply (t C S : FVec Ideal S512x128 .f32) (r : Fin 512) (l : Fin 128) : piece t C S (ix2 r l) =
    (show EReal from t (ix2 r l)) * (show EReal from C (ix2 r l)) + (show EReal from t (ix2 r ⟨(if l.val % 64 < 32 then l.val + 32 else l.val + 96) % 128, Nat.mod_lt _ (by decide)⟩)) * (show EReal from S (ix2 r l)) := by
  unfold piece k0_pay11
  pointwise
  rw [mask_lane]
  by_cases h : l.val % 64 < 32
  · simp only [if_pos h, Scalar.select, if_true]
    rfl
  · simp only [if_neg h, Scalar.select]
    rfl

/-- A piece that starts at a whole head is those columns of the row rotated. -/
theorem piece_turn (t C S : FVec Ideal S512x128 .f32) (y : Fin 3072 → EReal) (cs sn : Fin 32 → EReal) (r : Fin 512) (lo : Nat) (hlo : lo + 128 ≤ 3072) (hd : lo % 64 = 0)
    (ht : ∀ l : Fin 128, t (ix2 r l) = y ⟨lo + l.val, by omega⟩) (hC : ∀ l : Fin 128, C (ix2 r l) = cs ⟨l.val % 32, Nat.mod_lt _ (by decide)⟩)
    (hS : ∀ l : Fin 128, S (ix2 r l) = if l.val % 64 < 32 then -sn ⟨l.val % 32, Nat.mod_lt _ (by decide)⟩ else sn ⟨l.val % 32, Nat.mod_lt _ (by decide)⟩) (l : Fin 128) :
    piece t C S (ix2 r l) = turn y cs sn ⟨lo + l.val, by omega⟩ := by
  have hm : (lo + l.val) % 64 = l.val % 64 := by omega
  have hk : (⟨(lo + l.val) % 32, Nat.mod_lt _ (by decide)⟩ : Fin 32) = ⟨l.val % 32, Nat.mod_lt _ (by decide)⟩ := Fin.ext (by dsimp only; omega)
  rw [piece_apply]
  unfold turn
  dsimp only
  rw [ht, ht, hC, hS, hk]
  by_cases h : l.val % 64 < 32
  · rw [dif_pos (by simpa only [hm] using h)]
    simp only [if_pos h]
    have e : (⟨lo + (l.val + 32) % 128, by omega⟩ : Fin 3072) = ⟨lo + l.val + 32, by omega⟩ := Fin.ext (by dsimp only; omega)
    rw [e, mul_neg, ← sub_eq_add_neg]
  · rw [dif_neg (by simpa only [hm] using h)]
    simp only [if_neg h]
    have e : (⟨lo + (l.val + 96) % 128, by omega⟩ : Fin 3072) = ⟨lo + l.val - 32, by omega⟩ := Fin.ext (by dsimp only; omega)
    rw [e]

end Cert.InprojIdeal.Hand

end
-- ==== Proof.InprojRefIdeal.Ref.lean ====
/- The reference's projections, at each index. -/
module

public import proofs.«01_k».proof.Proof.Gen.InprojRefIdeal.Run
public import proofs.«01_k».proof.Proof.FfnRefIdeal.Ref
public import proofs.«01_k».proof.Proof.InprojRefIdeal.Row
public import Idealize.ShloMosaic.Lib.Pointwise

@[expose] public section

set_option maxRecDepth 16384

noncomputable section

namespace Cert.InprojRefIdeal.Hand

open Idealize.ShloMosaic Idealize.ShloMosaic.TcCoe Idealize.SL.Sem
open Cert.InprojRefIdeal Cert.InprojRefIdeal.Gen
open Cert.FfnIdeal.Hand (modulated lin)
open Cert.FfnRefIdeal.Hand (rowOf modOf)

/-- All projections of all rows. -/
def projected (X0 : FVec Ideal S2x8192x1024 .f32) (X1 : FVec Ideal S2x1x6144 .f32) (X2 : FVec Ideal S1024x3072 .bf16) : FVec Ideal S2x8192x3072 .f32 :=
  Host.dotGeneral dot_S2x8192x1024_S1024x3072_S2x8192x3072_2_0_01_1_n_n none (addf (mulf X0 (broadcastInDim S2x8192x1024 ![0, 1, 2] bcast_S2x1x1024_S2x8192x1024_0_1_2 (addf (broadcastInDim S2x1x1024 ![] bcast_S_S2x1x1024 (constant S_ .f32 0x3F800000#32)) (extractStridedSlice S2x1x1024 ![0, 0, 1024] X1 slices_S2x1x6144_S2x1x1024_0_0_1024)))) (broadcastInDim S2x8192x1024 ![0, 1, 2] bcast_S2x1x1024_S2x8192x1024_0_1_2 (extractStridedSlice S2x1x1024 ![0, 0, 0] X1 slices_S2x1x6144_S2x1x1024_0_0_0))) (extf .f32 X2 bitsLt_bf16_f32)

/-- The angle of every position and frequency. -/
def angles : FVec Ideal S8192x32 .f32 :=
  mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.powf (broadcastInDim S32 ![] bcast_S_S32 (constant S_ .f32 0x461C4000#32)) (Host.divf (Host.negf (sitofp .f32 (iotaInDim S32 32 0))) (broadcastInDim S32 ![] bcast_S_S32 (constant S_ .f32 0x42000000#32))))))

/-- Their cosines and sines. -/
def cosines : FVec Ideal S8192x32 .f32 := Host.cos angles
def sines : FVec Ideal S8192x32 .f32 := Host.sin angles

/-- A table along every batch and head. -/
def wide (T : FVec Ideal S8192x32 .f32) : FVec Ideal S2x8192x8x32 .f32 :=
  broadcastInDim S2x8192x8x32 ![0, 1, 2, 3] bcast_S1x8192x1x32_S2x8192x8x32_0_1_2_3 (broadcastInDim S1x8192x1x32 ![1, 2, 3] bcast_S8192x1x32_S1x8192x1x32_1_2_3 (broadcastInDim S8192x1x32 ![0, 2] bcast_S8192x32_S8192x1x32_0_2 T))

/-- The halves of every head. -/
def firsts (Z : FVec Ideal S2x8192x512 .f32) : FVec Ideal S2x8192x8x32 .f32 :=
  extractStridedSlice S2x8192x8x32 ![0, 0, 0, 0] (shapeCast S2x8192x8x64 Z shapeCasts_S2x8192x512_S2x8192x8x64) slices_S2x8192x8x64_S2x8192x8x32_0_0_0_0
def seconds (Z : FVec Ideal S2x8192x512 .f32) : FVec Ideal S2x8192x8x32 .f32 :=
  extractStridedSlice S2x8192x8x32 ![0, 0, 0, 32] (shapeCast S2x8192x8x64 Z shapeCasts_S2x8192x512_S2x8192x8x64) slices_S2x8192x8x64_S2x8192x8x32_0_0_0_32

/-- The heads joined from their halves. -/
def joined (A B : FVec Ideal S2x8192x8x32 .f32) : FVec Ideal S2x8192x512 .f32 :=
  shapeCast S2x8192x512 (concatenate S2x8192x8x64 3 [⟨S2x8192x8x32, A⟩, ⟨S2x8192x8x32, B⟩] concatenates_S2x8192x8x32_S2x8192x8x32_S2x8192x8x64_d3) shapeCasts_S2x8192x8x64_S2x8192x512

/-- The heads rotated. -/
def rotated (Z : FVec Ideal S2x8192x512 .f32) (C S : FVec Ideal S8192x32 .f32) : FVec Ideal S2x8192x512 .f32 :=
  joined (subf (mulf (firsts Z) (wide C)) (mulf (seconds Z) (wide S))) (addf (mulf (seconds Z) (wide C)) (mulf (firsts Z) (wide S)))

/-- The six parts of the projections. -/
def sbq (Y : FVec Ideal S2x8192x3072 .f32) : FVec Ideal S2x8192x512 .f32 := extractStridedSlice S2x8192x512 ![0, 0, 0] Y slices_S2x8192x3072_S2x8192x512_0_0_0
def sbk (Y : FVec Ideal S2x8192x3072 .f32) : FVec Ideal S2x8192x512 .f32 := extractStridedSlice S2x8192x512 ![0, 0, 512] Y slices_S2x8192x3072_S2x8192x512_0_0_512
def sbv (Y : FVec Ideal S2x8192x3072 .f32) : FVec Ideal S2x8192x512 .f32 := extractStridedSlice S2x8192x512 ![0, 0, 1024] Y slices_S2x8192x3072_S2x8192x512_0_0_1024
def dq (Y : FVec Ideal S2x8192x3072 .f32) : FVec Ideal S2x8192x512 .f32 := extractStridedSlice S2x8192x512 ![0, 0, 1536] Y slices_S2x8192x3072_S2x8192x512_0_0_1536
def dk (Y : FVec Ideal S2x8192x3072 .f32) : FVec Ideal S2x8192x512 .f32 := extractStridedSlice S2x8192x512 ![0, 0, 2048] Y slices_S2x8192x3072_S2x8192x512_0_0_2048
def dv (Y : FVec Ideal S2x8192x3072 .f32) : FVec Ideal S2x8192x512 .f32 := extractStridedSlice S2x8192x512 ![0, 0, 2560] Y slices_S2x8192x3072_S2x8192x512_0_0_2560

/-- A part times the scale of the scores. -/
def scaled (Z : FVec Ideal S2x8192x512 .f32) : FVec Ideal S2x8192x512 .f32 := mulf Z (broadcastInDim S2x8192x512 ![] bcast_S_S2x8192x512 (constant S_ .f32 0x3E000000#32))

/-- The six parts side by side. -/
def beside (Z0 Z1 Z2 Z3 Z4 Z5 : FVec Ideal S2x8192x512 .f32) : FVec Ideal S2x8192x3072 .bf16 :=
  truncf .bf16 ((concatenate S2x8192x3072 2 [⟨S2x8192x512, (Z0 : (⟨S2x8192x512, .f32⟩ : BufTy).Contents (Elt Ideal))⟩, ⟨S2x8192x512, (Z1 : (⟨S2x8192x512, .f32⟩ : BufTy).Contents (Elt Ideal))⟩, ⟨S2x8192x512, (Z2 : (⟨S2x8192x512, .f32⟩ : BufTy).Contents (Elt Ideal))⟩, ⟨S2x8192x512, (Z3 : (⟨S2x8192x512, .f32⟩ : BufTy).Contents (Elt Ideal))⟩, ⟨S2x8192x512, (Z4 : (⟨S2x8192x512, .f32⟩ : BufTy).Contents (Elt Ideal))⟩, ⟨S2x8192x512, (Z5 : (⟨S2x8192x512, .f32⟩ : BufTy).Contents (Elt Ideal))⟩] concatenates_S2x8192x512_S2x8192x512_S2x8192x512_S2x8192x512_S2x8192x512_S2x8192x512_S2x8192x3072_d2 : (⟨S2x8192x3072, .f32⟩ : BufTy).Contents (Elt Ideal))) bitsLt_bf16_f32

/-- The packed projections. -/
def pack (Y : FVec Ideal S2x8192x3072 .f32) : FVec Ideal S2x8192x3072 .bf16 :=
  beside (scaled (sbq Y)) (sbk Y) (sbv Y) (scaled (rotated (dq Y) cosines sines)) (rotated (dk Y) cosines sines) (dv Y)

/-- The last part transposed. -/
def flipped (Y : FVec Ideal S2x8192x3072 .f32) : FVec Ideal S2x512x8192 .bf16 :=
  truncf .bf16 (transpose S2x512x8192 [0, 2, 1] (dv Y) transposes_S2x8192x512_S2x512x8192_0_2_1) bitsLt_bf16_f32

/-- The results are these. -/
theorem res_pack (m : (ℓ : Loc nD τ sig) → Buf (Elt Ideal) ℓ) (c : Dev nD) :
    Cert.InprojRefIdeal.Value.res_main_v76 m c = pack (projected (m ((c.tc : Thread nD τ).loc main_arg0)) (m ((c.tc : Thread nD τ).loc main_arg1)) (m ((c.tc : Thread nD τ).loc main_arg2))) := by
  unfold Cert.InprojRefIdeal.Value.res_main_v76 pack beside scaled rotated joined firsts seconds wide cosines sines angles sbq sbk sbv dq dk dv projected
  rfl

theorem res_rotated (m : (ℓ : Loc nD τ sig) → Buf (Elt Ideal) ℓ) (c : Dev nD) :
    Cert.InprojRefIdeal.Value.res_main_v70 m c = rotated (dk (projected (m ((c.tc : Thread nD τ).loc main_arg0)) (m ((c.tc : Thread nD τ).loc main_arg1)) (m ((c.tc : Thread nD τ).loc main_arg2)))) cosines sines := by
  unfold Cert.InprojRefIdeal.Value.res_main_v70 rotated joined firsts seconds wide cosines sines angles dk projected
  rfl

/-- The rotation's tables at a position. -/
abbrev tab (T : FVec Ideal S8192x32 .f32) (q : Fin 8192) : Fin 32 → EReal := fun k => T (ix2 q k)

/-- A row of the projections. -/
abbrev wideRow (Y : FVec Ideal S2x8192x3072 .f32) (b : Fin 2) (q : Fin 8192) : Fin 3072 → EReal := fun n => Y (ix3 b q n)

theorem projected_apply (X0 : FVec Ideal S2x8192x1024 .f32) (X1 : FVec Ideal S2x1x6144 .f32) (X2 : FVec Ideal S1024x3072 .bf16) (b : Fin 2) (q : Fin 8192) (n : Fin 3072) :
    projected X0 X1 X2 (ix3 b q n) = lin (modulated (rowOf X0 b q) (modOf X1 b 0 (by decide)) (modOf X1 b 1024 (by decide))) (fun j => X2 (ix2 j n)) := by
  unfold projected lin modulated
  pointwise
  rfl

theorem sbq_apply (Y : FVec Ideal S2x8192x3072 .f32) (b : Fin 2) (q : Fin 8192) (n : Fin 512) : sbq Y (ix3 b q n) = Y (ix3 b q ⟨n.val, by omega⟩) := by
  unfold sbq
  pointwise

theorem sbk_apply (Y : FVec Ideal S2x8192x3072 .f32) (b : Fin 2) (q : Fin 8192) (n : Fin 512) : sbk Y (ix3 b q n) = Y (ix3 b q ⟨512 + n.val, by omega⟩) := by
  unfold sbk
  pointwise

theorem sbv_apply (Y : FVec Ideal S2x8192x3072 .f32) (b : Fin 2) (q : Fin 8192) (n : Fin 512) : sbv Y (ix3 b q n) = Y (ix3 b q ⟨1024 + n.val, by omega⟩) := by
  unfold sbv
  pointwise

theorem dq_apply (Y : FVec Ideal S2x8192x3072 .f32) (b : Fin 2) (q : Fin 8192) (n : Fin 512) : dq Y (ix3 b q n) = Y (ix3 b q ⟨1536 + n.val, by omega⟩) := by
  unfold dq
  pointwise

theorem dk_apply (Y : FVec Ideal S2x8192x3072 .f32) (b : Fin 2) (q : Fin 8192) (n : Fin 512) : dk Y (ix3 b q n) = Y (ix3 b q ⟨2048 + n.val, by omega⟩) := by
  unfold dk
  pointwise

theorem dv_apply (Y : FVec Ideal S2x8192x3072 .f32) (b : Fin 2) (q : Fin 8192) (n : Fin 512) : dv Y (ix3 b q n) = Y (ix3 b q ⟨2560 + n.val, by omega⟩) := by
  unfold dv
  pointwise

theorem scaled_apply (Z : FVec Ideal S2x8192x512 .f32) (b : Fin 2) (q : Fin 8192) (n : Fin 512) : scaled Z (ix3 b q n) = (show EReal from Z (ix3 b q n)) * Ideal.ofBits .f32 1040187392#32 := by
  unfold scaled
  pointwise

theorem flipped_apply (Y : FVec Ideal S2x8192x3072 .f32) (b : Fin 2) (q : Fin 8192) (n : Fin 512) : flipped Y (ix3 b n q) = Y (ix3 b q ⟨2560 + n.val, by omega⟩) := by
  rw [← dv_apply Y b q n]
  unfold flipped
  pointwise

theorem wide_apply (T : FVec Ideal S8192x32 .f32) (b : Fin 2) (q : Fin 8192) (h : Fin 8) (k : Fin 32) : wide T (ix4 b q h k) = T (ix2 q k) := by
  unfold wide
  pointwise

theorem firsts_apply (Z : FVec Ideal S2x8192x512 .f32) (b : Fin 2) (q : Fin 8192) (h : Fin 8) (k : Fin 32) : firsts Z (ix4 b q h k) = Z (ix3 b q ⟨h.val * 64 + k.val, by omega⟩) := by
  unfold firsts
  pointwise

theorem seconds_apply (Z : FVec Ideal S2x8192x512 .f32) (b : Fin 2) (q : Fin 8192) (h : Fin 8) (k : Fin 32) : seconds Z (ix4 b q h k) = Z (ix3 b q ⟨h.val * 64 + (32 + k.val), by omega⟩) := by
  unfold seconds
  pointwise

theorem joined_apply (A B : FVec Ideal S2x8192x8x32 .f32) (b : Fin 2) (q : Fin 8192) (n : Fin 512) : joined A B (ix3 b q n) =
    if h : n.val % 64 < 32 then A (ix4 b q ⟨n.val / 64, by omega⟩ ⟨n.val % 64, h⟩) else B (ix4 b q ⟨n.val / 64, by omega⟩ ⟨n.val % 64 - 32, by omega⟩) := by
  unfold joined
  pointwise

theorem beside_apply (Z0 Z1 Z2 Z3 Z4 Z5 : FVec Ideal S2x8192x512 .f32) (b : Fin 2) (q : Fin 8192) (n : Fin 3072) : beside Z0 Z1 Z2 Z3 Z4 Z5 (ix3 b q n) =
    if h0 : n.val < 512 then Z0 (ix3 b q ⟨n.val, h0⟩) else if h1 : n.val < 1024 then Z1 (ix3 b q ⟨n.val - 512, by omega⟩) else if h2 : n.val < 1536 then Z2 (ix3 b q ⟨n.val - 1024, by omega⟩)
    else if h3 : n.val < 2048 then Z3 (ix3 b q ⟨n.val - 1536, by omega⟩) else if h4 : n.val < 2560 then Z4 (ix3 b q ⟨n.val - 2048, by omega⟩) else Z5 (ix3 b q ⟨n.val - 2560, by omega⟩) := by
  unfold beside
  pointwise
  simp only [Nat.sub_sub, Nat.reduceAdd]
  repeat' split
  all_goals first | omega | rfl | exact absurd rfl ‹_›

/-- The rotated heads at an index, of a part that starts at a whole head. -/
theorem rotated_apply (Y : FVec Ideal S2x8192x3072 .f32) (Z : FVec Ideal S2x8192x512 .f32) (C S : FVec Ideal S8192x32 .f32) (b : Fin 2) (q : Fin 8192) (o : Nat) (ho : o + 512 ≤ 3072) (hd : o % 64 = 0)
    (hZ : ∀ n : Fin 512, Z (ix3 b q n) = Y (ix3 b q ⟨o + n.val, by omega⟩)) (n : Fin 512) :
    rotated Z C S (ix3 b q n) = turn (wideRow Y b q) (tab C q) (tab S q) ⟨o + n.val, by omega⟩ := by
  have hm : (o + n.val) % 64 = n.val % 64 := by omega
  unfold rotated turn
  rw [joined_apply]
  by_cases h : n.val % 64 < 32
  · rw [dif_pos h, dif_pos (by simpa only [hm] using h)]
    show _ * _ - _ * _ = (_ : EReal)
    rw [firsts_apply, seconds_apply, wide_apply, wide_apply, hZ, hZ]
    congr 2 <;> first
      | exact congrArg Y (congrArg (ix3 b q) (Fin.ext (by dsimp only; omega)))
      | exact congrArg C (congrArg (ix2 q) (Fin.ext (by dsimp only; omega)))
      | exact congrArg S (congrArg (ix2 q) (Fin.ext (by dsimp only; omega)))
  · rw [dif_neg h, dif_neg (by simpa only [hm] using h)]
    show _ * _ + _ * _ = (_ : EReal)
    rw [firsts_apply, seconds_apply, wide_apply, wide_apply, hZ, hZ]
    congr 2 <;> first
      | exact congrArg Y (congrArg (ix3 b q) (Fin.ext (by dsimp only; omega)))
      | exact congrArg C (congrArg (ix2 q) (Fin.ext (by dsimp only; omega)))
      | exact congrArg S (congrArg (ix2 q) (Fin.ext (by dsimp only; omega)))

/-- The rotated second keys at an index. -/
theorem dk_rotated (Y : FVec Ideal S2x8192x3072 .f32) (b : Fin 2) (q : Fin 8192) (n : Fin 512) :
    rotated (dk Y) cosines sines (ix3 b q n) = turn (wideRow Y b q) (tab cosines q) (tab sines q) ⟨2048 + n.val, by omega⟩ :=
  rotated_apply Y (dk Y) cosines sines b q 2048 (by decide) (by decide) (dk_apply Y b q) n

/-- The rotated second queries at an index. -/
theorem dq_rotated (Y : FVec Ideal S2x8192x3072 .f32) (b : Fin 2) (q : Fin 8192) (n : Fin 512) :
    rotated (dq Y) cosines sines (ix3 b q n) = turn (wideRow Y b q) (tab cosines q) (tab sines q) ⟨1536 + n.val, by omega⟩ :=
  rotated_apply Y (dq Y) cosines sines b q 1536 (by decide) (by decide) (dq_apply Y b q) n

/-- The packed projections at an index. -/
theorem pack_apply (Y : FVec Ideal S2x8192x3072 .f32) (b : Fin 2) (q : Fin 8192) (n : Fin 3072) :
    pack Y (ix3 b q n) = packed (wideRow Y b q) (tab cosines q) (tab sines q) n := by
  have e : ∀ (k : Nat) (h : k < 3072), k = n.val → (⟨k, h⟩ : Fin 3072) = n := fun k h hk => Fin.ext hk
  unfold pack packed
  rw [beside_apply]
  simp only [scaled_apply, dq_rotated, dk_rotated, sbq_apply, sbk_apply, sbv_apply, dv_apply]
  split_ifs <;> first
    | omega
    | rfl
    | (rw [e _ _ (by omega)])

end Cert.InprojRefIdeal.Hand

end
-- ==== Proof.InprojIdeal.Tables.lean ====
/- The tables of the in-projection's rotation, as its host operations make them. -/
module

public import proofs.«01_k».proof.Proof.Gen.InprojIdeal.Value
public import proofs.«01_k».proof.Proof.InprojRefIdeal.Ref
public import Idealize.ShloMosaic.Lib.StableHlo.RunClose
public import Idealize.ShloMosaic.Lib.Pointwise

@[expose] public section

set_option maxRecDepth 16384

noncomputable section

namespace Cert.InprojIdeal.Hand

open Idealize.ShloMosaic Idealize.ShloMosaic.TcCoe Idealize.SL.Sem
open Cert.InprojIdeal Cert.InprojIdeal.Gen
open Cert.InprojRefIdeal.Hand (cosines sines angles)

variable (m : (ℓ : Loc nD τ sig) → Buf (Elt Ideal) ℓ)

/-- Four tables side by side. -/
def four (A B C D : FVec Ideal S8192x32 .f32) : FVec Ideal S8192x128 .f32 :=
  concatenate S8192x128 1 [⟨S8192x32, A⟩, ⟨S8192x32, B⟩, ⟨S8192x32, C⟩, ⟨S8192x32, D⟩] concatenates_S8192x32_S8192x32_S8192x32_S8192x32_S8192x128_d1

theorem four_apply (A B C D : FVec Ideal S8192x32 .f32) (q : Fin 8192) (l : Fin 128) : four A B C D (ix2 q l) =
    if h0 : l.val < 32 then A (ix2 q ⟨l.val, h0⟩) else if h1 : l.val - 32 < 32 then B (ix2 q ⟨l.val - 32, h1⟩) else if h2 : l.val - 64 < 32 then C (ix2 q ⟨l.val - 64, h2⟩) else D (ix2 q ⟨l.val - 96, by omega⟩) := by
  unfold four
  pointwise
  simp only [Nat.sub_sub, Nat.reduceAdd]
  repeat' split
  all_goals first | omega | rfl | exact absurd rfl ‹_›

/-- The table of cosines. -/
theorem cos_table (c : Dev nD) : V m c main_v15 = four cosines cosines cosines cosines := by
  unfold four cosines angles
  after_results_entrywise (rounds := 1) []

/-- The table of signed sines. -/
theorem sin_table (c : Dev nD) : V m c main_v18 = four (Host.negf sines) sines (Host.negf sines) sines := by
  unfold four sines angles
  after_results_entrywise (rounds := 1) []

end Cert.InprojIdeal.Hand

end
-- ==== Proof.InprojIdeal.Out.lean ====
/- What a point of the in-projection writes, from the reference's arguments. -/
module

public import proofs.«01_k».proof.Proof.InprojIdeal.Piece
public import proofs.«01_k».proof.Proof.InprojIdeal.Tables

@[expose] public section

set_option maxRecDepth 16384

noncomputable section

namespace Cert.InprojIdeal.Hand

open Idealize.ShloMosaic Idealize.ShloMosaic.TcCoe Idealize.SL.Sem
open Cert.InprojIdeal Cert.InprojIdeal.Gen
open Cert.FfnIdeal.Hand (modulated lin)
open Cert.FfnRefIdeal.Hand (rowOf modOf)
open Cert.InprojRefIdeal.Hand (turn packed projected projected_apply cosines sines tab wideRow pack pack_apply rotated dk dk_rotated sbk sbk_apply sbv sbv_apply dv dv_apply flipped flipped_apply)

variable (m : (ℓ : Loc nD τ sig) → Buf (Elt Ideal) ℓ)

/-- The arguments as launched. -/
def a0 (c : Dev nD) : Vec Ideal S2x8192x1024 .f32 := m ((c : Thread nD τ).loc main_arg0)
def a1 (c : Dev nD) : Vec Ideal S2x1x6144 .f32 := m ((c : Thread nD τ).loc main_arg1)
def a2 (c : Dev nD) : Vec Ideal S1024x3072 .bf16 := m ((c : Thread nD τ).loc main_arg2)

/-- A block's projections at an index. -/
theorem proj_apply (x : Vec Ideal S1x512x1024 .f32) (sc sh : Vec Ideal S1x1x1024 .f32) (w : Vec Ideal S1024x3072 .bf16) (r : Fin 512) (n : Fin 3072) :
    k0_pay8 x sc sh w (ix2 r n) = lin (modulated (fun j => x (ix3 0 r j)) (fun j => sh (ix3 0 0 j)) (fun j => sc (ix3 0 0 j))) (fun j => w (ix2 j n)) := by
  unfold k0_pay8 lin modulated
  pointwise

/-- A point's batch and row block. -/
theorem pt_bounds (t : Fin cfg0.N) : t.val / 16 < 2 ∧ t.val % 16 < 16 := by
  have hN : t.val < 32 := lt_of_lt_of_eq t.isLt N_0
  omega

theorem row_lt (t : Fin cfg0.N) (r : Fin 512) : 512 * (t.val % 16) + r.val < 8192 := by
  have := pt_bounds t
  omega

/-- The windows' blocks at a point. -/
theorem indices : ∀ t : Fin cfg0.N, win0_0.index t = ![t.val / 16, t.val % 16, 0] ∧ win0_1.index t = ![t.val / 16, 0, 0] ∧ win0_2.index t = ![t.val / 16, 0, 1]
    ∧ win0_3.index t = ![0, 0] ∧ win0_4.index t = ![t.val % 16, 0] ∧ win0_5.index t = ![t.val % 16, 0] ∧ win0_6.index t = ![t.val / 16, t.val % 16, 0] ∧ win0_7.index t = ![t.val / 16, t.val % 16, 0]
    ∧ win0_8.index t = ![t.val / 16, t.val % 16, 0] ∧ win0_9.index t = ![t.val / 16, t.val % 16, 0] ∧ win0_10.index t = ![t.val / 16, t.val % 16, 0] ∧ win0_11.index t = ![t.val / 16, 0, t.val % 16] :=
  (by decide +kernel : ∀ t : Fin grid0.N, _)

variable (c : Dev nD) (t : Fin cfg0.N)

/-- A point's batch and a block row's position. -/
abbrev bat : Fin 2 := ⟨t.val / 16, (pt_bounds t).1⟩
abbrev pos (r : Fin 512) : Fin 8192 := ⟨512 * (t.val % 16) + r.val, row_lt t r⟩

theorem x_block (r : Fin 512) (j : Fin 1024) : (show Vec Ideal S1x512x1024 .f32 from iblk m c 0 t) (ix3 0 r j) = a0 m c (ix3 (bat t) (pos t r) j) := by
  unfold a0
  rw [← V_main_arg0 m c]
  blk_ext [iblk, indices t]

theorem shift_block (j : Fin 1024) : (show Vec Ideal S1x1x1024 .f32 from iblk m c 1 t) (ix3 0 0 j) = a1 m c (ix3 (bat t) 0 ⟨0 + j.val, by omega⟩) := by
  unfold a1
  rw [← V_main_arg1 m c]
  blk_ext [iblk, indices t]

theorem scale_block (j : Fin 1024) : (show Vec Ideal S1x1x1024 .f32 from iblk m c 2 t) (ix3 0 0 j) = a1 m c (ix3 (bat t) 0 ⟨1024 + j.val, by omega⟩) := by
  unfold a1
  rw [← V_main_arg1 m c]
  blk_ext [iblk, indices t]

theorem w_block (j : Fin 1024) (n : Fin 3072) : (show Vec Ideal S1024x3072 .bf16 from iblk m c 3 t) (ix2 j n) = a2 m c (ix2 j n) := by
  unfold a2
  rw [← V_main_arg2 m c]
  blk_ext [iblk, indices t]

theorem cos_block (r : Fin 512) (l : Fin 128) : (show Vec Ideal S512x128 .f32 from iblk m c 4 t) (ix2 r l) = tab cosines (pos t r) ⟨l.val % 32, Nat.mod_lt _ (by decide)⟩ := by
  have h : (show Vec Ideal S512x128 .f32 from iblk m c 4 t) (ix2 r l) = (show FVec Ideal S8192x128 .f32 from V m c main_v15) (ix2 (pos t r) l) := by
    blk_ext [iblk, indices t]
  refine h.trans ?_
  rw [cos_table]
  refine (four_apply _ _ _ _ _ l).trans ?_
  repeat' split
  all_goals exact congrArg cosines (congrArg (ix2 _) (Fin.ext (by dsimp only; omega)))

theorem sin_block (r : Fin 512) (l : Fin 128) : (show Vec Ideal S512x128 .f32 from iblk m c 5 t) (ix2 r l)
    = if l.val % 64 < 32 then -tab sines (pos t r) ⟨l.val % 32, Nat.mod_lt _ (by decide)⟩ else tab sines (pos t r) ⟨l.val % 32, Nat.mod_lt _ (by decide)⟩ := by
  have h : (show Vec Ideal S512x128 .f32 from iblk m c 5 t) (ix2 r l) = (show FVec Ideal S8192x128 .f32 from V m c main_v18) (ix2 (pos t r) l) := by
    blk_ext [iblk, indices t]
  have hn : ∀ i, (Host.negf sines : FVec Ideal S8192x32 .f32) i = -(show EReal from sines i) := fun i => rfl
  refine h.trans ?_
  rw [sin_table]
  refine (four_apply _ _ _ _ _ l).trans ?_
  simp only [hn]
  repeat' split
  all_goals first
    | omega
    | exact congrArg sines (congrArg (ix2 _) (Fin.ext (by dsimp only; omega)))
    | exact congrArg (fun k => -(show EReal from sines k)) (congrArg (ix2 _) (Fin.ext (by dsimp only; omega)))

/-- The reference's projections of the kernel's arguments. -/
def wantY : FVec Ideal S2x8192x3072 .f32 := projected (a0 m c) (a1 m c) (a2 m c)

/-- A point's projections. -/
def blockY : FVec Ideal S512x3072 .f32 := k0_pay8 (iblk m c 0 t) (iblk m c 2 t) (iblk m c 1 t) (iblk m c 3 t)

theorem block_apply (r : Fin 512) (n : Fin 3072) : blockY m c t (ix2 r n) = wideRow (wantY m c) (bat t) (pos t r) n := by
  unfold blockY wantY wideRow
  rw [projected_apply]
  refine (proj_apply _ _ _ _ r n).trans ?_
  have h0 := funext (x_block m c t r)
  have h1 := funext (shift_block m c t)
  have h2 := funext (scale_block m c t)
  have h3 := funext fun j => w_block m c t j n
  exact congr (congrArg lin (congr (congr (congrArg modulated h0) h1) h2)) h3

/-- A point's tables. -/
def blockC : FVec Ideal S512x128 .f32 := k0_pay9 (iblk m c 4 t)
def blockS : FVec Ideal S512x128 .f32 := k0_pay10 (iblk m c 5 t)

theorem blockC_apply (r : Fin 512) (l : Fin 128) : blockC m c t (ix2 r l) = tab cosines (pos t r) ⟨l.val % 32, Nat.mod_lt _ (by decide)⟩ := by
  refine Eq.trans ?_ (cos_block m c t r l)
  unfold blockC k0_pay9
  pointwise

theorem blockS_apply (r : Fin 512) (l : Fin 128) : blockS m c t (ix2 r l)
    = if l.val % 64 < 32 then -tab sines (pos t r) ⟨l.val % 32, Nat.mod_lt _ (by decide)⟩ else tab sines (pos t r) ⟨l.val % 32, Nat.mod_lt _ (by decide)⟩ := by
  refine Eq.trans ?_ (sin_block m c t r l)
  unfold blockS k0_pay10
  pointwise

/-- A rotated column of the reference. -/
abbrev wantTurn (r : Fin 512) (n : Fin 3072) : EReal := turn (wideRow (wantY m c) (bat t) (pos t r)) (tab cosines (pos t r)) (tab sines (pos t r)) n

/-- A rotated piece of a point at an index. -/
theorem rot_piece (o : Nat) (ho : o + 128 ≤ 3072) (hd : o % 64 = 0) (hs : S512x3072.Slices ![0, o] S512x128) (r : Fin 512) (l : Fin 128) :
    piece (extractStridedSlice S512x128 ![0, o] (blockY m c t) hs) (blockC m c t) (blockS m c t) (ix2 r l) = wantTurn m c t r ⟨o + l.val, by omega⟩ := by
  refine piece_turn _ _ _ _ _ _ r o ho hd (fun l => ?_) (blockC_apply m c t r) (blockS_apply m c t r) l
  refine Eq.trans ?_ (block_apply m c t r _)
  pointwise

/-- An index of an array with a leading axis of one. -/
theorem cell {p q : Nat} (y : (⟨3, ![1, p, q]⟩ : Shape).Idx) : ∃ (r : Fin p) (n : Fin q), y = ix3 0 r n := by
  refine ⟨y 1, y 2, (eq_ix3 y).trans ?_⟩
  have h : ∀ a : Fin 1, (ix3 a (y 1) (y 2) : (⟨3, ![1, p, q]⟩ : Shape).Idx) = ix3 0 (y 1) (y 2) := fun a => by rw [Subsingleton.elim a 0]; rfl
  exact h (y 0)

/-- A stored piece at an index. -/
theorem up128 {e : FTy} (z : FVec Ideal S512x128 e) (r : Fin 512) (l : Fin 128) : shapeCast S1x512x128 z shapeCasts_S512x128_S1x512x128 (ix3 0 r l) = z (ix2 r l) := by
  pointwise

theorem up512 {e : FTy} (z : FVec Ideal S512x512 e) (r n : Fin 512) : shapeCast S1x512x512 z shapeCasts_S512x512_S1x512x512 (ix3 0 r n) = z (ix2 r n) := by
  pointwise

/-- A part of a point's projections. -/
def part (o : Nat) (hs : S512x3072.Slices ![0, o] S512x512) : FVec Ideal S512x512 .f32 :=
  extractStridedSlice S512x512 ![0, o] (blockY m c t) hs

/-- A part at an index. -/
theorem part_apply (o : Nat) (ho : o + 512 ≤ 3072) (hs : S512x3072.Slices ![0, o] S512x512) (r n : Fin 512) :
    part m c t o hs (ix2 r n) = wideRow (wantY m c) (bat t) (pos t r) ⟨o + n.val, by omega⟩ := by
  refine Eq.trans ?_ (block_apply m c t r _)
  unfold part
  pointwise

/-- The rotated piece of a point that starts at a column. -/
abbrev rot (o : Nat) (hs : S512x3072.Slices ![0, o] S512x128) : FVec Ideal S512x128 .f32 :=
  piece (extractStridedSlice S512x128 ![0, o] (blockY m c t) hs) (blockC m c t) (blockS m c t)

/-- The stored forms of a rotated piece: as it is, and scaled. -/
theorem rot_stored {e : FTy} (z : FVec Ideal S512x128 e) (o : Nat) (ho : o + 128 ≤ 3072) (hd : o % 64 = 0) (hs : S512x3072.Slices ![0, o] S512x128) (hz : ∀ i, z i = (show EReal from rot m c t o hs i))
    (x : S1x512x128.Idx) (r : Fin 512) (n : Fin 3072) (h1 : r.val = (x 1).val) (h2 : n.val = o + (x 2).val) :
    shapeCast S1x512x128 z shapeCasts_S512x128_S1x512x128 x = wantTurn m c t r n := by
  obtain ⟨r', l, rfl⟩ := cell x
  obtain rfl : r = r' := Fin.ext h1
  obtain rfl : n = ⟨o + l.val, by clear h2; omega⟩ := Fin.ext h2
  exact (up128 z r l).trans ((hz _).trans (rot_piece m c t o ho hd hs r l))

theorem rot_scaled (z : FVec Ideal S512x128 .bf16) (o : Nat) (ho : o + 128 ≤ 3072) (hd : o % 64 = 0) (hs : S512x3072.Slices ![0, o] S512x128)
    (hz : ∀ i, z i = (show EReal from rot m c t o hs i) * Ideal.ofBits .f32 1040187392#32)
    (x : S1x512x128.Idx) (r : Fin 512) (n : Fin 3072) (h1 : r.val = (x 1).val) (h2 : n.val = o + (x 2).val) :
    shapeCast S1x512x128 z shapeCasts_S512x128_S1x512x128 x = wantTurn m c t r n * Ideal.ofBits .f32 1040187392#32 := by
  obtain ⟨r', l, rfl⟩ := cell x
  obtain rfl : r = r' := Fin.ext h1
  obtain rfl : n = ⟨o + l.val, by clear h2; omega⟩ := Fin.ext h2
  exact (up128 z r l).trans ((hz _).trans (congrArg (fun v : EReal => v * Ideal.ofBits .f32 1040187392#32) (rot_piece m c t o ho hd hs r l)))

/-- The stored forms of a part. -/
theorem part_stored {e : FTy} (z : FVec Ideal S512x512 e) (o : Nat) (ho : o + 512 ≤ 3072) (hs : S512x3072.Slices ![0, o] S512x512) (hz : ∀ i, z i = (show EReal from part m c t o hs i))
    (x : S1x512x512.Idx) (r : Fin 512) (n : Fin 3072) (h1 : r.val = (x 1).val) (h2 : n.val = o + (x 2).val) :
    shapeCast S1x512x512 z shapeCasts_S512x512_S1x512x512 x = wideRow (wantY m c) (bat t) (pos t r) n := by
  obtain ⟨r', l, rfl⟩ := cell x
  obtain rfl : r = r' := Fin.ext h1
  obtain rfl : n = ⟨o + l.val, by clear h2; omega⟩ := Fin.ext h2
  exact (up512 z r l).trans ((hz _).trans (part_apply m c t o ho hs r l))

theorem part_scaled (z : FVec Ideal S512x512 .bf16) (o : Nat) (ho : o + 512 ≤ 3072) (hs : S512x3072.Slices ![0, o] S512x512)
    (hz : ∀ i, z i = (show EReal from part m c t o hs i) * Ideal.ofBits .f32 1040187392#32)
    (x : S1x512x512.Idx) (r : Fin 512) (n : Fin 3072) (h1 : r.val = (x 1).val) (h2 : n.val = o + (x 2).val) :
    shapeCast S1x512x512 z shapeCasts_S512x512_S1x512x512 x = wideRow (wantY m c) (bat t) (pos t r) n * Ideal.ofBits .f32 1040187392#32 := by
  obtain ⟨r', l, rfl⟩ := cell x
  obtain rfl : r = r' := Fin.ext h1
  obtain rfl : n = ⟨o + l.val, by clear h2; omega⟩ := Fin.ext h2
  exact (up512 z r l).trans ((hz _).trans (congrArg (fun v : EReal => v * Ideal.ofBits .f32 1040187392#32) (part_apply m c t o ho hs r l)))

/-- The scale of the scores, along a piece and along a part. -/
abbrev eighth128 : FVec Ideal S512x128 .f32 := broadcast S512x128 (Scalar.ofBits (F := Ideal) .f32 0x3E000000#32)
abbrev eighth512 : FVec Ideal S512x512 .f32 := broadcast S512x512 (Scalar.ofBits (F := Ideal) .f32 0x3E000000#32)

/-- A packed row by its parts. -/
theorem packed_q (y : Fin 3072 → EReal) (cs sn : Fin 32 → EReal) (n : Fin 3072) (h : n.val < 512) : packed y cs sn n = y n * Ideal.ofBits .f32 1040187392#32 := by
  unfold packed
  rw [if_pos h]

theorem packed_kv (y : Fin 3072 → EReal) (cs sn : Fin 32 → EReal) (n : Fin 3072) (h : 512 ≤ n.val ∧ n.val < 1536) : packed y cs sn n = y n := by
  unfold packed
  rw [if_neg (by omega), if_pos (by omega)]

theorem packed_rq (y : Fin 3072 → EReal) (cs sn : Fin 32 → EReal) (n : Fin 3072) (h : 1536 ≤ n.val ∧ n.val < 2048) : packed y cs sn n = turn y cs sn n * Ideal.ofBits .f32 1040187392#32 := by
  unfold packed
  rw [if_neg (by omega), if_neg (by omega), if_pos (by omega)]

theorem packed_rk (y : Fin 3072 → EReal) (cs sn : Fin 32 → EReal) (n : Fin 3072) (h : 2048 ≤ n.val ∧ n.val < 2560) : packed y cs sn n = turn y cs sn n := by
  unfold packed
  rw [if_neg (by omega), if_neg (by omega), if_neg (by omega), if_pos (by omega)]

theorem packed_v (y : Fin 3072 → EReal) (cs sn : Fin 32 → EReal) (n : Fin 3072) (h : 2560 ≤ n.val) : packed y cs sn n = y n := by
  unfold packed
  rw [if_neg (by omega), if_neg (by omega), if_neg (by omega), if_neg (by omega)]

/-- The written rotated keys. -/
theorem kd_written (r n : Fin 512) : (outsAt0 m c t).2.2.2.1 (ix3 0 r n) = wantTurn m c t r ⟨2048 + n.val, by omega⟩ := by
  unfold outsAt0
  dsimp only
  frame_out
  canon_tiles x h
  all_goals replace h1 : r.val = (x 1).val := h1
  · replace h2 : n.val = 384 + (x 2).val := h2
    exact rot_stored m c t (rot m c t 2432 slices_S512x3072_o0_2432_S512x128) 2432 (by decide) (by decide) _ (fun i => rfl) x r _ h1 (by dsimp only; omega)
  · replace h2 : n.val = 256 + (x 2).val := h2
    exact rot_stored m c t (rot m c t 2304 slices_S512x3072_o0_2304_S512x128) 2304 (by decide) (by decide) _ (fun i => rfl) x r _ h1 (by dsimp only; omega)
  · replace h2 : n.val = 128 + (x 2).val := h2
    exact rot_stored m c t (rot m c t 2176 slices_S512x3072_o0_2176_S512x128) 2176 (by decide) (by decide) _ (fun i => rfl) x r _ h1 (by dsimp only; omega)
  · replace h2 : n.val = (x 2).val := h2
    exact rot_stored m c t (rot m c t 2048 slices_S512x3072_o0_2048_S512x128) 2048 (by decide) (by decide) _ (fun i => rfl) x r _ h1 (by dsimp only; omega)

/-- The other written parts. -/
theorem ksb_written (r n : Fin 512) : (outsAt0 m c t).2.1 (ix3 0 r n) = wideRow (wantY m c) (bat t) (pos t r) ⟨512 + n.val, by omega⟩ := by
  unfold outsAt0
  dsimp only
  frame_out
  exact part_stored m c t (part m c t 512 slices_S512x3072_o0_512_S512x512) 512 (by decide) _ (fun i => rfl) (ix3 0 r n) r ⟨512 + n.val, by omega⟩ rfl rfl

theorem vsb_written (r n : Fin 512) : (outsAt0 m c t).2.2.1 (ix3 0 r n) = wideRow (wantY m c) (bat t) (pos t r) ⟨1024 + n.val, by omega⟩ := by
  unfold outsAt0
  dsimp only
  frame_out
  exact part_stored m c t (part m c t 1024 slices_S512x3072_o0_1024_S512x512) 1024 (by decide) _ (fun i => rfl) (ix3 0 r n) r ⟨1024 + n.val, by omega⟩ rfl rfl

theorem vd_written (r n : Fin 512) : (outsAt0 m c t).2.2.2.2.1 (ix3 0 r n) = wideRow (wantY m c) (bat t) (pos t r) ⟨2560 + n.val, by omega⟩ := by
  unfold outsAt0
  dsimp only
  frame_out
  exact part_stored m c t (part m c t 2560 slices_S512x3072_o0_2560_S512x512) 2560 (by decide) _ (fun i => rfl) (ix3 0 r n) r ⟨2560 + n.val, by omega⟩ rfl rfl

theorem vdt_written (r n : Fin 512) : (outsAt0 m c t).2.2.2.2.2 (ix3 0 n r) = wideRow (wantY m c) (bat t) (pos t r) ⟨2560 + n.val, by omega⟩ := by
  unfold outsAt0
  dsimp only
  frame_out
  refine (up512 (truncf .bf16 (transpose S512x512 [1, 0] (part m c t 2560 slices_S512x3072_o0_2560_S512x512) transposes_S512x512_p1_0_S512x512) bitsLt_bf16_f32) n r).trans ?_
  refine Eq.trans ?_ (part_apply m c t 2560 (by decide) slices_S512x3072_o0_2560_S512x512 r n)
  pointwise

end Cert.InprojIdeal.Hand

end
-- ==== Proof.InprojIdeal.Packed.lean ====
/- The packed row a point of the in-projection writes. -/
module

public import proofs.«01_k».proof.Proof.InprojIdeal.Out

@[expose] public section

set_option maxRecDepth 16384

noncomputable section

namespace Cert.InprojIdeal.Hand

open Idealize.ShloMosaic Idealize.ShloMosaic.TcCoe Idealize.SL.Sem
open Cert.InprojIdeal Cert.InprojIdeal.Gen
open Cert.FfnIdeal.Hand (modulated lin)
open Cert.FfnRefIdeal.Hand (rowOf modOf)
open Cert.InprojRefIdeal.Hand (turn packed projected projected_apply cosines sines tab wideRow pack pack_apply rotated dk dk_rotated sbk sbk_apply sbv sbv_apply dv dv_apply flipped flipped_apply)

variable (m : (ℓ : Loc nD τ sig) → Buf (Elt Ideal) ℓ) (c : Dev nD) (t : Fin cfg0.N)

set_option maxHeartbeats 2000000 in
/-- The written packed row. -/
theorem qkv_written (r : Fin 512) (n : Fin 3072) : (outsAt0 m c t).1 (ix3 0 r n) = packed (wideRow (wantY m c) (bat t) (pos t r)) (tab cosines (pos t r)) (tab sines (pos t r)) n := by
  unfold outsAt0
  dsimp only
  frame_out
  canon_tiles x h using View.cover_of_tiledBy _ ![1, 512, 128] (by sl_kernel_rfl) _
  all_goals replace h1 : r.val = (x 1).val := h1
  · replace h2 : n.val = 2560 + (x 2).val := h2
    rw [packed_v _ _ _ _ (by omega)]
    exact part_stored m c t (truncf .bf16 (part m c t 2560 slices_S512x3072_o0_2560_S512x512) bitsLt_bf16_f32) 2560 (by decide) slices_S512x3072_o0_2560_S512x512 (fun i => rfl) x r _ h1 h2
  · replace h2 : n.val = 2432 + (x 2).val := h2
    rw [packed_rk _ _ _ _ (by omega)]
    exact rot_stored m c t (truncf .bf16 (rot m c t 2432 slices_S512x3072_o0_2432_S512x128) bitsLt_bf16_f32) 2432 (by decide) (by decide) slices_S512x3072_o0_2432_S512x128 (fun i => rfl) x r _ h1 h2
  · replace h2 : n.val = 1920 + (x 2).val := h2
    rw [packed_rq _ _ _ _ (by omega)]
    exact rot_scaled m c t (truncf .bf16 (mulf (rot m c t 1920 slices_S512x3072_o0_1920_S512x128) eighth128) bitsLt_bf16_f32) 1920 (by decide) (by decide) slices_S512x3072_o0_1920_S512x128 (fun i => rfl) x r _ h1 h2
  · replace h2 : n.val = 2304 + (x 2).val := h2
    rw [packed_rk _ _ _ _ (by omega)]
    exact rot_stored m c t (truncf .bf16 (rot m c t 2304 slices_S512x3072_o0_2304_S512x128) bitsLt_bf16_f32) 2304 (by decide) (by decide) slices_S512x3072_o0_2304_S512x128 (fun i => rfl) x r _ h1 h2
  · replace h2 : n.val = 1792 + (x 2).val := h2
    rw [packed_rq _ _ _ _ (by omega)]
    exact rot_scaled m c t (truncf .bf16 (mulf (rot m c t 1792 slices_S512x3072_o0_1792_S512x128) eighth128) bitsLt_bf16_f32) 1792 (by decide) (by decide) slices_S512x3072_o0_1792_S512x128 (fun i => rfl) x r _ h1 h2
  · replace h2 : n.val = 2176 + (x 2).val := h2
    rw [packed_rk _ _ _ _ (by omega)]
    exact rot_stored m c t (truncf .bf16 (rot m c t 2176 slices_S512x3072_o0_2176_S512x128) bitsLt_bf16_f32) 2176 (by decide) (by decide) slices_S512x3072_o0_2176_S512x128 (fun i => rfl) x r _ h1 h2
  · replace h2 : n.val = 1664 + (x 2).val := h2
    rw [packed_rq _ _ _ _ (by omega)]
    exact rot_scaled m c t (truncf .bf16 (mulf (rot m c t 1664 slices_S512x3072_o0_1664_S512x128) eighth128) bitsLt_bf16_f32) 1664 (by decide) (by decide) slices_S512x3072_o0_1664_S512x128 (fun i => rfl) x r _ h1 h2
  · replace h2 : n.val = 2048 + (x 2).val := h2
    rw [packed_rk _ _ _ _ (by omega)]
    exact rot_stored m c t (truncf .bf16 (rot m c t 2048 slices_S512x3072_o0_2048_S512x128) bitsLt_bf16_f32) 2048 (by decide) (by decide) slices_S512x3072_o0_2048_S512x128 (fun i => rfl) x r _ h1 h2
  · replace h2 : n.val = 1536 + (x 2).val := h2
    rw [packed_rq _ _ _ _ (by omega)]
    exact rot_scaled m c t (truncf .bf16 (mulf (rot m c t 1536 slices_S512x3072_o0_1536_S512x128) eighth128) bitsLt_bf16_f32) 1536 (by decide) (by decide) slices_S512x3072_o0_1536_S512x128 (fun i => rfl) x r _ h1 h2
  · replace h2 : n.val = 1024 + (x 2).val := h2
    rw [packed_kv _ _ _ _ (by omega)]
    exact part_stored m c t (truncf .bf16 (part m c t 1024 slices_S512x3072_o0_1024_S512x512) bitsLt_bf16_f32) 1024 (by decide) slices_S512x3072_o0_1024_S512x512 (fun i => rfl) x r _ h1 h2
  · replace h2 : n.val = 512 + (x 2).val := h2
    rw [packed_kv _ _ _ _ (by omega)]
    exact part_stored m c t (truncf .bf16 (part m c t 512 slices_S512x3072_o0_512_S512x512) bitsLt_bf16_f32) 512 (by decide) slices_S512x3072_o0_512_S512x512 (fun i => rfl) x r _ h1 h2
  · replace h2 : n.val = (x 2).val := h2
    rw [packed_q _ _ _ _ (by omega)]
    exact part_scaled m c t (truncf .bf16 (mulf (part m c t 0 slices_S512x3072_o0_0_S512x512) eighth512) bitsLt_bf16_f32) 0 (by decide) slices_S512x3072_o0_0_S512x512 (fun i => rfl) x r _ h1 (by omega)

end Cert.InprojIdeal.Hand

end
-- ==== Proof.InprojIdeal.Arrays.lean ====
/- The in-projection's output arrays are the reference's results. -/
module

public import proofs.«01_k».proof.Proof.InprojIdeal.Packed

@[expose] public section

set_option maxRecDepth 16384

noncomputable section

namespace Cert.InprojIdeal.Hand

open Idealize.ShloMosaic Idealize.ShloMosaic.TcCoe Idealize.SL.Sem
open Cert.InprojIdeal Cert.InprojIdeal.Gen
open Cert.FfnIdeal.Hand (modulated lin)
open Cert.FfnRefIdeal.Hand (rowOf modOf)
open Cert.InprojRefIdeal.Hand (turn packed projected projected_apply cosines sines tab wideRow pack pack_apply rotated dk dk_rotated sbk sbk_apply sbv sbv_apply dv dv_apply flipped flipped_apply)

variable (m : (ℓ : Loc nD τ sig) → Buf (Elt Ideal) ℓ) (c : Dev nD) (t : Fin cfg0.N)

/-- The reference's results of the kernel's arguments. -/
def want6 : Vec Ideal S2x8192x3072 .bf16 := pack (wantY m c)
def want7 : Vec Ideal S2x8192x512 .f32 := sbk (wantY m c)
def want8 : Vec Ideal S2x8192x512 .f32 := sbv (wantY m c)
def want9 : Vec Ideal S2x8192x512 .f32 := rotated (dk (wantY m c)) cosines sines
def want10 : Vec Ideal S2x8192x512 .f32 := dv (wantY m c)
def want11 : Vec Ideal S2x512x8192 .bf16 := flipped (wantY m c)

/-- The arrays after the run. -/
theorem array6 : (dats m 0 c).arrAt 6 cfg0.N = want6 m c := by
  refine (dats m 0 c).arrAt_eq_of_covers 6 _ (by decide +kernel) fun t hf y => ?_
  blk_simp
  rw [after0_6]
  obtain ⟨r, n, rfl⟩ : ∃ (r : Fin 512) (n : Fin 3072), y = ix3 0 r n := cell y
  have he : want6 m c (((cfg0.win 6).blk t).view.emb (ix3 0 r n)) = want6 m c (ix3 (bat t) (pos t r) n) := by
    blk_ext [indices t]
  rw [he]
  exact (qkv_written m c t r n).trans (pack_apply _ _ _ _).symm

theorem array7 : (dats m 0 c).arrAt 7 cfg0.N = want7 m c := by
  refine (dats m 0 c).arrAt_eq_of_covers 7 _ (by decide +kernel) fun t hf y => ?_
  blk_simp
  rw [after0_7]
  obtain ⟨r, n, rfl⟩ : ∃ (r : Fin 512) (n : Fin 512), y = ix3 0 r n := cell y
  have he : want7 m c (((cfg0.win 7).blk t).view.emb (ix3 0 r n)) = want7 m c (ix3 (bat t) (pos t r) n) := by
    blk_ext [indices t]
  rw [he]
  exact (ksb_written m c t r n).trans (sbk_apply _ _ _ _).symm

theorem array8 : (dats m 0 c).arrAt 8 cfg0.N = want8 m c := by
  refine (dats m 0 c).arrAt_eq_of_covers 8 _ (by decide +kernel) fun t hf y => ?_
  blk_simp
  rw [after0_8]
  obtain ⟨r, n, rfl⟩ : ∃ (r : Fin 512) (n : Fin 512), y = ix3 0 r n := cell y
  have he : want8 m c (((cfg0.win 8).blk t).view.emb (ix3 0 r n)) = want8 m c (ix3 (bat t) (pos t r) n) := by
    blk_ext [indices t]
  rw [he]
  exact (vsb_written m c t r n).trans (sbv_apply _ _ _ _).symm

theorem array9 : (dats m 0 c).arrAt 9 cfg0.N = want9 m c := by
  refine (dats m 0 c).arrAt_eq_of_covers 9 _ (by decide +kernel) fun t hf y => ?_
  blk_simp
  rw [after0_9]
  obtain ⟨r, n, rfl⟩ : ∃ (r : Fin 512) (n : Fin 512), y = ix3 0 r n := cell y
  have he : want9 m c (((cfg0.win 9).blk t).view.emb (ix3 0 r n)) = want9 m c (ix3 (bat t) (pos t r) n) := by
    blk_ext [indices t]
  rw [he]
  exact (kd_written m c t r n).trans (dk_rotated _ _ _ _).symm

theorem array10 : (dats m 0 c).arrAt 10 cfg0.N = want10 m c := by
  refine (dats m 0 c).arrAt_eq_of_covers 10 _ (by decide +kernel) fun t hf y => ?_
  blk_simp
  rw [after0_10]
  obtain ⟨r, n, rfl⟩ : ∃ (r : Fin 512) (n : Fin 512), y = ix3 0 r n := cell y
  have he : want10 m c (((cfg0.win 10).blk t).view.emb (ix3 0 r n)) = want10 m c (ix3 (bat t) (pos t r) n) := by
    blk_ext [indices t]
  rw [he]
  exact (vd_written m c t r n).trans (dv_apply _ _ _ _).symm

theorem array11 : (dats m 0 c).arrAt 11 cfg0.N = want11 m c := by
  refine (dats m 0 c).arrAt_eq_of_covers 11 _ (by decide +kernel) fun t hf y => ?_
  blk_simp
  rw [after0_11]
  obtain ⟨n, r, rfl⟩ : ∃ (n : Fin 512) (r : Fin 512), y = ix3 0 n r := cell y
  have he : want11 m c (((cfg0.win 11).blk t).view.emb (ix3 0 n r)) = want11 m c (ix3 (bat t) n (pos t r)) := by
    blk_ext [indices t]
  rw [he]
  exact (vdt_written m c t r n).trans (flipped_apply _ _ _ _).symm

end Cert.InprojIdeal.Hand

end
-- ==== Proof.Pre.lean ====
/- The condition on the arguments, read back: every element of the projections and of the four vectors is a real. -/
module

public import proofs.«01_k».proof.Pre_finite
public import Idealize.ShloMosaic.PureOps.Ideal
public import Idealize.ShloMosaic.Lib.ReduceAll
public import Idealize.ShloMosaic.Lib.Pointwise.Select
public import Idealize.ShloMosaic.Lib.ValueIdx

@[expose] public section

noncomputable section

namespace Cert.Pre_finite.Hand

open Idealize.ShloMosaic

/-- The condition's side conditions. -/
theorem facts : Cert.Pre_finite.Facts where
  bcast_S_S2x8192x3072 := by decide
  reducesTo_S2x8192x3072_S_d0_1_2 := by decide
  h_S_ := by decide
  bcast_S_S2x512x8192 := by decide
  reducesTo_S2x512x8192_S_d0_1_2 := by decide
  bcast_S_S1x64 := by decide
  reducesTo_S1x64_S_d0_1 := by decide

/-- Of magnitude less than infinity: a real. -/
theorem real_of_abs (x : EReal) (h : Ideal.cmp .olt (max x (-x)) ⊤ = 1#1) : x ≠ ⊤ ∧ x ≠ ⊥ := by
  unfold Ideal.cmp at h
  constructor
  · rintro rfl; simp at h
  · rintro rfl; simp at h

/-- An array whose elements all pass the test. -/
theorem elems {s : Shape} {φ : FTy} {axes : List (Fin s.rank)} {d : Fin S_.rank → Fin s.rank} (a : FVec Ideal s φ) (w : BitVec φ.bits) (hw : Ideal.ofBits φ w = ⊤)
    (hb : S_.BroadcastsInDim s d) (hr : s.ReducesTo axes S_) (hu : 0 < S_.numel) (j : S_.Idx)
    (h : Host.reduce IntOp.andi (cmpf .olt (Host.absf a) (broadcastInDim s d hb (constant (F := Ideal) S_ φ w))) (constantI S_ 1 1#1) hr hu j = 1#1) (y : s.Idx) :
    (show EReal from a y) ≠ ⊤ ∧ (show EReal from a y) ≠ ⊥ := by
  have hs : Subsingleton S_.Idx := ⟨fun p q => funext fun k => k.elim0⟩
  have e := Host.reduce_andi_all _ _ hr hu j h y
  have e' : Ideal.cmp .olt (max (show EReal from a y) (-(show EReal from a y))) (Ideal.ofBits φ w) = 1#1 := e
  rw [hw] at e'
  exact real_of_abs _ e'

theorem inf32 : Ideal.ofBits .f32 0x7F800000#32 = ⊤ := by simp [Ideal.ofBits, Ideal.ieee]
theorem inf16 : Ideal.ofBits .bf16 0x7F80#16 = ⊤ := by simp [Ideal.ofBits, Ideal.ieee]

/-- What the condition says. -/
theorem read [hF : Cert.Pre_finite.Facts] (A0 : FVec Ideal S2x8192x3072 .bf16) (A1 : FVec Ideal S2x512x8192 .bf16) (A2 A3 A4 A5 : FVec Ideal S1x64 .f32) (A6 : FVec Ideal S1x128 .f32)
    (h : Cert.Pre_finite.fn (F := Ideal) A0 A1 A2 A3 A4 A5 A6 = fun _ => 1#1) :
    (∀ y, (show EReal from A0 y) ≠ ⊤ ∧ (show EReal from A0 y) ≠ ⊥) ∧ (∀ y, (show EReal from A1 y) ≠ ⊤ ∧ (show EReal from A1 y) ≠ ⊥)
      ∧ (∀ y, (show EReal from A2 y) ≠ ⊤ ∧ (show EReal from A2 y) ≠ ⊥) ∧ (∀ y, (show EReal from A3 y) ≠ ⊤ ∧ (show EReal from A3 y) ≠ ⊥)
      ∧ (∀ y, (show EReal from A4 y) ≠ ⊤ ∧ (show EReal from A4 y) ≠ ⊥) ∧ (∀ y, (show EReal from A5 y) ≠ ⊤ ∧ (show EReal from A5 y) ≠ ⊥) := by
  have e := congrFun h ix0
  unfold Cert.Pre_finite.fn Cert.Pre_finite.fn_part1 at e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨elems A0 _ inf16 _ _ _ _ h0, elems A1 _ inf16 _ _ _ _ h1, elems A2 _ inf32 _ _ _ _ h2, elems A3 _ inf32 _ _ _ _ h3, elems A4 _ inf32 _ _ _ _ h4, elems A5 _ inf32 _ _ _ _ h5⟩

end Cert.Pre_finite.Hand

end
-- ==== Proof.lean ====
/- The claims about the attention, the feed-forward layer, the merge and the input projection: their frames, the reference's frame, the idealization's statement, and the ideal kernel's value. -/
module

public import proofs.«01_k».proof.Defs
public import proofs.«01_k».proof.Proof.Gen.DiffAttn
public import proofs.«01_k».proof.Proof.Gen.DiffAttnIdeal
public import proofs.«01_k».proof.Proof.Gen.DiffRefIdeal
public import proofs.«01_k».proof.Proof.Gen.DiffRefIdeal.Run
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.Inproj
public import proofs.«01_k».proof.Proof.Gen.Inproj.Frame
public import proofs.«01_k».proof.Proof.Gen.InprojIdeal
public import proofs.«01_k».proof.Proof.Gen.InprojIdeal.Frame
public import proofs.«01_k».proof.Proof.Gen.InprojIdeal.Value
public import proofs.«01_k».proof.Proof.Gen.InprojRefIdeal
public import proofs.«01_k».proof.Proof.Gen.InprojRefIdeal.Run
public import proofs.«01_k».proof.Proof.DiffAttn.Frame
public import proofs.«01_k».proof.Proof.DiffAttnIdeal.Frame
public import proofs.«01_k».proof.Proof.Bridge
public import proofs.«01_k».proof.Proof.FfnIdeal.Out
public import proofs.«01_k».proof.Proof.MergeIdeal.Out
public import proofs.«01_k».proof.Proof.InprojIdeal.Arrays
public import proofs.«01_k».proof.Proof.Pre
public import Idealize.ShloMosaic.Lib.Claim
public import Idealize.ShloMosaic.Adequacy
public import Idealize.ShloMosaic.Init

@[expose] public section

noncomputable section

namespace Cert.Proof

open Idealize.ShloMosaic Idealize.SL.Sem

theorem frame_kernel : Cert.quiescent_DiffAttn (hDiffAttn := Cert.DiffAttn.Gen.facts) := fun m g _ => Cert.DiffAttn.Hand.frame m g

theorem frame_ideal : Cert.quiescent_DiffAttnIdeal (hDiffAttnIdeal := Cert.DiffAttnIdeal.Gen.facts) := fun m g _ => Cert.DiffAttnIdeal.Hand.frame m g

theorem frame_ref : Cert.quiescent_DiffRefIdeal (hDiffRefIdeal := Cert.DiffRefIdeal.Gen.facts) := by
  intro m g _
  exact (θ_run Cert.DiffRefIdeal.defs _ _).mono (fun r h => ⟨fun c => (h c).2, sem_eq_zero_of_no_sems (by decide) r.2⟩)
    (Cert.DiffRefIdeal.Value.run (F := Ideal) m g)

theorem preserved : Cert.preserves_DiffAttn_DiffAttnIdeal := by
  unfold Cert.preserves_DiffAttn_DiffAttnIdeal
  first | trivial | exact IdealRules.named_const.statement _ _ _ _ _ rfl

/-- The reference's result is the kernel's output array, on arguments of reals. -/
theorem value (m : (ℓ : Loc Cert.DiffAttnIdeal.nD Cert.DiffAttnIdeal.τ Cert.DiffAttnIdeal.sig) → Buf (Elt Ideal) ℓ)
    (hpre : Cert.Pre_DiffAttnIdeal_finite (hPre_finite := Cert.Pre_finite.Hand.facts) m) (c : Dev Cert.DiffAttnIdeal.nD) :
    (Cert.DiffAttnIdeal.Hand.dats m 0 c).arrAt 8 (Cert.DiffAttnIdeal.Hand.cfgA (F := Ideal)).N = Cert.DiffAttnIdeal.Hand.want m c := by
  obtain ⟨h0, h1, h2, h3, h4, h5⟩ := Cert.Pre_finite.Hand.read (hF := Cert.Pre_finite.Hand.facts) _ _ _ _ _ _ _ (hpre c)
  obtain ⟨lam, hlam⟩ := Cert.DiffRefIdeal.Hand.weight_real (Cert.DiffAttnIdeal.Hand.a2 m c) (Cert.DiffAttnIdeal.Hand.a3 m c) (Cert.DiffAttnIdeal.Hand.a4 m c) (Cert.DiffAttnIdeal.Hand.a5 m c)
    (fun y => ⟨_, (EReal.coe_toReal (h2 y).1 (h2 y).2).symm⟩) (fun y => ⟨_, (EReal.coe_toReal (h3 y).1 (h3 y).2).symm⟩)
    (fun y => ⟨_, (EReal.coe_toReal (h4 y).1 (h4 y).2).symm⟩) (fun y => ⟨_, (EReal.coe_toReal (h5 y).1 (h5 y).2).symm⟩)
  exact Cert.DiffAttnIdeal.Hand.out_array m c h0 h1 lam hlam

theorem same : Cert.algebraic_DiffAttnIdeal_DiffRefIdeal_pre_finite (hDiffAttnIdeal := Cert.DiffAttnIdeal.Gen.facts) (hDiffRefIdeal := Cert.DiffRefIdeal.Gen.facts)
    (hPre_finite := Cert.Pre_finite.Hand.facts) := by
  intro m g m' g' hpre hagree
  refine ⟨Cert.DiffAttnIdeal.Hand.want m, ?_, ?_⟩
  · exact (θ_run Cert.DiffAttnIdeal.defs _ _).mono (fun r h c => ⟨((h.2.1 c).1 8).trans (value m hpre c), h.1.1 c⟩)
      (θ_run_and (Cert.DiffAttnIdeal.Hand.frame m g) (Cert.DiffAttnIdeal.Hand.run_main m g))
  · refine (θ_run Cert.DiffRefIdeal.defs _ _).mono (fun r h c => ⟨(h c).1.trans ?_, (h c).2⟩) (Cert.DiffRefIdeal.Value.run (F := Ideal) m' g')
    obtain ⟨e0, e1, e2, e3, e4, e5, e6⟩ := hagree c
    rw [Cert.DiffRefIdeal.Hand.res_eq, e0, e1, e2, e3, e4, e5, e6]
    rfl

theorem ffn_frame_kernel : Cert.quiescent_Ffn (hFfn := Cert.Ffn.Gen.facts) := fun m g _ => Cert.Ffn.Gen.frame m g

theorem ffn_frame_ideal : Cert.quiescent_FfnIdeal (hFfnIdeal := Cert.FfnIdeal.Gen.facts) := fun m g _ => Cert.FfnIdeal.Gen.frame m g

theorem ffn_frame_ref : Cert.quiescent_FfnRefIdeal (hFfnRefIdeal := Cert.FfnRefIdeal.Gen.facts) := by
  intro m g _
  exact (θ_run Cert.FfnRefIdeal.defs _ _).mono (fun r h => ⟨fun c => (h c).2, sem_eq_zero_of_no_sems (by decide) r.2⟩)
    (Cert.FfnRefIdeal.Value.run (F := Ideal) m g)

theorem ffn_same : Cert.algebraic_FfnIdeal_FfnRefIdeal (hFfnIdeal := Cert.FfnIdeal.Gen.facts) (hFfnRefIdeal := Cert.FfnRefIdeal.Gen.facts) := by
  intro m g m' g' _ hagree
  refine ⟨Cert.FfnIdeal.Hand.want m, ?_, ?_⟩
  · exact (θ_run Cert.FfnIdeal.defs _ _).mono (fun r h c => ⟨(h c).1.trans (Cert.FfnIdeal.Hand.out_array m c), (h c).2⟩)
      (Cert.FfnIdeal.Value.run_blocks (F := Ideal) m g)
  · refine (θ_run Cert.FfnRefIdeal.defs _ _).mono (fun r h c => ⟨(h c).1.trans ?_, (h c).2⟩) (Cert.FfnRefIdeal.Value.run (F := Ideal) m' g')
    obtain ⟨e0, e1, e2, e3, e4, e5⟩ := hagree c
    rw [Cert.FfnRefIdeal.Hand.res_eq, e0, e1, e2, e3, e4, e5]
    rfl

theorem merge_frame_kernel : Cert.quiescent_Merge (hMerge := Cert.Merge.Gen.facts) := fun m g _ => Cert.Merge.Gen.frame m g

theorem merge_frame_ideal : Cert.quiescent_MergeIdeal (hMergeIdeal := Cert.MergeIdeal.Gen.facts) := fun m g _ => Cert.MergeIdeal.Gen.frame m g

theorem merge_frame_ref : Cert.quiescent_MergeRefIdeal (hMergeRefIdeal := Cert.MergeRefIdeal.Gen.facts) := by
  intro m g _
  exact (θ_run Cert.MergeRefIdeal.defs _ _).mono (fun r h => ⟨fun c => (h c).2, sem_eq_zero_of_no_sems (by decide) r.2⟩)
    (Cert.MergeRefIdeal.Value.run (F := Ideal) m g)

theorem merge_same : Cert.algebraic_MergeIdeal_MergeRefIdeal (hMergeIdeal := Cert.MergeIdeal.Gen.facts) (hMergeRefIdeal := Cert.MergeRefIdeal.Gen.facts) := by
  intro m g m' g' _ hagree
  refine ⟨Cert.MergeIdeal.Hand.want m, ?_, ?_⟩
  · exact (θ_run Cert.MergeIdeal.defs _ _).mono (fun r h c => ⟨(h c).1.trans (Cert.MergeIdeal.Hand.out_array m c), (h c).2⟩)
      (Cert.MergeIdeal.Value.run_blocks (F := Ideal) m g)
  · refine (θ_run Cert.MergeRefIdeal.defs _ _).mono (fun r h c => ⟨(h c).1.trans ?_, (h c).2⟩) (Cert.MergeRefIdeal.Value.run (F := Ideal) m' g')
    obtain ⟨e0, e1, e2, e3, e4, e5, e6⟩ := hagree c
    rw [Cert.MergeRefIdeal.Hand.res_eq, e0, e1, e2, e3, e4, e5, e6]
    rfl

theorem inproj_frame_kernel : Cert.quiescent_Inproj (hInproj := Cert.Inproj.Gen.facts) := fun m g _ => Cert.Inproj.Gen.frame m g

theorem inproj_frame_ideal : Cert.quiescent_InprojIdeal (hInprojIdeal := Cert.InprojIdeal.Gen.facts) := fun m g _ => Cert.InprojIdeal.Gen.frame m g

theorem inproj_frame_ref : Cert.quiescent_InprojRefIdeal (hInprojRefIdeal := Cert.InprojRefIdeal.Gen.facts) := by
  intro m g _
  exact (θ_run Cert.InprojRefIdeal.defs _ _).mono (fun r h => ⟨fun c => (h c).2.2.2.2.2.2, sem_eq_zero_of_no_sems (by decide) r.2⟩)
    (Cert.InprojRefIdeal.Value.run (F := Ideal) m g)

open Cert.InprojIdeal.Hand in
theorem inproj_same : Cert.algebraic_InprojIdeal_InprojRefIdeal (hInprojIdeal := Cert.InprojIdeal.Gen.facts) (hInprojRefIdeal := Cert.InprojRefIdeal.Gen.facts) := by
  intro m g m' g' _ hagree
  refine ⟨want6 m, want7 m, want8 m, want9 m, want10 m, want11 m, ?_, ?_⟩
  · exact (θ_run Cert.InprojIdeal.defs _ _).mono (fun r h c => ⟨(h c).1.trans (array6 m c), (h c).2.1.trans (array7 m c), (h c).2.2.1.trans (array8 m c), (h c).2.2.2.1.trans (array9 m c),
      (h c).2.2.2.2.1.trans (array10 m c), (h c).2.2.2.2.2.1.trans (array11 m c), (h c).2.2.2.2.2.2⟩)
      (Cert.InprojIdeal.Value.run_blocks (F := Ideal) m g)
  · refine (θ_run Cert.InprojRefIdeal.defs _ _).mono (fun r h c => ?_) (Cert.InprojRefIdeal.Value.run (F := Ideal) m' g')
    obtain ⟨r6, r7, r8, r9, r10, r11, kept⟩ := h c
    have hY : Cert.InprojRefIdeal.Hand.projected (m' ((c.tc : Thread Cert.InprojRefIdeal.nD Cert.InprojRefIdeal.τ).loc Cert.InprojRefIdeal.main_arg0))
        (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) = wantY m c := by
      obtain ⟨e0, e1, e2⟩ := hagree c
      rw [e0, e1, e2]
      rfl
    refine ⟨r6.trans ((Cert.InprojRefIdeal.Hand.res_pack m' c).trans (congrArg Cert.InprojRefIdeal.Hand.pack hY)), r7.trans (congrArg Cert.InprojRefIdeal.Hand.sbk hY), r8.trans (congrArg Cert.InprojRefIdeal.Hand.sbv hY),
      r9.trans ((Cert.InprojRefIdeal.Hand.res_rotated m' c).trans (congrArg (fun Y => Cert.InprojRefIdeal.Hand.rotated (Cert.InprojRefIdeal.Hand.dk Y) Cert.InprojRefIdeal.Hand.cosines Cert.InprojRefIdeal.Hand.sines) hY)),
      r10.trans (congrArg Cert.InprojRefIdeal.Hand.dv hY), r11.trans (congrArg Cert.InprojRefIdeal.Hand.flipped hY), kept⟩

theorem claim : Cert.Claim := ⟨Cert.DiffAttn.Gen.facts, Cert.DiffAttnIdeal.Gen.facts, Cert.DiffRefIdeal.Gen.facts, Cert.Ffn.Gen.facts, Cert.FfnIdeal.Gen.facts,
  Cert.FfnRefIdeal.Gen.facts, Cert.Merge.Gen.facts, Cert.MergeIdeal.Gen.facts, Cert.MergeRefIdeal.Gen.facts, Cert.Inproj.Gen.facts, Cert.InprojIdeal.Gen.facts, Cert.InprojRefIdeal.Gen.facts,
  Cert.Pre_finite.Hand.facts,
  frame_kernel, frame_ideal, fun m g _ => Cert.DiffAttnIdeal.Hand.frame m g, frame_ref, fun m g _ => frame_ref m g trivial,
  ffn_frame_kernel, ffn_frame_ideal, ffn_frame_ref, merge_frame_kernel, merge_frame_ideal, merge_frame_ref,
  inproj_frame_kernel, inproj_frame_ideal, inproj_frame_ref, preserved, same, trivial, ffn_same, trivial, merge_same, trivial, inproj_same⟩

end Cert.Proof

end
